-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gate [hPre_finite_gate : Cert.Pre_finite_gate.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gate [hPre_finite_gate : Cert.Pre_finite_gate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_gate [hKernelIdeal : Cert.KernelIdeal.Facts] [hPre_finite_gate : Cert.Pre_finite_gate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_gate [hReferenceIdeal : Cert.ReferenceIdeal.Facts] [hPre_finite_gate : Cert.Pre_finite_gate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5)
      ∧ r.2.mem ((c.tc : Thread Cert.Kernel23.nD Cert.Kernel23.τ).loc Cert.Kernel23.main_arg6) = m ((c.tc : Thread Cert.Kernel23.nD Cert.Kernel23.τ).loc Cert.Kernel23.main_arg6)
      ∧ r.2.mem ((c.tc : Thread Cert.Kernel23.nD Cert.Kernel23.τ).loc Cert.Kernel23.main_arg7) = m ((c.tc : Thread Cert.Kernel23.nD Cert.Kernel23.τ).loc Cert.Kernel23.main_arg7))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
      ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
      ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5)
      ∧ r.2.mem ((c.tc : Thread Cert.Reference23Ideal.nD Cert.Reference23Ideal.τ).loc Cert.Reference23Ideal.main_arg6) = m ((c.tc : Thread Cert.Reference23Ideal.nD Cert.Reference23Ideal.τ).loc Cert.Reference23Ideal.main_arg6)
      ∧ r.2.mem ((c.tc : Thread Cert.Reference23Ideal.nD Cert.Reference23Ideal.τ).loc Cert.Reference23Ideal.main_arg7) = m ((c.tc : Thread Cert.Reference23Ideal.nD Cert.Reference23Ideal.τ).loc Cert.Reference23Ideal.main_arg7))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0))
      ∧ r.2.sem = fun _ => 0)

def preserves_Kernel_KernelIdeal : Prop :=
  True

def algebraic_KernelIdeal_ReferenceIdeal_pre_finite_gate [hKernelIdeal : Cert.KernelIdeal.Facts] [hReferenceIdeal : Cert.ReferenceIdeal.Facts] [hPre_finite_gate : Cert.Pre_finite_gate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_1)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_1) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v48) = v0 c
          ∧ r.2.mem ((c.tc : Thread Cert.Reference4Ideal.nD Cert.Reference4Ideal.τ).loc Cert.Reference4Ideal.main_v49) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_v20) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_v26) = v1 c
          ∧ r.2.mem ((c.tc : Thread Cert.Reference7Ideal.nD Cert.Reference7Ideal.τ).loc Cert.Reference7Ideal.main_v7) = v2 c
          ∧ r.2.mem ((c.tc : Thread Cert.Reference7Ideal.nD Cert.Reference7Ideal.τ).loc Cert.Reference7Ideal.main_v13) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_v26) = v1 c
          ∧ r.2.mem ((c.tc : Thread Cert.Reference8Ideal.nD Cert.Reference8Ideal.τ).loc Cert.Reference8Ideal.main_v7) = v2 c
          ∧ r.2.mem ((c.tc : Thread Cert.Reference8Ideal.nD Cert.Reference8Ideal.τ).loc Cert.Reference8Ideal.main_v13) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_v26) = v1 c
          ∧ r.2.mem ((c.tc : Thread Cert.Reference9Ideal.nD Cert.Reference9Ideal.τ).loc Cert.Reference9Ideal.main_v7) = v2 c
          ∧ r.2.mem ((c.tc : Thread Cert.Reference9Ideal.nD Cert.Reference9Ideal.τ).loc Cert.Reference9Ideal.main_v13) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_v26) = v1 c
          ∧ r.2.mem ((c.tc : Thread Cert.Reference10Ideal.nD Cert.Reference10Ideal.τ).loc Cert.Reference10Ideal.main_v7) = v2 c
          ∧ r.2.mem ((c.tc : Thread Cert.Reference10Ideal.nD Cert.Reference10Ideal.τ).loc Cert.Reference10Ideal.main_v13) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_v26) = v1 c
          ∧ r.2.mem ((c.tc : Thread Cert.Reference11Ideal.nD Cert.Reference11Ideal.τ).loc Cert.Reference11Ideal.main_v7) = v2 c
          ∧ r.2.mem ((c.tc : Thread Cert.Reference11Ideal.nD Cert.Reference11Ideal.τ).loc Cert.Reference11Ideal.main_v13) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_v30) = v1 c
          ∧ r.2.mem ((c.tc : Thread Cert.Reference12Ideal.nD Cert.Reference12Ideal.τ).loc Cert.Reference12Ideal.main_v11) = v2 c
          ∧ r.2.mem ((c.tc : Thread Cert.Reference12Ideal.nD Cert.Reference12Ideal.τ).loc Cert.Reference12Ideal.main_v17) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_v30) = v1 c
          ∧ r.2.mem ((c.tc : Thread Cert.Reference13Ideal.nD Cert.Reference13Ideal.τ).loc Cert.Reference13Ideal.main_v11) = v2 c
          ∧ r.2.mem ((c.tc : Thread Cert.Reference13Ideal.nD Cert.Reference13Ideal.τ).loc Cert.Reference13Ideal.main_v17) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v0) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v51) = v0 c
          ∧ r.2.mem ((c.tc : Thread Cert.Reference17Ideal.nD Cert.Reference17Ideal.τ).loc Cert.Reference17Ideal.main_v52) = v1 c
          ∧ r.2.mem ((c.tc : Thread Cert.Reference17Ideal.nD Cert.Reference17Ideal.τ).loc Cert.Reference17Ideal.main_v53) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_v18) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v5) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v6) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v6) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)
      ∧ m' ((c.tc : Thread Cert.Reference23Ideal.nD Cert.Reference23Ideal.τ).loc Cert.Reference23Ideal.main_arg6) = m ((c.tc : Thread Cert.Kernel23Ideal.nD Cert.Kernel23Ideal.τ).loc Cert.Kernel23Ideal.main_arg6)
      ∧ m' ((c.tc : Thread Cert.Reference23Ideal.nD Cert.Reference23Ideal.τ).loc Cert.Reference23Ideal.main_arg7) = m ((c.tc : Thread Cert.Kernel23Ideal.nD Cert.Kernel23Ideal.τ).loc Cert.Kernel23Ideal.main_arg7)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
          ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
          ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v49) = v0 c
          ∧ r.2.mem ((c.tc : Thread Cert.Reference23Ideal.nD Cert.Reference23Ideal.τ).loc Cert.Reference23Ideal.main_v50) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5)
          ∧ r.2.mem ((c.tc : Thread Cert.Reference23Ideal.nD Cert.Reference23Ideal.τ).loc Cert.Reference23Ideal.main_arg6) = m' ((c.tc : Thread Cert.Reference23Ideal.nD Cert.Reference23Ideal.τ).loc Cert.Reference23Ideal.main_arg6)
          ∧ r.2.mem ((c.tc : Thread Cert.Reference23Ideal.nD Cert.Reference23Ideal.τ).loc Cert.Reference23Ideal.main_arg7) = m' ((c.tc : Thread Cert.Reference23Ideal.nD Cert.Reference23Ideal.τ).loc Cert.Reference23Ideal.main_arg7))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m ((c.tc : Thread Cert.Kernel24Ideal.nD Cert.Kernel24Ideal.τ).loc Cert.Kernel24Ideal.main_arg0) = Layout.block ⟨2, ![1, 128]⟩ ⟨2, ![8, 128]⟩ 0 8 c (m' (((0 : Dev Cert.Reference24Ideal.nD).tc : Thread Cert.Reference24Ideal.nD Cert.Reference24Ideal.τ).loc Cert.Reference24Ideal.main_arg0))) →
    ∃ (v0 : Buf (Elt Ideal) (((0 : Dev Cert.Reference24Ideal.nD).tc : Thread Cert.Reference24Ideal.nD Cert.Reference24Ideal.τ).loc Cert.Reference24Ideal.main_v2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v3) = v0
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0))
      ∧ θ_run (Cert.Reference24Ideal.defs (F := Ideal)) (onTc (τ := Cert.Reference24Ideal.τ) (Cert.Reference24Ideal.main (F := Ideal))) ⟨m', fun _ => 0, g'⟩ (fun r =>
          r.2.mem (((0 : Dev Cert.Reference24Ideal.nD).tc : Thread Cert.Reference24Ideal.nD Cert.Reference24Ideal.τ).loc Cert.Reference24Ideal.main_v2) = v0
          ∧ r.2.mem (((0 : Dev Cert.Reference24Ideal.nD).tc : Thread Cert.Reference24Ideal.nD Cert.Reference24Ideal.τ).loc Cert.Reference24Ideal.main_arg0) = m' (((0 : Dev Cert.Reference24Ideal.nD).tc : Thread Cert.Reference24Ideal.nD Cert.Reference24Ideal.τ).loc Cert.Reference24Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hPre_finite_gate : Cert.Pre_finite_gate.Facts),
    quiescent_Kernel (hKernel := hKernel)
    ∧ quiescent_KernelIdeal (hKernelIdeal := hKernelIdeal)
    ∧ quiescent_KernelIdeal_pre_finite_gate (hKernelIdeal := hKernelIdeal) (hPre_finite_gate := hPre_finite_gate)
    ∧ quiescent_ReferenceIdeal (hReferenceIdeal := hReferenceIdeal)
    ∧ quiescent_ReferenceIdeal_pre_finite_gate (hReferenceIdeal := hReferenceIdeal) (hPre_finite_gate := hPre_finite_gate)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ preserves_Kernel_KernelIdeal
    ∧ algebraic_KernelIdeal_ReferenceIdeal_pre_finite_gate (hKernelIdeal := hKernelIdeal) (hReferenceIdeal := hReferenceIdeal) (hPre_finite_gate := hPre_finite_gate)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
-- ==== Pre_finite_gate.lean ====
abbrev S8192x1024 : Shape := ⟨2, ![8192, 1024]⟩
abbrev S1024x5632 : Shape := ⟨2, ![1024, 5632]⟩
abbrev S2816x1024 : Shape := ⟨2, ![2816, 1024]⟩
abbrev S1024x2816 : Shape := ⟨2, ![1024, 2816]⟩
abbrev S8192x2816 : Shape := ⟨2, ![8192, 2816]⟩
abbrev S_ : Shape := ⟨0, ![]⟩

class Facts : Prop where
  bitsLt_bf16_f32 : FTy.bits .bf16 < FTy.bits .f32
  slices_S1024x5632_S1024x2816_0_2816 : S1024x5632.Slices ![0, 2816] S1024x2816
  bcast_S_S8192x1024 : S_.BroadcastsInDim S8192x1024 (![] : Fin 0 → Fin S8192x1024.rank)
  transposes_S2816x1024_S1024x2816_1_0 : S2816x1024.Transposes [1, 0] S1024x2816
  bcast_S_S8192x2816 : S_.BroadcastsInDim S8192x2816 (![] : Fin 0 → Fin S8192x2816.rank)
  dot_S8192x1024_S1024x2816_S8192x2816_1_0_0_1_n_n_wf : DotDims.WF S8192x1024 S1024x2816 S8192x2816 [1] [0] [0] [1] [] []

variable [Facts]

def dot_S8192x1024_S1024x2816_S8192x2816_1_0_0_1_n_n : DotDims S8192x1024 S1024x2816 S8192x2816 where
  lhsContracting := [1]
  rhsContracting := [0]
  lhsNonContracting := [0]
  rhsNonContracting := [1]
  lhsBatch := []
  rhsBatch := []
  wf := dot_S8192x1024_S1024x2816_S8192x2816_1_0_0_1_n_n_wf
def fn {F : FTy → Type} [FloatOps F] (main_arg0 : FVec F S8192x1024 .bf16) (main_arg1 : FVec F S1024x5632 .bf16) (main_arg2 : FVec F S2816x1024 .bf16) (main_arg3 : FVec F S8192x1024 .f32) : IVec S8192x2816 1 :=
  let main_v0 : FVec F S8192x1024 .f32 := (extf .f32 · bitsLt_bf16_f32) main_arg0
  let main_v1 : FVec F S1024x5632 .f32 := (extf .f32 · bitsLt_bf16_f32) main_arg1
  let main_v2 : FVec F S1024x2816 .f32 := (extractStridedSlice S1024x2816 ![0, 2816] · slices_S1024x5632_S1024x2816_0_2816) main_v1
  let main_v3 : FVec F S8192x2816 .f32 := (fun l r => Host.dotGeneral dot_S8192x1024_S1024x2816_S8192x2816_1_0_0_1_n_n none l r) main_v0 main_v2
  let main_cst : FVec F S_ .f32 := constant S_ .f32 0x3F000000#32
  let main_v4 : FVec F S8192x1024 .f32 := broadcastInDim S8192x1024 ![] bcast_S_S8192x1024 main_cst
  let main_v5 : FVec F S8192x1024 .f32 := mulf main_v4 main_arg3
  let main_v6 : FVec F S2816x1024 .f32 := (extf .f32 · bitsLt_bf16_f32) main_arg2
  let main_v7 : FVec F S1024x2816 .f32 := (transpose S1024x2816 [1, 0] · transposes_S2816x1024_S1024x2816_1_0) main_v6
  let main_v8 : FVec F S8192x2816 .f32 := (fun l r => Host.dotGeneral dot_S8192x1024_S1024x2816_S8192x2816_1_0_0_1_n_n none l r) main_v5 main_v7
  let main_v9 : FVec F S8192x2816 .f32 := mulf main_v8 main_v3
  let main_v10 : FVec F S8192x2816 .f32 := Host.absf main_v9
  let main_cst_0 : FVec F S_ .f32 := constant S_ .f32 0x7F800000#32
  let main_v11 : FVec F S8192x2816 .f32 := broadcastInDim S8192x2816 ![] bcast_S_S8192x2816 main_cst_0
  let main_v12 : IVec S8192x2816 1 := cmpf .olt main_v10 main_v11
  main_v12
-- ==== Kernel.lean ====
abbrev S8192x1024 : Shape := ⟨2, ![8192, 1024]⟩
abbrev S1024x5632 : Shape := ⟨2, ![1024, 5632]⟩
abbrev S2816x1024 : Shape := ⟨2, ![2816, 1024]⟩
abbrev S2x8192x2816 : Shape := ⟨3, ![2, 8192, 2816]⟩
abbrev S8192x2816 : Shape := ⟨2, ![8192, 2816]⟩
abbrev S512x1024 : Shape := ⟨2, ![512, 1024]⟩
abbrev S1024x1408 : Shape := ⟨2, ![1024, 1408]⟩
abbrev S2x512x1408 : Shape := ⟨3, ![2, 512, 1408]⟩
abbrev S512x1408 : Shape := ⟨2, ![512, 1408]⟩
abbrev S1x512x1408 : Shape := ⟨3, ![1, 512, 1408]⟩
abbrev S256x1024 : Shape := ⟨2, ![256, 1024]⟩
abbrev S2x256x2816 : Shape := ⟨3, ![2, 256, 2816]⟩
abbrev S256x2816 : Shape := ⟨2, ![256, 2816]⟩
abbrev S1x256x2816 : Shape := ⟨3, ![1, 256, 2816]⟩

abbrev nBuf : Space → Nat
  | .hbm => 7
  | .vmem => 18
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S2816x1024, .bf16⟩
  | .hbm, ⟨3, _⟩ => ⟨S8192x1024, .f32⟩
  | .hbm, ⟨4, _⟩ => ⟨S2x8192x2816, .bf16⟩
  | .hbm, ⟨5, _⟩ => ⟨S8192x2816, .bf16⟩
  | .hbm, ⟨6, _⟩ => ⟨S2x8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S2x512x1408, .bf16⟩
  | .local _ .vmem, ⟨7, _⟩ => ⟨S2x512x1408, .bf16⟩
  | .local _ .vmem, ⟨8, _⟩ => ⟨S512x1408, .bf16⟩
  | .local _ .vmem, ⟨9, _⟩ => ⟨S512x1408, .bf16⟩
  | .local _ .vmem, ⟨10, _⟩ => ⟨S256x1024, .f32⟩
  | .local _ .vmem, ⟨11, _⟩ => ⟨S256x1024, .f32⟩
  | .local _ .vmem, ⟨12, _⟩ => ⟨S2816x1024, .bf16⟩
  | .local _ .vmem, ⟨13, _⟩ => ⟨S2x256x2816, .bf16⟩
  | .local _ .vmem, ⟨14, _⟩ => ⟨S2x256x2816, .bf16⟩
  | .local _ .vmem, ⟨15, _⟩ => ⟨S2x256x2816, .bf16⟩
  | .local _ .vmem, ⟨16, _⟩ => ⟨S2x256x2816, .bf16⟩
  | .local _ .vmem, ⟨17, _⟩ => ⟨S256x2816, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![1, 32, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, false]

abbrev stage1_1 : Fin 1 → Memref sig .tc .vmem S2816x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, false]

abbrev stage1_2 : Fin 2 → Memref sig .tc .vmem S2x256x2816 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S2x256x2816 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]
-- ==== ReferenceIdeal.lean ====
abbrev S8192x1024 : Shape := ⟨2, ![8192, 1024]⟩
abbrev S1024x5632 : Shape := ⟨2, ![1024, 5632]⟩
abbrev S2816x1024 : Shape := ⟨2, ![2816, 1024]⟩
abbrev S8192x5632 : Shape := ⟨2, ![8192, 5632]⟩
abbrev S8192x2816 : Shape := ⟨2, ![8192, 2816]⟩
abbrev S_ : Shape := ⟨0, ![]⟩
abbrev S1x8192x2816 : Shape := ⟨3, ![1, 8192, 2816]⟩
abbrev S2x8192x2816 : Shape := ⟨3, ![2, 8192, 2816]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S2816x1024, .bf16⟩
  | .hbm, ⟨3, _⟩ => ⟨S8192x1024, .f32⟩
  | .hbm, ⟨4, _⟩ => ⟨S8192x1024, .f32⟩
  | .hbm, ⟨5, _⟩ => ⟨S1024x5632, .f32⟩
  | .hbm, ⟨6, _⟩ => ⟨S2816x1024, .f32⟩
  | .hbm, ⟨7, _⟩ => ⟨S8192x5632, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S_, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8192x2816, .f32⟩
  | .hbm, ⟨42, _⟩ => ⟨S8192x2816, .f32⟩
  | .hbm, ⟨43, _⟩ => ⟨S_, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .bf16⟩
  | .hbm, ⟨49, _⟩ => ⟨S1x8192x2816, .f32⟩
  | .hbm, ⟨50, _⟩ => ⟨S1x8192x2816, .f32⟩
  | .hbm, ⟨51, _⟩ => ⟨S2x8192x2816, .f32⟩
  | .hbm, ⟨52, _⟩ => ⟨S2x8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v6_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v6_1 : Ref sig .tc := ⟨.hbm, 21, rfl⟩
abbrev main_v6_0 : Ref sig .tc := ⟨.hbm, 22, rfl⟩
abbrev main_v7 : Ref sig .tc := ⟨.hbm, 23, rfl⟩
abbrev main_v8 : Ref sig .tc := ⟨.hbm, 24, rfl⟩
abbrev main_cst : Ref sig .tc := ⟨.hbm, 25, rfl⟩
abbrev main_v9 : Ref sig .tc := ⟨.hbm, 26, rfl⟩
abbrev main_v10 : Ref sig .tc := ⟨.hbm, 27, rfl⟩
abbrev main_cst_0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v16 : Ref sig .tc := ⟨.hbm, 37, rfl⟩
abbrev main_call2_v0 : Ref sig .tc := ⟨.hbm, 38, rfl⟩
abbrev main_call2_v1 : Ref sig .tc := ⟨.hbm, 39, rfl⟩
abbrev main_call2_cst : Ref sig .tc := ⟨.hbm, 40, rfl⟩
abbrev main_call2_v2 : Ref sig .tc := ⟨.hbm, 41, rfl⟩
abbrev main_call2_v3 : Ref sig .tc := ⟨.hbm, 42, rfl⟩
abbrev main_call2_cst_0 : Ref sig .tc := ⟨.hbm, 43, rfl⟩
abbrev main_call2_v4 : Ref sig .tc := ⟨.hbm, 44, rfl⟩
abbrev main_call2_v5 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩

abbrev nD : Nat := 1
abbrev τ : Topo := Topo.v7x

variable {F : FTy → Type} [FloatOps F]
-- ==== Kernel2.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 15
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S1024x2816, .f32⟩
  | .hbm, ⟨13, _⟩ => ⟨S2816x1024, .f32⟩
  | .hbm, ⟨14, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel3.lean ====
abbrev S8192x1024 : Shape := ⟨2, ![8192, 1024]⟩
abbrev S2x8192x2816 : Shape := ⟨3, ![2, 8192, 2816]⟩
abbrev S1024x5632 : Shape := ⟨2, ![1024, 5632]⟩
abbrev S2048x1024 : Shape := ⟨2, ![2048, 1024]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S1024x5632, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference3Ideal.lean ====
abbrev S8192x1024 : Shape := ⟨2, ![8192, 1024]⟩
abbrev S2x8192x2816 : Shape := ⟨3, ![2, 8192, 2816]⟩
abbrev S_ : Shape := ⟨0, ![]⟩
abbrev S1024x5632 : Shape := ⟨2, ![1024, 5632]⟩
abbrev S8192x5632 : Shape := ⟨2, ![8192, 5632]⟩
abbrev S8192x2816 : Shape := ⟨2, ![8192, 2816]⟩
abbrev S1x8192x2816 : Shape := ⟨3, ![1, 8192, 2816]⟩
abbrev S5632x1024 : Shape := ⟨2, ![5632, 1024]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S_, .f32⟩
  | .hbm, ⟨3, _⟩ => ⟨S1024x5632, .f32⟩
  | .hbm, ⟨4, _⟩ => ⟨S2x8192x2816, .f32⟩
  | .hbm, ⟨5, _⟩ => ⟨S8192x1024, .f32⟩
  | .hbm, ⟨6, _⟩ => ⟨S8192x5632, .f32⟩
  | .hbm, ⟨7, _⟩ => ⟨S8192x2816, .f32⟩
  | .hbm, ⟨8, _⟩ => ⟨S8192x2816, .f32⟩
  | .hbm, ⟨9, _⟩ => ⟨S1x8192x2816, .f32⟩
  | .hbm, ⟨10, _⟩ => ⟨S8192x2816, .f32⟩
  | .hbm, ⟨11, _⟩ => ⟨S1x8192x2816, .f32⟩
  | .hbm, ⟨12, _⟩ => ⟨S8192x2816, .f32⟩
  | .hbm, ⟨13, _⟩ => ⟨S8192x5632, .f32⟩
  | .hbm, ⟨14, _⟩ => ⟨S5632x1024, .f32⟩
  | .hbm, ⟨15, _⟩ => ⟨S1024x5632, .f32⟩
  | .hbm, ⟨16, _⟩ => ⟨S1024x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel4.lean ====
abbrev S2x8192x2816 : Shape := ⟨3, ![2, 8192, 2816]⟩
abbrev S1024x5632 : Shape := ⟨2, ![1024, 5632]⟩
abbrev S8192x1024 : Shape := ⟨2, ![8192, 1024]⟩
abbrev S1x1024 : Shape := ⟨2, ![1, 1024]⟩
abbrev S1x512x2816 : Shape := ⟨3, ![1, 512, 2816]⟩
abbrev S1024x2816 : Shape := ⟨2, ![1024, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024 : Shape := ⟨1, ![1024]⟩

abbrev nBuf : Space → Nat
  | .hbm => 7
  | .vmem => 15
  | .smem => 0
  | _ => 0

abbrev bufTy : (tb : Table) → Fin (tcTables nBuf tb) → BufTy
  | .hbm, ⟨0, _⟩ => ⟨S2x8192x2816, .bf16⟩
  | .hbm, ⟨1, _⟩ => ⟨S1024x5632, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S1x512x2816, .bf16⟩
  | .local _ .vmem, ⟨1, _⟩ => ⟨S1x512x2816, .bf16⟩
  | .local _ .vmem, ⟨2, _⟩ => ⟨S1024x2816, .bf16⟩
  | .local _ .vmem, ⟨3, _⟩ => ⟨S1x512x2816, .bf16⟩
  | .local _ .vmem, ⟨4, _⟩ => ⟨S1x512x2816, .bf16⟩
  | .local _ .vmem, ⟨5, _⟩ => ⟨S1024x2816, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | _, _ => ⟨S2x8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v39 : BitVec 1 := Scalar.cmpi .eq arg0 c0_i32
  let v40 : BitVec 32 := Scalar.extui v39
  let c0_i32_24 : BitVec 32 := 0#32
  let v41 : BitVec 1 := Scalar.cmpi .ne v40 c0_i32_24
  v41

def k0_cond2 (i : grid0.Coords) : BitVec 1 :=
  let arg0 : BitVec 32 := BitVec.ofNat 32 (i 0).val
  let c0_i32_25 : BitVec 32 := 0#32
  let v42 : BitVec 1 := Scalar.cmpi .sgt arg0 c0_i32_25
  let v43 : BitVec 32 := Scalar.extui v42
  let c0_i32_26 : BitVec 32 := 0#32
  let v44 : BitVec 1 := Scalar.cmpi .ne v43 c0_i32_26
  v44

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== Reference4Ideal.lean ====
abbrev S2x8192x2816 : Shape := ⟨3, ![2, 8192, 2816]⟩
abbrev S1024x5632 : Shape := ⟨2, ![1024, 5632]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S1x8192x2816 : Shape := ⟨3, ![1, 8192, 2816]⟩

abbrev nBuf : Space → Nat
  | .hbm => 64
  | .vmem => 0
  | .smem => 0
  | _ => 0

abbrev bufTy : (tb : Table) → Fin (tcTables nBuf tb) → BufTy
  | .hbm, ⟨0, _⟩ => ⟨S2x8192x2816, .bf16⟩
  | .hbm, ⟨1, _⟩ => ⟨S1024x5632, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x5632, .f32⟩
  | .hbm, ⟨6, _⟩ => ⟨S2x8192x2816, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x5632, .f32⟩
  | .hbm, ⟨29, _⟩ => ⟨S8192x2816, .f32⟩
  | .hbm, ⟨30, _⟩ => ⟨S8192x2816, .f32⟩
  | .hbm, ⟨31, _⟩ => ⟨S1x8192x2816, .f32⟩
  | .hbm, ⟨32, _⟩ => ⟨S8192x2816, .f32⟩
  | .hbm, ⟨33, _⟩ => ⟨S1x8192x2816, .f32⟩
  | .hbm, ⟨34, _⟩ => ⟨S8192x2816, .f32⟩
  | .hbm, ⟨35, _⟩ => ⟨S8192x5632, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S1x1024, .f32⟩
  | _, _ => ⟨S2x8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩

abbrev nD : Nat := 1
abbrev τ : Topo := Topo.v7x

variable {F : FTy → Type} [FloatOps F]
-- ==== Kernel5.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 11
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== Reference5Ideal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S1024 : Shape := ⟨1, ![1024]⟩
abbrev S8192 : Shape := ⟨1, ![8192]⟩
abbrev S8192x1 : Shape := ⟨2, ![8192, 1]⟩

abbrev nBuf : Space → Nat
  | .hbm => 29
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x2816, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel6.lean ====
abbrev S8192x1024 : Shape := ⟨2, ![8192, 1024]⟩
abbrev S1024x6144 : Shape := ⟨2, ![1024, 6144]⟩
abbrev S8192x6144 : Shape := ⟨2, ![8192, 6144]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x6144, .bf16⟩
  | .hbm, ⟨2, _⟩ => ⟨S8192x6144, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S1024x6144 : Shape := ⟨2, ![1024, 6144]⟩
abbrev S8192x6144 : Shape := ⟨2, ![8192, 6144]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x6144, .bf16⟩
  | .hbm, ⟨2, _⟩ => ⟨S8192x1024, .f32⟩
  | .hbm, ⟨3, _⟩ => ⟨S1024x6144, .f32⟩
  | .hbm, ⟨4, _⟩ => ⟨S8192x6144, .f32⟩
  | .hbm, ⟨5, _⟩ => ⟨S8192x6144, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel7.lean ====
abbrev S8x1024x768 : Shape := ⟨3, ![8, 1024, 768]⟩
abbrev S1x1024x768 : Shape := ⟨3, ![1, 1024, 768]⟩
abbrev S8x256x768 : Shape := ⟨3, ![8, 256, 768]⟩
abbrev S1x256x768 : Shape := ⟨3, ![1, 256, 768]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x768, .bf16⟩
  | .hbm, ⟨1, _⟩ => ⟨S1x1024x768, .f32⟩
  | .hbm, ⟨2, _⟩ => ⟨S1x1024x768, .f32⟩
  | .hbm, ⟨3, _⟩ => ⟨S1x1024x768, .f32⟩
  | .hbm, ⟨4, _⟩ => ⟨S1x1024x768, .f32⟩
  | .hbm, ⟨5, _⟩ => ⟨S1x1024x768, .f32⟩
  | .hbm, ⟨6, _⟩ => ⟨S1x1024x768, .f32⟩
  | .hbm, ⟨7, _⟩ => ⟨S1x1024x768, .f32⟩
  | .local _ .vmem, ⟨0, _⟩ => ⟨S8x256x768, .bf16⟩
  | .local _ .vmem, ⟨1, _⟩ => ⟨S8x256x768, .bf16⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | _, _ => ⟨S8x1024x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c3_i32 : BitVec 32 := 3#32
  let v2 : BitVec 32 := Scalar.select v1 c0_i32_1 c3_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel7Ideal.lean ====
abbrev S8x1024x768 : Shape := ⟨3, ![8, 1024, 768]⟩
abbrev S1x1024x768 : Shape := ⟨3, ![1, 1024, 768]⟩
abbrev S8x256x768 : Shape := ⟨3, ![8, 256, 768]⟩
abbrev S1x256x768 : Shape := ⟨3, ![1, 256, 768]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x768, .bf16⟩
  | .hbm, ⟨1, _⟩ => ⟨S1x1024x768, .f32⟩
  | .hbm, ⟨2, _⟩ => ⟨S1x1024x768, .f32⟩
  | .hbm, ⟨3, _⟩ => ⟨S1x1024x768, .f32⟩
  | .hbm, ⟨4, _⟩ => ⟨S1x1024x768, .f32⟩
  | .hbm, ⟨5, _⟩ => ⟨S1x1024x768, .f32⟩
  | .hbm, ⟨6, _⟩ => ⟨S1x1024x768, .f32⟩
  | .hbm, ⟨7, _⟩ => ⟨S1x1024x768, .f32⟩
  | .local _ .vmem, ⟨0, _⟩ => ⟨S8x256x768, .bf16⟩
  | .local _ .vmem, ⟨1, _⟩ => ⟨S8x256x768, .bf16⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | _, _ => ⟨S8x1024x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c3_i32 : BitVec 32 := 3#32
  let v2 : BitVec 32 := Scalar.select v1 c0_i32_1 c3_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference7Ideal.lean ====
abbrev S8x1024x768 : Shape := ⟨3, ![8, 1024, 768]⟩
abbrev S1x1024x768 : Shape := ⟨3, ![1, 1024, 768]⟩
abbrev S_ : Shape := ⟨0, ![]⟩
abbrev S1024x768 : Shape := ⟨2, ![1024, 768]⟩

abbrev nBuf : Space → Nat
  | .hbm => 41
  | .vmem => 0
  | .smem => 0
  | _ => 0

abbrev bufTy : (tb : Table) → Fin (tcTables nBuf tb) → BufTy
  | .hbm, ⟨0, _⟩ => ⟨S8x1024x768, .bf16⟩
  | .hbm, ⟨1, _⟩ => ⟨S1x1024x768, .f32⟩
  | .hbm, ⟨2, _⟩ => ⟨S1x1024x768, .f32⟩
  | .hbm, ⟨3, _⟩ => ⟨S1x1024x768, .f32⟩
  | .hbm, ⟨4, _⟩ => ⟨S8x1024x768, .f32⟩
  | .hbm, ⟨5, _⟩ => ⟨S_, .f32⟩
  | .hbm, ⟨6, _⟩ => ⟨S1024x768, .f32⟩
  | .hbm, ⟨7, _⟩ => ⟨S1x1024x768, .f32⟩
  | .hbm, ⟨8, _⟩ => ⟨S_, .f32⟩
  | .hbm, ⟨9, _⟩ => ⟨S1x1024x768, .f32⟩
  | .hbm, ⟨10, _⟩ => ⟨S1x1024x768, .f32⟩
  | .hbm, ⟨11, _⟩ => ⟨S_, .f32⟩
  | .hbm, ⟨12, _⟩ => ⟨S1x1024x768, .f32⟩
  | .hbm, ⟨13, _⟩ => ⟨S1x1024x768, .f32⟩
  | .hbm, ⟨14, _⟩ => ⟨S1x1024x768, .f32⟩
  | .hbm, ⟨15, _⟩ => ⟨S_, .f32⟩
  | .hbm, ⟨16, _⟩ => ⟨S1x1024x768, .f32⟩
  | .hbm, ⟨17, _⟩ => ⟨S1x1024x768, .f32⟩
  | .hbm, ⟨18, _⟩ => ⟨S1x1024x768, .f32⟩
  | .hbm, ⟨19, _⟩ => ⟨S_, .f32⟩
  | .hbm, ⟨20, _⟩ => ⟨S1x1024x768, .f32⟩
  | .hbm, ⟨21, _⟩ => ⟨S1x1024x768, .f32⟩
  | .hbm, ⟨22, _⟩ => ⟨S1x1024x768, .f32⟩
  | .hbm, ⟨23, _⟩ => ⟨S_, .f32⟩
  | .hbm, ⟨24, _⟩ => ⟨S1x1024x768, .f32⟩
  | .hbm, ⟨25, _⟩ => ⟨S1x1024x768, .f32⟩
  | .hbm, ⟨26, _⟩ => ⟨S_, .f32⟩
  | .hbm, ⟨27, _⟩ => ⟨S1x1024x768, .f32⟩
  | .hbm, ⟨28, _⟩ => ⟨S1x1024x768, .f32⟩
  | .hbm, ⟨29, _⟩ => ⟨S1x1024x768, .f32⟩
  | .hbm, ⟨30, _⟩ => ⟨S_, .f32⟩
  | .hbm, ⟨31, _⟩ => ⟨S1x1024x768, .f32⟩
  | .hbm, ⟨32, _⟩ => ⟨S1x1024x768, .f32⟩
  | .hbm, ⟨33, _⟩ => ⟨S1x1024x768, .f32⟩
  | .hbm, ⟨34, _⟩ => ⟨S_, .f32⟩
  | .hbm, ⟨35, _⟩ => ⟨S1x1024x768, .f32⟩
  | .hbm, ⟨36, _⟩ => ⟨S1x1024x768, .f32⟩
  | .hbm, ⟨37, _⟩ => ⟨S1x1024x768, .f32⟩
  | .hbm, ⟨38, _⟩ => ⟨S_, .f32⟩
  | .hbm, ⟨39, _⟩ => ⟨S1x1024x768, .f32⟩
  | .hbm, ⟨40, _⟩ => ⟨S1x1024x768, .f32⟩
  | _, _ => ⟨S8x1024x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel8.lean ====
abbrev S8x256x1024 : Shape := ⟨3, ![8, 256, 1024]⟩
abbrev S1x256x1024 : Shape := ⟨3, ![1, 256, 1024]⟩
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x256x1024, .bf16⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .local _ .vmem, ⟨0, _⟩ => ⟨S8x256x1024, .bf16⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Kernel8Ideal.lean ====
abbrev S8x256x1024 : Shape := ⟨3, ![8, 256, 1024]⟩
abbrev S1x256x1024 : Shape := ⟨3, ![1, 256, 1024]⟩
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x256x1024, .bf16⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .local _ .vmem, ⟨0, _⟩ => ⟨S8x256x1024, .bf16⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference8Ideal.lean ====
abbrev S8x256x1024 : Shape := ⟨3, ![8, 256, 1024]⟩
abbrev S1x256x1024 : Shape := ⟨3, ![1, 256, 1024]⟩
abbrev S_ : Shape := ⟨0, ![]⟩
abbrev S256x1024 : Shape := ⟨2, ![256, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S1x256x1024, .f32⟩
  | .hbm, ⟨8, _⟩ => ⟨S_, .f32⟩
  | .hbm, ⟨9, _⟩ => ⟨S1x256x1024, .f32⟩
  | .hbm, ⟨10, _⟩ => ⟨S1x256x1024, .f32⟩
  | .hbm, ⟨11, _⟩ => ⟨S_, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S_, .f32⟩
  | .hbm, ⟨16, _⟩ => ⟨S1x256x1024, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S1x256x1024, .f32⟩
  | .hbm, ⟨23, _⟩ => ⟨S_, .f32⟩
  | .hbm, ⟨24, _⟩ => ⟨S1x256x1024, .f32⟩
  | .hbm, ⟨25, _⟩ => ⟨S1x256x1024, .f32⟩
  | .hbm, ⟨26, _⟩ => ⟨S_, .f32⟩
  | .hbm, ⟨27, _⟩ => ⟨S1x256x1024, .f32⟩
  | .hbm, ⟨28, _⟩ => ⟨S1x256x1024, .f32⟩
  | .hbm, ⟨29, _⟩ => ⟨S1x256x1024, .f32⟩
  | .hbm, ⟨30, _⟩ => ⟨S_, .f32⟩
  | .hbm, ⟨31, _⟩ => ⟨S1x256x1024, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | .hbm, ⟨37, _⟩ => ⟨S1x256x1024, .f32⟩
  | .hbm, ⟨38, _⟩ => ⟨S_, .f32⟩
  | .hbm, ⟨39, _⟩ => ⟨S1x256x1024, .f32⟩
  | .hbm, ⟨40, _⟩ => ⟨S1x256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel9.lean ====
abbrev S8x1024x260 : Shape := ⟨3, ![8, 1024, 260]⟩
abbrev S1x1024x260 : Shape := ⟨3, ![1, 1024, 260]⟩
abbrev S8x256x260 : Shape := ⟨3, ![8, 256, 260]⟩
abbrev S1x256x260 : Shape := ⟨3, ![1, 256, 260]⟩
abbrev S256x260 : Shape := ⟨2, ![256, 260]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x260, .bf16⟩
  | .hbm, ⟨1, _⟩ => ⟨S1x1024x260, .f32⟩
  | .hbm, ⟨2, _⟩ => ⟨S1x1024x260, .f32⟩
  | .hbm, ⟨3, _⟩ => ⟨S1x1024x260, .f32⟩
  | .hbm, ⟨4, _⟩ => ⟨S1x1024x260, .f32⟩
  | .hbm, ⟨5, _⟩ => ⟨S1x1024x260, .f32⟩
  | .hbm, ⟨6, _⟩ => ⟨S1x1024x260, .f32⟩
  | .hbm, ⟨7, _⟩ => ⟨S1x1024x260, .f32⟩
  | .local _ .vmem, ⟨0, _⟩ => ⟨S8x256x260, .bf16⟩
  | .local _ .vmem, ⟨1, _⟩ => ⟨S8x256x260, .bf16⟩
  | .local _ .vmem, ⟨2, _⟩ => ⟨S1x256x260, .f32⟩
  | .local _ .vmem, ⟨3, _⟩ => ⟨S1x256x260, .f32⟩
  | .local _ .vmem, ⟨4, _⟩ => ⟨S1x256x260, .f32⟩
  | .local _ .vmem, ⟨5, _⟩ => ⟨S1x256x260, .f32⟩
  | .local _ .vmem, ⟨6, _⟩ => ⟨S1x256x260, .f32⟩
  | .local _ .vmem, ⟨7, _⟩ => ⟨S1x256x260, .f32⟩
  | .local _ .vmem, ⟨8, _⟩ => ⟨S1x256x260, .f32⟩
  | .local _ .vmem, ⟨9, _⟩ => ⟨S1x256x260, .f32⟩
  | .local _ .vmem, ⟨10, _⟩ => ⟨S1x256x260, .f32⟩
  | .local _ .vmem, ⟨11, _⟩ => ⟨S1x256x260, .f32⟩
  | .local _ .vmem, ⟨12, _⟩ => ⟨S1x256x260, .f32⟩
  | .local _ .vmem, ⟨13, _⟩ => ⟨S1x256x260, .f32⟩
  | .local _ .vmem, ⟨14, _⟩ => ⟨S1x256x260, .f32⟩
  | .local _ .vmem, ⟨15, _⟩ => ⟨S1x256x260, .f32⟩
  | _, _ => ⟨S8x1024x260, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c3_i32 : BitVec 32 := 3#32
  let v2 : BitVec 32 := Scalar.select v1 c0_i32_1 c3_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x260 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x260 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x260 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x260 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x260 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x260 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x260 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x260 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel9Ideal.lean ====
abbrev S8x1024x260 : Shape := ⟨3, ![8, 1024, 260]⟩
abbrev S1x1024x260 : Shape := ⟨3, ![1, 1024, 260]⟩
abbrev S8x256x260 : Shape := ⟨3, ![8, 256, 260]⟩
abbrev S1x256x260 : Shape := ⟨3, ![1, 256, 260]⟩
abbrev S256x260 : Shape := ⟨2, ![256, 260]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x260, .bf16⟩
  | .hbm, ⟨1, _⟩ => ⟨S1x1024x260, .f32⟩
  | .hbm, ⟨2, _⟩ => ⟨S1x1024x260, .f32⟩
  | .hbm, ⟨3, _⟩ => ⟨S1x1024x260, .f32⟩
  | .hbm, ⟨4, _⟩ => ⟨S1x1024x260, .f32⟩
  | .hbm, ⟨5, _⟩ => ⟨S1x1024x260, .f32⟩
  | .hbm, ⟨6, _⟩ => ⟨S1x1024x260, .f32⟩
  | .hbm, ⟨7, _⟩ => ⟨S1x1024x260, .f32⟩
  | .local _ .vmem, ⟨0, _⟩ => ⟨S8x256x260, .bf16⟩
  | .local _ .vmem, ⟨1, _⟩ => ⟨S8x256x260, .bf16⟩
  | .local _ .vmem, ⟨2, _⟩ => ⟨S1x256x260, .f32⟩
  | .local _ .vmem, ⟨3, _⟩ => ⟨S1x256x260, .f32⟩
  | .local _ .vmem, ⟨4, _⟩ => ⟨S1x256x260, .f32⟩
  | .local _ .vmem, ⟨5, _⟩ => ⟨S1x256x260, .f32⟩
  | .local _ .vmem, ⟨6, _⟩ => ⟨S1x256x260, .f32⟩
  | .local _ .vmem, ⟨7, _⟩ => ⟨S1x256x260, .f32⟩
  | .local _ .vmem, ⟨8, _⟩ => ⟨S1x256x260, .f32⟩
  | .local _ .vmem, ⟨9, _⟩ => ⟨S1x256x260, .f32⟩
  | .local _ .vmem, ⟨10, _⟩ => ⟨S1x256x260, .f32⟩
  | .local _ .vmem, ⟨11, _⟩ => ⟨S1x256x260, .f32⟩
  | .local _ .vmem, ⟨12, _⟩ => ⟨S1x256x260, .f32⟩
  | .local _ .vmem, ⟨13, _⟩ => ⟨S1x256x260, .f32⟩
  | .local _ .vmem, ⟨14, _⟩ => ⟨S1x256x260, .f32⟩
  | .local _ .vmem, ⟨15, _⟩ => ⟨S1x256x260, .f32⟩
  | _, _ => ⟨S8x1024x260, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c3_i32 : BitVec 32 := 3#32
  let v2 : BitVec 32 := Scalar.select v1 c0_i32_1 c3_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x260 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x260 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x260 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x260 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x260 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x260 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x260 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x260 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference9Ideal.lean ====
abbrev S8x1024x260 : Shape := ⟨3, ![8, 1024, 260]⟩
abbrev S1x1024x260 : Shape := ⟨3, ![1, 1024, 260]⟩
abbrev S_ : Shape := ⟨0, ![]⟩
abbrev S1024x260 : Shape := ⟨2, ![1024, 260]⟩

abbrev nBuf : Space → Nat
  | .hbm => 41
  | .vmem => 0
  | .smem => 0
  | _ => 0

abbrev bufTy : (tb : Table) → Fin (tcTables nBuf tb) → BufTy
  | .hbm, ⟨0, _⟩ => ⟨S8x1024x260, .bf16⟩
  | .hbm, ⟨1, _⟩ => ⟨S1x1024x260, .f32⟩
  | .hbm, ⟨2, _⟩ => ⟨S1x1024x260, .f32⟩
  | .hbm, ⟨3, _⟩ => ⟨S1x1024x260, .f32⟩
  | .hbm, ⟨4, _⟩ => ⟨S8x1024x260, .f32⟩
  | .hbm, ⟨5, _⟩ => ⟨S_, .f32⟩
  | .hbm, ⟨6, _⟩ => ⟨S1024x260, .f32⟩
  | .hbm, ⟨7, _⟩ => ⟨S1x1024x260, .f32⟩
  | .hbm, ⟨8, _⟩ => ⟨S_, .f32⟩
  | .hbm, ⟨9, _⟩ => ⟨S1x1024x260, .f32⟩
  | .hbm, ⟨10, _⟩ => ⟨S1x1024x260, .f32⟩
  | .hbm, ⟨11, _⟩ => ⟨S_, .f32⟩
  | .hbm, ⟨12, _⟩ => ⟨S1x1024x260, .f32⟩
  | .hbm, ⟨13, _⟩ => ⟨S1x1024x260, .f32⟩
  | .hbm, ⟨14, _⟩ => ⟨S1x1024x260, .f32⟩
  | .hbm, ⟨15, _⟩ => ⟨S_, .f32⟩
  | .hbm, ⟨16, _⟩ => ⟨S1x1024x260, .f32⟩
  | .hbm, ⟨17, _⟩ => ⟨S1x1024x260, .f32⟩
  | .hbm, ⟨18, _⟩ => ⟨S1x1024x260, .f32⟩
  | .hbm, ⟨19, _⟩ => ⟨S_, .f32⟩
  | .hbm, ⟨20, _⟩ => ⟨S1x1024x260, .f32⟩
  | .hbm, ⟨21, _⟩ => ⟨S1x1024x260, .f32⟩
  | .hbm, ⟨22, _⟩ => ⟨S1x1024x260, .f32⟩
  | .hbm, ⟨23, _⟩ => ⟨S_, .f32⟩
  | .hbm, ⟨24, _⟩ => ⟨S1x1024x260, .f32⟩
  | .hbm, ⟨25, _⟩ => ⟨S1x1024x260, .f32⟩
  | .hbm, ⟨26, _⟩ => ⟨S_, .f32⟩
  | .hbm, ⟨27, _⟩ => ⟨S1x1024x260, .f32⟩
  | .hbm, ⟨28, _⟩ => ⟨S1x1024x260, .f32⟩
  | .hbm, ⟨29, _⟩ => ⟨S1x1024x260, .f32⟩
  | .hbm, ⟨30, _⟩ => ⟨S_, .f32⟩
  | .hbm, ⟨31, _⟩ => ⟨S1x1024x260, .f32⟩
  | .hbm, ⟨32, _⟩ => ⟨S1x1024x260, .f32⟩
  | .hbm, ⟨33, _⟩ => ⟨S1x1024x260, .f32⟩
  | .hbm, ⟨34, _⟩ => ⟨S_, .f32⟩
  | .hbm, ⟨35, _⟩ => ⟨S1x1024x260, .f32⟩
  | .hbm, ⟨36, _⟩ => ⟨S1x1024x260, .f32⟩
  | .hbm, ⟨37, _⟩ => ⟨S1x1024x260, .f32⟩
  | .hbm, ⟨38, _⟩ => ⟨S_, .f32⟩
  | .hbm, ⟨39, _⟩ => ⟨S1x1024x260, .f32⟩
  | .hbm, ⟨40, _⟩ => ⟨S1x1024x260, .f32⟩
  | _, _ => ⟨S8x1024x260, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel10.lean ====
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Kernel10Ideal.lean ====
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference10Ideal.lean ====
abbrev S8x128x1024 : Shape := ⟨3, ![8, 128, 1024]⟩
abbrev S1x128x1024 : Shape := ⟨3, ![1, 128, 1024]⟩
abbrev S_ : Shape := ⟨0, ![]⟩
abbrev S128x1024 : Shape := ⟨2, ![128, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S1x128x1024, .f32⟩
  | .hbm, ⟨8, _⟩ => ⟨S_, .f32⟩
  | .hbm, ⟨9, _⟩ => ⟨S1x128x1024, .f32⟩
  | .hbm, ⟨10, _⟩ => ⟨S1x128x1024, .f32⟩
  | .hbm, ⟨11, _⟩ => ⟨S_, .f32⟩
  | .hbm, ⟨12, _⟩ => ⟨S1x128x1024, .f32⟩
  | .hbm, ⟨13, _⟩ => ⟨S1x128x1024, .f32⟩
  | .hbm, ⟨14, _⟩ => ⟨S1x128x1024, .f32⟩
  | .hbm, ⟨15, _⟩ => ⟨S_, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S_, .f32⟩
  | .hbm, ⟨20, _⟩ => ⟨S1x128x1024, .f32⟩
  | .hbm, ⟨21, _⟩ => ⟨S1x128x1024, .f32⟩
  | .hbm, ⟨22, _⟩ => ⟨S1x128x1024, .f32⟩
  | .hbm, ⟨23, _⟩ => ⟨S_, .f32⟩
  | .hbm, ⟨24, _⟩ => ⟨S1x128x1024, .f32⟩
  | .hbm, ⟨25, _⟩ => ⟨S1x128x1024, .f32⟩
  | .hbm, ⟨26, _⟩ => ⟨S_, .f32⟩
  | .hbm, ⟨27, _⟩ => ⟨S1x128x1024, .f32⟩
  | .hbm, ⟨28, _⟩ => ⟨S1x128x1024, .f32⟩
  | .hbm, ⟨29, _⟩ => ⟨S1x128x1024, .f32⟩
  | .hbm, ⟨30, _⟩ => ⟨S_, .f32⟩
  | .hbm, ⟨31, _⟩ => ⟨S1x128x1024, .f32⟩
  | .hbm, ⟨32, _⟩ => ⟨S1x128x1024, .f32⟩
  | .hbm, ⟨33, _⟩ => ⟨S1x128x1024, .f32⟩
  | .hbm, ⟨34, _⟩ => ⟨S_, .f32⟩
  | .hbm, ⟨35, _⟩ => ⟨S1x128x1024, .f32⟩
  | .hbm, ⟨36, _⟩ => ⟨S1x128x1024, .f32⟩
  | .hbm, ⟨37, _⟩ => ⟨S1x128x1024, .f32⟩
  | .hbm, ⟨38, _⟩ => ⟨S_, .f32⟩
  | .hbm, ⟨39, _⟩ => ⟨S1x128x1024, .f32⟩
  | .hbm, ⟨40, _⟩ => ⟨S1x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel11.lean ====
abbrev S8x64x512 : Shape := ⟨3, ![8, 64, 512]⟩
abbrev S1x64x512 : Shape := ⟨3, ![1, 64, 512]⟩
abbrev S64x512 : Shape := ⟨2, ![64, 512]⟩

abbrev nBuf : Space → Nat
  | .hbm => 8
  | .vmem => 8
  | .smem => 0
  | _ => 0

abbrev bufTy : (tb : Table) → Fin (tcTables nBuf tb) → BufTy
  | .hbm, ⟨0, _⟩ => ⟨S8x64x512, .bf16⟩
  | .hbm, ⟨1, _⟩ => ⟨S1x64x512, .f32⟩
  | .hbm, ⟨2, _⟩ => ⟨S1x64x512, .f32⟩
  | .hbm, ⟨3, _⟩ => ⟨S1x64x512, .f32⟩
  | .hbm, ⟨4, _⟩ => ⟨S1x64x512, .f32⟩
  | .hbm, ⟨5, _⟩ => ⟨S1x64x512, .f32⟩
  | .hbm, ⟨6, _⟩ => ⟨S1x64x512, .f32⟩
  | .hbm, ⟨7, _⟩ => ⟨S1x64x512, .f32⟩
  | .local _ .vmem, ⟨0, _⟩ => ⟨S8x64x512, .bf16⟩
  | .local _ .vmem, ⟨1, _⟩ => ⟨S1x64x512, .f32⟩
  | .local _ .vmem, ⟨2, _⟩ => ⟨S1x64x512, .f32⟩
  | .local _ .vmem, ⟨3, _⟩ => ⟨S1x64x512, .f32⟩
  | .local _ .vmem, ⟨4, _⟩ => ⟨S1x64x512, .f32⟩
  | .local _ .vmem, ⟨5, _⟩ => ⟨S1x64x512, .f32⟩
  | .local _ .vmem, ⟨6, _⟩ => ⟨S1x64x512, .f32⟩
  | .local _ .vmem, ⟨7, _⟩ => ⟨S1x64x512, .f32⟩
  | _, _ => ⟨S8x64x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x64x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x64x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Kernel11Ideal.lean ====
abbrev S8x64x512 : Shape := ⟨3, ![8, 64, 512]⟩
abbrev S1x64x512 : Shape := ⟨3, ![1, 64, 512]⟩
abbrev S64x512 : Shape := ⟨2, ![64, 512]⟩

abbrev nBuf : Space → Nat
  | .hbm => 8
  | .vmem => 8
  | .smem => 0
  | _ => 0

abbrev bufTy : (tb : Table) → Fin (tcTables nBuf tb) → BufTy
  | .hbm, ⟨0, _⟩ => ⟨S8x64x512, .bf16⟩
  | .hbm, ⟨1, _⟩ => ⟨S1x64x512, .f32⟩
  | .hbm, ⟨2, _⟩ => ⟨S1x64x512, .f32⟩
  | .hbm, ⟨3, _⟩ => ⟨S1x64x512, .f32⟩
  | .hbm, ⟨4, _⟩ => ⟨S1x64x512, .f32⟩
  | .hbm, ⟨5, _⟩ => ⟨S1x64x512, .f32⟩
  | .hbm, ⟨6, _⟩ => ⟨S1x64x512, .f32⟩
  | .hbm, ⟨7, _⟩ => ⟨S1x64x512, .f32⟩
  | .local _ .vmem, ⟨0, _⟩ => ⟨S8x64x512, .bf16⟩
  | .local _ .vmem, ⟨1, _⟩ => ⟨S1x64x512, .f32⟩
  | .local _ .vmem, ⟨2, _⟩ => ⟨S1x64x512, .f32⟩
  | .local _ .vmem, ⟨3, _⟩ => ⟨S1x64x512, .f32⟩
  | .local _ .vmem, ⟨4, _⟩ => ⟨S1x64x512, .f32⟩
  | .local _ .vmem, ⟨5, _⟩ => ⟨S1x64x512, .f32⟩
  | .local _ .vmem, ⟨6, _⟩ => ⟨S1x64x512, .f32⟩
  | .local _ .vmem, ⟨7, _⟩ => ⟨S1x64x512, .f32⟩
  | _, _ => ⟨S8x64x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x64x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x64x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference11Ideal.lean ====
abbrev S8x64x512 : Shape := ⟨3, ![8, 64, 512]⟩
abbrev S1x64x512 : Shape := ⟨3, ![1, 64, 512]⟩
abbrev S_ : Shape := ⟨0, ![]⟩
abbrev S64x512 : Shape := ⟨2, ![64, 512]⟩

abbrev nBuf : Space → Nat
  | .hbm => 41
  | .vmem => 0
  | .smem => 0
  | _ => 0

abbrev bufTy : (tb : Table) → Fin (tcTables nBuf tb) → BufTy
  | .hbm, ⟨0, _⟩ => ⟨S8x64x512, .bf16⟩
  | .hbm, ⟨1, _⟩ => ⟨S1x64x512, .f32⟩
  | .hbm, ⟨2, _⟩ => ⟨S1x64x512, .f32⟩
  | .hbm, ⟨3, _⟩ => ⟨S1x64x512, .f32⟩
  | .hbm, ⟨4, _⟩ => ⟨S8x64x512, .f32⟩
  | .hbm, ⟨5, _⟩ => ⟨S_, .f32⟩
  | .hbm, ⟨6, _⟩ => ⟨S64x512, .f32⟩
  | .hbm, ⟨7, _⟩ => ⟨S1x64x512, .f32⟩
  | .hbm, ⟨8, _⟩ => ⟨S_, .f32⟩
  | .hbm, ⟨9, _⟩ => ⟨S1x64x512, .f32⟩
  | .hbm, ⟨10, _⟩ => ⟨S1x64x512, .f32⟩
  | .hbm, ⟨11, _⟩ => ⟨S_, .f32⟩
  | .hbm, ⟨12, _⟩ => ⟨S1x64x512, .f32⟩
  | .hbm, ⟨13, _⟩ => ⟨S1x64x512, .f32⟩
  | .hbm, ⟨14, _⟩ => ⟨S1x64x512, .f32⟩
  | .hbm, ⟨15, _⟩ => ⟨S_, .f32⟩
  | .hbm, ⟨16, _⟩ => ⟨S1x64x512, .f32⟩
  | .hbm, ⟨17, _⟩ => ⟨S1x64x512, .f32⟩
  | .hbm, ⟨18, _⟩ => ⟨S1x64x512, .f32⟩
  | .hbm, ⟨19, _⟩ => ⟨S_, .f32⟩
  | .hbm, ⟨20, _⟩ => ⟨S1x64x512, .f32⟩
  | .hbm, ⟨21, _⟩ => ⟨S1x64x512, .f32⟩
  | .hbm, ⟨22, _⟩ => ⟨S1x64x512, .f32⟩
  | .hbm, ⟨23, _⟩ => ⟨S_, .f32⟩
  | .hbm, ⟨24, _⟩ => ⟨S1x64x512, .f32⟩
  | .hbm, ⟨25, _⟩ => ⟨S1x64x512, .f32⟩
  | .hbm, ⟨26, _⟩ => ⟨S_, .f32⟩
  | .hbm, ⟨27, _⟩ => ⟨S1x64x512, .f32⟩
  | .hbm, ⟨28, _⟩ => ⟨S1x64x512, .f32⟩
  | .hbm, ⟨29, _⟩ => ⟨S1x64x512, .f32⟩
  | .hbm, ⟨30, _⟩ => ⟨S_, .f32⟩
  | .hbm, ⟨31, _⟩ => ⟨S1x64x512, .f32⟩
  | .hbm, ⟨32, _⟩ => ⟨S1x64x512, .f32⟩
  | .hbm, ⟨33, _⟩ => ⟨S1x64x512, .f32⟩
  | .hbm, ⟨34, _⟩ => ⟨S_, .f32⟩
  | .hbm, ⟨35, _⟩ => ⟨S1x64x512, .f32⟩
  | .hbm, ⟨36, _⟩ => ⟨S1x64x512, .f32⟩
  | .hbm, ⟨37, _⟩ => ⟨S1x64x512, .f32⟩
  | .hbm, ⟨38, _⟩ => ⟨S_, .f32⟩
  | .hbm, ⟨39, _⟩ => ⟨S1x64x512, .f32⟩
  | .hbm, ⟨40, _⟩ => ⟨S1x64x512, .f32⟩
  | _, _ => ⟨S8x64x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel12.lean ====
abbrev S8x1024x704 : Shape := ⟨3, ![8, 1024, 704]⟩
abbrev S2x1024x704 : Shape := ⟨3, ![2, 1024, 704]⟩
abbrev S8x256x704 : Shape := ⟨3, ![8, 256, 704]⟩
abbrev S1x256x704 : Shape := ⟨3, ![1, 256, 704]⟩
abbrev S256x704 : Shape := ⟨2, ![256, 704]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x704, .bf16⟩
  | .hbm, ⟨1, _⟩ => ⟨S8x1024x704, .bf16⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S2x1024x704, .f32⟩
  | .hbm, ⟨6, _⟩ => ⟨S2x1024x704, .f32⟩
  | .hbm, ⟨7, _⟩ => ⟨S2x1024x704, .f32⟩
  | .hbm, ⟨8, _⟩ => ⟨S2x1024x704, .f32⟩
  | .local _ .vmem, ⟨0, _⟩ => ⟨S8x256x704, .bf16⟩
  | .local _ .vmem, ⟨1, _⟩ => ⟨S8x256x704, .bf16⟩
  | .local _ .vmem, ⟨2, _⟩ => ⟨S8x256x704, .bf16⟩
  | .local _ .vmem, ⟨3, _⟩ => ⟨S8x256x704, .bf16⟩
  | .local _ .vmem, ⟨4, _⟩ => ⟨S1x256x704, .f32⟩
  | .local _ .vmem, ⟨5, _⟩ => ⟨S1x256x704, .f32⟩
  | .local _ .vmem, ⟨6, _⟩ => ⟨S1x256x704, .f32⟩
  | .local _ .vmem, ⟨7, _⟩ => ⟨S1x256x704, .f32⟩
  | .local _ .vmem, ⟨8, _⟩ => ⟨S1x256x704, .f32⟩
  | .local _ .vmem, ⟨9, _⟩ => ⟨S1x256x704, .f32⟩
  | .local _ .vmem, ⟨10, _⟩ => ⟨S1x256x704, .f32⟩
  | .local _ .vmem, ⟨11, _⟩ => ⟨S1x256x704, .f32⟩
  | .local _ .vmem, ⟨12, _⟩ => ⟨S1x256x704, .f32⟩
  | .local _ .vmem, ⟨13, _⟩ => ⟨S1x256x704, .f32⟩
  | .local _ .vmem, ⟨14, _⟩ => ⟨S1x256x704, .f32⟩
  | .local _ .vmem, ⟨15, _⟩ => ⟨S1x256x704, .f32⟩
  | .local _ .vmem, ⟨16, _⟩ => ⟨S1x256x704, .f32⟩
  | .local _ .vmem, ⟨17, _⟩ => ⟨S1x256x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c3_i32 : BitVec 32 := 3#32
  let v2 : BitVec 32 := Scalar.select v1 c0_i32_1 c3_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c3_i32 : BitVec 32 := 3#32
  let v2 : BitVec 32 := Scalar.select v1 c0_i32 c3_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel12Ideal.lean ====
abbrev S8x1024x704 : Shape := ⟨3, ![8, 1024, 704]⟩
abbrev S2x1024x704 : Shape := ⟨3, ![2, 1024, 704]⟩
abbrev S8x256x704 : Shape := ⟨3, ![8, 256, 704]⟩
abbrev S1x256x704 : Shape := ⟨3, ![1, 256, 704]⟩
abbrev S256x704 : Shape := ⟨2, ![256, 704]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x704, .bf16⟩
  | .hbm, ⟨1, _⟩ => ⟨S8x1024x704, .bf16⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S2x1024x704, .f32⟩
  | .hbm, ⟨6, _⟩ => ⟨S2x1024x704, .f32⟩
  | .hbm, ⟨7, _⟩ => ⟨S2x1024x704, .f32⟩
  | .hbm, ⟨8, _⟩ => ⟨S2x1024x704, .f32⟩
  | .local _ .vmem, ⟨0, _⟩ => ⟨S8x256x704, .bf16⟩
  | .local _ .vmem, ⟨1, _⟩ => ⟨S8x256x704, .bf16⟩
  | .local _ .vmem, ⟨2, _⟩ => ⟨S8x256x704, .bf16⟩
  | .local _ .vmem, ⟨3, _⟩ => ⟨S8x256x704, .bf16⟩
  | .local _ .vmem, ⟨4, _⟩ => ⟨S1x256x704, .f32⟩
  | .local _ .vmem, ⟨5, _⟩ => ⟨S1x256x704, .f32⟩
  | .local _ .vmem, ⟨6, _⟩ => ⟨S1x256x704, .f32⟩
  | .local _ .vmem, ⟨7, _⟩ => ⟨S1x256x704, .f32⟩
  | .local _ .vmem, ⟨8, _⟩ => ⟨S1x256x704, .f32⟩
  | .local _ .vmem, ⟨9, _⟩ => ⟨S1x256x704, .f32⟩
  | .local _ .vmem, ⟨10, _⟩ => ⟨S1x256x704, .f32⟩
  | .local _ .vmem, ⟨11, _⟩ => ⟨S1x256x704, .f32⟩
  | .local _ .vmem, ⟨12, _⟩ => ⟨S1x256x704, .f32⟩
  | .local _ .vmem, ⟨13, _⟩ => ⟨S1x256x704, .f32⟩
  | .local _ .vmem, ⟨14, _⟩ => ⟨S1x256x704, .f32⟩
  | .local _ .vmem, ⟨15, _⟩ => ⟨S1x256x704, .f32⟩
  | .local _ .vmem, ⟨16, _⟩ => ⟨S1x256x704, .f32⟩
  | .local _ .vmem, ⟨17, _⟩ => ⟨S1x256x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c3_i32 : BitVec 32 := 3#32
  let v2 : BitVec 32 := Scalar.select v1 c0_i32_1 c3_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c3_i32 : BitVec 32 := 3#32
  let v2 : BitVec 32 := Scalar.select v1 c0_i32 c3_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference12Ideal.lean ====
abbrev S8x1024x704 : Shape := ⟨3, ![8, 1024, 704]⟩
abbrev S2x1024x704 : Shape := ⟨3, ![2, 1024, 704]⟩
abbrev S_ : Shape := ⟨0, ![]⟩
abbrev S1024x704 : Shape := ⟨2, ![1024, 704]⟩
abbrev S1x1024x704 : Shape := ⟨3, ![1, 1024, 704]⟩

abbrev nBuf : Space → Nat
  | .hbm => 47
  | .vmem => 0
  | .smem => 0
  | _ => 0

abbrev bufTy : (tb : Table) → Fin (tcTables nBuf tb) → BufTy
  | .hbm, ⟨0, _⟩ => ⟨S8x1024x704, .bf16⟩
  | .hbm, ⟨1, _⟩ => ⟨S8x1024x704, .bf16⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S8x1024x704, .f32⟩
  | .hbm, ⟨6, _⟩ => ⟨S_, .f32⟩
  | .hbm, ⟨7, _⟩ => ⟨S1024x704, .f32⟩
  | .hbm, ⟨8, _⟩ => ⟨S8x1024x704, .f32⟩
  | .hbm, ⟨9, _⟩ => ⟨S_, .f32⟩
  | .hbm, ⟨10, _⟩ => ⟨S1024x704, .f32⟩
  | .hbm, ⟨11, _⟩ => ⟨S1x1024x704, .f32⟩
  | .hbm, ⟨12, _⟩ => ⟨S1x1024x704, .f32⟩
  | .hbm, ⟨13, _⟩ => ⟨S2x1024x704, .f32⟩
  | .hbm, ⟨14, _⟩ => ⟨S_, .f32⟩
  | .hbm, ⟨15, _⟩ => ⟨S2x1024x704, .f32⟩
  | .hbm, ⟨16, _⟩ => ⟨S2x1024x704, .f32⟩
  | .hbm, ⟨17, _⟩ => ⟨S_, .f32⟩
  | .hbm, ⟨18, _⟩ => ⟨S2x1024x704, .f32⟩
  | .hbm, ⟨19, _⟩ => ⟨S2x1024x704, .f32⟩
  | .hbm, ⟨20, _⟩ => ⟨S2x1024x704, .f32⟩
  | .hbm, ⟨21, _⟩ => ⟨S_, .f32⟩
  | .hbm, ⟨22, _⟩ => ⟨S2x1024x704, .f32⟩
  | .hbm, ⟨23, _⟩ => ⟨S2x1024x704, .f32⟩
  | .hbm, ⟨24, _⟩ => ⟨S2x1024x704, .f32⟩
  | .hbm, ⟨25, _⟩ => ⟨S_, .f32⟩
  | .hbm, ⟨26, _⟩ => ⟨S2x1024x704, .f32⟩
  | .hbm, ⟨27, _⟩ => ⟨S2x1024x704, .f32⟩
  | .hbm, ⟨28, _⟩ => ⟨S2x1024x704, .f32⟩
  | .hbm, ⟨29, _⟩ => ⟨S_, .f32⟩
  | .hbm, ⟨30, _⟩ => ⟨S2x1024x704, .f32⟩
  | .hbm, ⟨31, _⟩ => ⟨S2x1024x704, .f32⟩
  | .hbm, ⟨32, _⟩ => ⟨S_, .f32⟩
  | .hbm, ⟨33, _⟩ => ⟨S2x1024x704, .f32⟩
  | .hbm, ⟨34, _⟩ => ⟨S2x1024x704, .f32⟩
  | .hbm, ⟨35, _⟩ => ⟨S2x1024x704, .f32⟩
  | .hbm, ⟨36, _⟩ => ⟨S_, .f32⟩
  | .hbm, ⟨37, _⟩ => ⟨S2x1024x704, .f32⟩
  | .hbm, ⟨38, _⟩ => ⟨S2x1024x704, .f32⟩
  | .hbm, ⟨39, _⟩ => ⟨S2x1024x704, .f32⟩
  | .hbm, ⟨40, _⟩ => ⟨S_, .f32⟩
  | .hbm, ⟨41, _⟩ => ⟨S2x1024x704, .f32⟩
  | .hbm, ⟨42, _⟩ => ⟨S2x1024x704, .f32⟩
  | .hbm, ⟨43, _⟩ => ⟨S2x1024x704, .f32⟩
  | .hbm, ⟨44, _⟩ => ⟨S_, .f32⟩
  | .hbm, ⟨45, _⟩ => ⟨S2x1024x704, .f32⟩
  | .hbm, ⟨46, _⟩ => ⟨S2x1024x704, .f32⟩
  | _, _ => ⟨S8x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel13.lean ====
abbrev S8x352x1024 : Shape := ⟨3, ![8, 352, 1024]⟩
abbrev S2x352x1024 : Shape := ⟨3, ![2, 352, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S8x176x1024, .bf16⟩
  | .local _ .vmem, ⟨3, _⟩ => ⟨S8x176x1024, .bf16⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c1_i32 : BitVec 32 := 1#32
  let v2 : BitVec 32 := Scalar.select v1 c0_i32_1 c1_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c1_i32_1 : BitVec 32 := 1#32
  let v2 : BitVec 32 := Scalar.select v1 c0_i32 c1_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel13Ideal.lean ====
abbrev S8x352x1024 : Shape := ⟨3, ![8, 352, 1024]⟩
abbrev S2x352x1024 : Shape := ⟨3, ![2, 352, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S8x176x1024, .bf16⟩
  | .local _ .vmem, ⟨3, _⟩ => ⟨S8x176x1024, .bf16⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c1_i32 : BitVec 32 := 1#32
  let v2 : BitVec 32 := Scalar.select v1 c0_i32_1 c1_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c1_i32_1 : BitVec 32 := 1#32
  let v2 : BitVec 32 := Scalar.select v1 c0_i32 c1_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference13Ideal.lean ====
abbrev S8x352x1024 : Shape := ⟨3, ![8, 352, 1024]⟩
abbrev S2x352x1024 : Shape := ⟨3, ![2, 352, 1024]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S8x352x1024, .f32⟩
  | .hbm, ⟨6, _⟩ => ⟨S_, .f32⟩
  | .hbm, ⟨7, _⟩ => ⟨S352x1024, .f32⟩
  | .hbm, ⟨8, _⟩ => ⟨S8x352x1024, .f32⟩
  | .hbm, ⟨9, _⟩ => ⟨S_, .f32⟩
  | .hbm, ⟨10, _⟩ => ⟨S352x1024, .f32⟩
  | .hbm, ⟨11, _⟩ => ⟨S1x352x1024, .f32⟩
  | .hbm, ⟨12, _⟩ => ⟨S1x352x1024, .f32⟩
  | .hbm, ⟨13, _⟩ => ⟨S2x352x1024, .f32⟩
  | .hbm, ⟨14, _⟩ => ⟨S_, .f32⟩
  | .hbm, ⟨15, _⟩ => ⟨S2x352x1024, .f32⟩
  | .hbm, ⟨16, _⟩ => ⟨S2x352x1024, .f32⟩
  | .hbm, ⟨17, _⟩ => ⟨S_, .f32⟩
  | .hbm, ⟨18, _⟩ => ⟨S2x352x1024, .f32⟩
  | .hbm, ⟨19, _⟩ => ⟨S2x352x1024, .f32⟩
  | .hbm, ⟨20, _⟩ => ⟨S2x352x1024, .f32⟩
  | .hbm, ⟨21, _⟩ => ⟨S_, .f32⟩
  | .hbm, ⟨22, _⟩ => ⟨S2x352x1024, .f32⟩
  | .hbm, ⟨23, _⟩ => ⟨S2x352x1024, .f32⟩
  | .hbm, ⟨24, _⟩ => ⟨S2x352x1024, .f32⟩
  | .hbm, ⟨25, _⟩ => ⟨S_, .f32⟩
  | .hbm, ⟨26, _⟩ => ⟨S2x352x1024, .f32⟩
  | .hbm, ⟨27, _⟩ => ⟨S2x352x1024, .f32⟩
  | .hbm, ⟨28, _⟩ => ⟨S2x352x1024, .f32⟩
  | .hbm, ⟨29, _⟩ => ⟨S_, .f32⟩
  | .hbm, ⟨30, _⟩ => ⟨S2x352x1024, .f32⟩
  | .hbm, ⟨31, _⟩ => ⟨S2x352x1024, .f32⟩
  | .hbm, ⟨32, _⟩ => ⟨S_, .f32⟩
  | .hbm, ⟨33, _⟩ => ⟨S2x352x1024, .f32⟩
  | .hbm, ⟨34, _⟩ => ⟨S2x352x1024, .f32⟩
  | .hbm, ⟨35, _⟩ => ⟨S2x352x1024, .f32⟩
  | .hbm, ⟨36, _⟩ => ⟨S_, .f32⟩
  | .hbm, ⟨37, _⟩ => ⟨S2x352x1024, .f32⟩
  | .hbm, ⟨38, _⟩ => ⟨S2x352x1024, .f32⟩
  | .hbm, ⟨39, _⟩ => ⟨S2x352x1024, .f32⟩
  | .hbm, ⟨40, _⟩ => ⟨S_, .f32⟩
  | .hbm, ⟨41, _⟩ => ⟨S2x352x1024, .f32⟩
  | .hbm, ⟨42, _⟩ => ⟨S2x352x1024, .f32⟩
  | .hbm, ⟨43, _⟩ => ⟨S2x352x1024, .f32⟩
  | .hbm, ⟨44, _⟩ => ⟨S_, .f32⟩
  | .hbm, ⟨45, _⟩ => ⟨S2x352x1024, .f32⟩
  | .hbm, ⟨46, _⟩ => ⟨S2x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel14.lean ====
abbrev S2192x128 : Shape := ⟨2, ![2192, 128]⟩

abbrev nBuf : Space → Nat
  | .hbm => 7
  | .vmem => 7
  | .smem => 0
  | _ => 0

abbrev bufTy : (tb : Table) → Fin (tcTables nBuf tb) → BufTy
  | .hbm, ⟨0, _⟩ => ⟨S2192x128, .f32⟩
  | .hbm, ⟨1, _⟩ => ⟨S2192x128, .f32⟩
  | .hbm, ⟨2, _⟩ => ⟨S2192x128, .f32⟩
  | .hbm, ⟨3, _⟩ => ⟨S2192x128, .f32⟩
  | .hbm, ⟨4, _⟩ => ⟨S2192x128, .f32⟩
  | .hbm, ⟨5, _⟩ => ⟨S2192x128, .f32⟩
  | .hbm, ⟨6, _⟩ => ⟨S2192x128, .f32⟩
  | .local _ .vmem, ⟨0, _⟩ => ⟨S2192x128, .f32⟩
  | .local _ .vmem, ⟨1, _⟩ => ⟨S2192x128, .f32⟩
  | .local _ .vmem, ⟨2, _⟩ => ⟨S2192x128, .f32⟩
  | .local _ .vmem, ⟨3, _⟩ => ⟨S2192x128, .f32⟩
  | .local _ .vmem, ⟨4, _⟩ => ⟨S2192x128, .f32⟩
  | .local _ .vmem, ⟨5, _⟩ => ⟨S2192x128, .f32⟩
  | .local _ .vmem, ⟨6, _⟩ => ⟨S2192x128, .f32⟩
  | _, _ => ⟨S2192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2192x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2192x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2192x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2192x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference14Ideal.lean ====
abbrev S2192x128 : Shape := ⟨2, ![2192, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2192x128, .f32⟩
  | .hbm, ⟨1, _⟩ => ⟨S2192x128, .f32⟩
  | .hbm, ⟨2, _⟩ => ⟨S2192x128, .f32⟩
  | .hbm, ⟨3, _⟩ => ⟨S2192x128, .f32⟩
  | .hbm, ⟨4, _⟩ => ⟨S_, .f32⟩
  | .hbm, ⟨5, _⟩ => ⟨S2192x128, .f32⟩
  | .hbm, ⟨6, _⟩ => ⟨S2192x128, .f32⟩
  | .hbm, ⟨7, _⟩ => ⟨S_, .f32⟩
  | .hbm, ⟨8, _⟩ => ⟨S2192x128, .f32⟩
  | .hbm, ⟨9, _⟩ => ⟨S2192x128, .f32⟩
  | .hbm, ⟨10, _⟩ => ⟨S2192x128, .f32⟩
  | .hbm, ⟨11, _⟩ => ⟨S_, .f32⟩
  | .hbm, ⟨12, _⟩ => ⟨S2192x128, .f32⟩
  | .hbm, ⟨13, _⟩ => ⟨S2192x128, .f32⟩
  | .hbm, ⟨14, _⟩ => ⟨S2192x128, .f32⟩
  | .hbm, ⟨15, _⟩ => ⟨S_, .f32⟩
  | .hbm, ⟨16, _⟩ => ⟨S2192x128, .f32⟩
  | .hbm, ⟨17, _⟩ => ⟨S2192x128, .f32⟩
  | .hbm, ⟨18, _⟩ => ⟨S2192x128, .f32⟩
  | .hbm, ⟨19, _⟩ => ⟨S_, .f32⟩
  | .hbm, ⟨20, _⟩ => ⟨S2192x128, .f32⟩
  | .hbm, ⟨21, _⟩ => ⟨S2192x128, .f32⟩
  | .hbm, ⟨22, _⟩ => ⟨S_, .f32⟩
  | .hbm, ⟨23, _⟩ => ⟨S2192x128, .f32⟩
  | .hbm, ⟨24, _⟩ => ⟨S2192x128, .f32⟩
  | .hbm, ⟨25, _⟩ => ⟨S2192x128, .f32⟩
  | .hbm, ⟨26, _⟩ => ⟨S_, .f32⟩
  | .hbm, ⟨27, _⟩ => ⟨S2192x128, .f32⟩
  | .hbm, ⟨28, _⟩ => ⟨S2192x128, .f32⟩
  | .hbm, ⟨29, _⟩ => ⟨S2192x128, .f32⟩
  | .hbm, ⟨30, _⟩ => ⟨S_, .f32⟩
  | .hbm, ⟨31, _⟩ => ⟨S2192x128, .f32⟩
  | .hbm, ⟨32, _⟩ => ⟨S2192x128, .f32⟩
  | .hbm, ⟨33, _⟩ => ⟨S2192x128, .f32⟩
  | .hbm, ⟨34, _⟩ => ⟨S_, .f32⟩
  | .hbm, ⟨35, _⟩ => ⟨S2192x128, .f32⟩
  | .hbm, ⟨36, _⟩ => ⟨S2192x128, .f32⟩
  | _, _ => ⟨S2192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S8x2232x128 : Shape := ⟨3, ![8, 2232, 128]⟩
abbrev S2232x128 : Shape := ⟨2, ![2232, 128]⟩
abbrev S1x2232x128 : Shape := ⟨3, ![1, 2232, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x2232x128, .f32⟩
  | .hbm, ⟨1, _⟩ => ⟨S2232x128, .f32⟩
  | .local _ .vmem, ⟨0, _⟩ => ⟨S8x2232x128, .f32⟩
  | .local _ .vmem, ⟨1, _⟩ => ⟨S2232x128, .f32⟩
  | _, _ => ⟨S8x2232x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x2232x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2232x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== Kernel15Ideal.lean ====
abbrev S8x2232x128 : Shape := ⟨3, ![8, 2232, 128]⟩
abbrev S2232x128 : Shape := ⟨2, ![2232, 128]⟩
abbrev S1x2232x128 : Shape := ⟨3, ![1, 2232, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x2232x128, .f32⟩
  | .hbm, ⟨1, _⟩ => ⟨S2232x128, .f32⟩
  | .local _ .vmem, ⟨0, _⟩ => ⟨S8x2232x128, .f32⟩
  | .local _ .vmem, ⟨1, _⟩ => ⟨S2232x128, .f32⟩
  | _, _ => ⟨S8x2232x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x2232x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2232x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== Reference15Ideal.lean ====
abbrev S8x2232x128 : Shape := ⟨3, ![8, 2232, 128]⟩
abbrev S_ : Shape := ⟨0, ![]⟩
abbrev S2232x128 : Shape := ⟨2, ![2232, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x2232x128, .f32⟩
  | .hbm, ⟨1, _⟩ => ⟨S_, .f32⟩
  | .hbm, ⟨2, _⟩ => ⟨S2232x128, .f32⟩
  | _, _ => ⟨S8x2232x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel16.lean ====
abbrev S8x32x128 : Shape := ⟨3, ![8, 32, 128]⟩
abbrev S32x128 : Shape := ⟨2, ![32, 128]⟩
abbrev S1x32x128 : Shape := ⟨3, ![1, 32, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x32x128, .f32⟩
  | .hbm, ⟨1, _⟩ => ⟨S32x128, .f32⟩
  | .local _ .vmem, ⟨0, _⟩ => ⟨S8x32x128, .f32⟩
  | .local _ .vmem, ⟨1, _⟩ => ⟨S32x128, .f32⟩
  | _, _ => ⟨S8x32x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== Kernel16Ideal.lean ====
abbrev S8x32x128 : Shape := ⟨3, ![8, 32, 128]⟩
abbrev S32x128 : Shape := ⟨2, ![32, 128]⟩
abbrev S1x32x128 : Shape := ⟨3, ![1, 32, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x32x128, .f32⟩
  | .hbm, ⟨1, _⟩ => ⟨S32x128, .f32⟩
  | .local _ .vmem, ⟨0, _⟩ => ⟨S8x32x128, .f32⟩
  | .local _ .vmem, ⟨1, _⟩ => ⟨S32x128, .f32⟩
  | _, _ => ⟨S8x32x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== Reference16Ideal.lean ====
abbrev S8x32x128 : Shape := ⟨3, ![8, 32, 128]⟩
abbrev S_ : Shape := ⟨0, ![]⟩
abbrev S32x128 : Shape := ⟨2, ![32, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x32x128, .f32⟩
  | .hbm, ⟨1, _⟩ => ⟨S_, .f32⟩
  | .hbm, ⟨2, _⟩ => ⟨S32x128, .f32⟩
  | _, _ => ⟨S8x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel17.lean ====
abbrev S8192x1024 : Shape := ⟨2, ![8192, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1x1x1024 : Shape := ⟨3, ![1, 1, 1024]⟩
abbrev S1 : Shape := ⟨1, ![1]⟩
abbrev S1x1x1 : Shape := ⟨3, ![1, 1, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x128, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v38 : BitVec 1 := Scalar.cmpi .eq arg0 c0_i32
  let v39 : BitVec 32 := Scalar.extui v38
  let c0_i32_16 : BitVec 32 := 0#32
  let v40 : BitVec 1 := Scalar.cmpi .ne v39 c0_i32_16
  v40

def k0_cond2 (i : grid0.Coords) : BitVec 1 :=
  let arg0 : BitVec 32 := BitVec.ofNat 32 (i 0).val
  let c0_i32_17 : BitVec 32 := 0#32
  let v41 : BitVec 1 := Scalar.cmpi .sgt arg0 c0_i32_17
  let v42 : BitVec 32 := Scalar.extui v41
  let c0_i32_18 : BitVec 32 := 0#32
  let v43 : BitVec 1 := Scalar.cmpi .ne v42 c0_i32_18
  v43

def k0_cond3 (i : grid0.Coords) : BitVec 1 :=
  let arg0 : BitVec 32 := BitVec.ofNat 32 (i 0).val
  let c15_i32 : BitVec 32 := 15#32
  let v44 : BitVec 1 := Scalar.cmpi .eq arg0 c15_i32
  let v45 : BitVec 32 := Scalar.extui v44
  let c0_i32_19 : BitVec 32 := 0#32
  let v46 : BitVec 1 := Scalar.cmpi .ne v45 c0_i32_19
  v46

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference17Ideal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S1x1024, .f32⟩
  | .hbm, ⟨73, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Kernel18.lean ====
abbrev S8192x2048 : Shape := ⟨2, ![8192, 2048]⟩
abbrev S2048x1024 : Shape := ⟨2, ![2048, 1024]⟩
abbrev S8192x1024 : Shape := ⟨2, ![8192, 1024]⟩
abbrev S1x1024 : Shape := ⟨2, ![1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== Reference18Ideal.lean ====
abbrev S8192x2048 : Shape := ⟨2, ![8192, 2048]⟩
abbrev S2048x1024 : Shape := ⟨2, ![2048, 1024]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .hbm, ⟨3, _⟩ => ⟨S1x1024, .f32⟩
  | .hbm, ⟨4, _⟩ => ⟨S8192x2048, .f32⟩
  | .hbm, ⟨5, _⟩ => ⟨S2048x1024, .f32⟩
  | .hbm, ⟨6, _⟩ => ⟨S8192x1024, .f32⟩
  | .hbm, ⟨7, _⟩ => ⟨S8192x1024, .f32⟩
  | .hbm, ⟨8, _⟩ => ⟨S1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel19.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S2048x1024, .bf16⟩
  | .hbm, ⟨2, _⟩ => ⟨S8192x2048, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8192x1024 : Shape := ⟨2, ![8192, 1024]⟩
abbrev S2048x1024 : Shape := ⟨2, ![2048, 1024]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2048x1024, .bf16⟩
  | .hbm, ⟨2, _⟩ => ⟨S_, .f32⟩
  | .hbm, ⟨3, _⟩ => ⟨S8192x2048, .f32⟩
  | .hbm, ⟨4, _⟩ => ⟨S2048x1024, .f32⟩
  | .hbm, ⟨5, _⟩ => ⟨S8192x1024, .f32⟩
  | .hbm, ⟨6, _⟩ => ⟨S8192x2048, .f32⟩
  | .hbm, ⟨7, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel20.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S_, .f32⟩
  | .hbm, ⟨3, _⟩ => ⟨S2048x1024, .f32⟩
  | .hbm, ⟨4, _⟩ => ⟨S8192x2048, .f32⟩
  | .hbm, ⟨5, _⟩ => ⟨S8192x1024, .f32⟩
  | .hbm, ⟨6, _⟩ => ⟨S1024x2048, .f32⟩
  | .hbm, ⟨7, _⟩ => ⟨S2048x1024, .f32⟩
  | .hbm, ⟨8, _⟩ => ⟨S2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel21.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Kernel21Ideal.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference21Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel22.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference22Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel23.lean ====
abbrev S8192x1024 : Shape := ⟨2, ![8192, 1024]⟩
abbrev S8192x2048 : Shape := ⟨2, ![8192, 2048]⟩
abbrev S1024x6144 : Shape := ⟨2, ![1024, 6144]⟩
abbrev S1x1024 : Shape := ⟨2, ![1, 1024]⟩
abbrev S512x1024 : Shape := ⟨2, ![512, 1024]⟩
abbrev S1024x1024 : Shape := ⟨2, ![1024, 1024]⟩
abbrev S512x2048 : Shape := ⟨2, ![512, 2048]⟩
abbrev S1024x2048 : Shape := ⟨2, ![1024, 2048]⟩
abbrev S512 : Shape := ⟨1, ![512]⟩
abbrev S512x1 : Shape := ⟨2, ![512, 1]⟩
abbrev S1024 : Shape := ⟨1, ![1024]⟩

abbrev nBuf : Space → Nat
  | .hbm => 10
  | .vmem => 21
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x2048, .bf16⟩
  | .hbm, ⟨3, _⟩ => ⟨S8192x2048, .bf16⟩
  | .hbm, ⟨4, _⟩ => ⟨S1024x6144, .bf16⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S1024x1024, .bf16⟩
  | .local _ .vmem, ⟨6, _⟩ => ⟨S512x2048, .bf16⟩
  | .local _ .vmem, ⟨7, _⟩ => ⟨S512x2048, .bf16⟩
  | .local _ .vmem, ⟨8, _⟩ => ⟨S1024x2048, .bf16⟩
  | .local _ .vmem, ⟨9, _⟩ => ⟨S512x2048, .bf16⟩
  | .local _ .vmem, ⟨10, _⟩ => ⟨S512x2048, .bf16⟩
  | .local _ .vmem, ⟨11, _⟩ => ⟨S1024x2048, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S1x1024, .f32⟩
  | .local _ .vmem, ⟨20, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v45 : BitVec 1 := Scalar.cmpi .eq arg0 c0_i32
  let v46 : BitVec 32 := Scalar.extui v45
  let c0_i32_32 : BitVec 32 := 0#32
  let v47 : BitVec 1 := Scalar.cmpi .ne v46 c0_i32_32
  v47

def k0_cond2 (i : grid0.Coords) : BitVec 1 :=
  let arg0 : BitVec 32 := BitVec.ofNat 32 (i 0).val
  let c0_i32_33 : BitVec 32 := 0#32
  let v48 : BitVec 1 := Scalar.cmpi .sgt arg0 c0_i32_33
  let v49 : BitVec 32 := Scalar.extui v48
  let c0_i32_34 : BitVec 32 := 0#32
  let v50 : BitVec 1 := Scalar.cmpi .ne v49 c0_i32_34
  v50

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  ![c0_i32.toNat, c1_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c2_i32 : BitVec 32 := 2#32
  let c0_i32_0 : BitVec 32 := 0#32
  ![c0_i32.toNat, c2_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]
-- ==== Reference23Ideal.lean ====
abbrev S8192x1024 : Shape := ⟨2, ![8192, 1024]⟩
abbrev S8192x2048 : Shape := ⟨2, ![8192, 2048]⟩
abbrev S1024x6144 : Shape := ⟨2, ![1024, 6144]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x6144 : Shape := ⟨2, ![8192, 6144]⟩

abbrev nBuf : Space → Nat
  | .hbm => 68
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x2048, .bf16⟩
  | .hbm, ⟨3, _⟩ => ⟨S8192x2048, .bf16⟩
  | .hbm, ⟨4, _⟩ => ⟨S1024x6144, .bf16⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S1024x6144, .f32⟩
  | .hbm, ⟨30, _⟩ => ⟨S8192x6144, .f32⟩
  | .hbm, ⟨31, _⟩ => ⟨S8192x1024, .f32⟩
  | .hbm, ⟨32, _⟩ => ⟨S8192x1024, .f32⟩
  | .hbm, ⟨33, _⟩ => ⟨S8192x2048, .f32⟩
  | .hbm, ⟨34, _⟩ => ⟨S8192x2048, .f32⟩
  | .hbm, ⟨35, _⟩ => ⟨S8192x1024, .f32⟩
  | .hbm, ⟨36, _⟩ => ⟨S8192x1024, .f32⟩
  | .hbm, ⟨37, _⟩ => ⟨S8192x2048, .f32⟩
  | .hbm, ⟨38, _⟩ => ⟨S8192x2048, .f32⟩
  | .hbm, ⟨39, _⟩ => ⟨S8192x6144, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S8192x1024, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S_, .f32⟩
  | .hbm, ⟨61, _⟩ => ⟨S8192, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S1x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩

abbrev nD : Nat := 1
abbrev τ : Topo := Topo.v7x

variable {F : FTy → Type} [FloatOps F]
-- ==== Kernel24.lean ====
abbrev S1x128 : Shape := ⟨2, ![1, 128]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x1, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | _, _ => ⟨S1x128, .f32⟩

abbrev bufScoped : (cs : CoreSpace) → Fin (nBuf (.core cs)) → Bool
  | _, _ => false

abbrev semScoped : Fin 1 → Bool
  | ⟨0, _⟩ => false
  | _ => false

abbrev dmaSemScoped : Fin 2 → Bool
  | ⟨0, _⟩ => false
  | ⟨1, _⟩ => false
  | _ => false

abbrev sig : RefSig :=
  ofTc nBuf bufTy 1 2 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_v2 : Ref sig .tc := ⟨.hbm, 2, rfl⟩
abbrev main_v3 : Ref sig .tc := ⟨.hbm, 3, rfl⟩
abbrev main_v3_s0 : Ref sig .tc := ⟨.hbm, 4, rfl⟩
abbrev main_v3_s1 : Ref sig .tc := ⟨.hbm, 5, rfl⟩
abbrev main_v3_s2 : Ref sig .tc := ⟨.hbm, 6, rfl⟩
abbrev main_v3_s3 : Ref sig .tc := ⟨.hbm, 7, rfl⟩
abbrev main_v3_s4 : Ref sig .tc := ⟨.hbm, 8, rfl⟩
abbrev main_v3_s5 : Ref sig .tc := ⟨.hbm, 9, rfl⟩
abbrev main_v3_s6 : Ref sig .tc := ⟨.hbm, 10, rfl⟩
abbrev main_v3_s7 : Ref sig .tc := ⟨.hbm, 11, rfl⟩
abbrev ar0_recv : DmaSem sig := 0
abbrev ar0_send : DmaSem sig := 1
abbrev ar0_barrier : Sem sig := 0

abbrev nD : Nat := 8
abbrev τ : Topo := Topo.v7x

variable {F : FTy → Type} [FloatOps F]

abbrev ar0_mem : Fin 1 × Fin 8 → Dev nD := fun q => (![![0, 1, 2, 3, 4, 5, 6, 7]] : Fin 1 → Fin 8 → Dev nD) q.1 q.2
abbrev ar0_pos : Dev nD → Fin 1 × Fin 8 := fun c => ((![0, 0, 0, 0, 0, 0, 0, 0] : Fin 8 → Fin 1) c, (![0, 1, 2, 3, 4, 5, 6, 7] : Fin 8 → Fin 8) c)
abbrev ar0_stage : Fin 8 → Ref sig .tc := fun | 0 => main_v3_s0 | 1 => main_v3_s1 | 2 => main_v3_s2 | 3 => main_v3_s3 | 4 => main_v3_s4 | 5 => main_v3_s5 | 6 => main_v3_s6 | 7 => main_v3_s7 | ⟨_ + 8, h⟩ => absurd h (Nat.not_lt.2 (Nat.le_add_left _ _))
-- ==== Reference24Ideal.lean ====
abbrev S8x128 : Shape := ⟨2, ![8, 128]⟩
abbrev S8x1 : Shape := ⟨2, ![8, 1]⟩
abbrev S8 : Shape := ⟨1, ![8]⟩
abbrev S_ : Shape := ⟨0, ![]⟩

abbrev nBuf : Space → Nat
  | .hbm => 5
  | .vmem => 0
  | .smem => 0
  | _ => 0

abbrev bufTy : (tb : Table) → Fin (tcTables nBuf tb) → BufTy
  | .hbm, ⟨0, _⟩ => ⟨S8x128, .f32⟩
  | .hbm, ⟨1, _⟩ => ⟨S8x1, .f32⟩
  | .hbm, ⟨2, _⟩ => ⟨S8, .f32⟩
  | .hbm, ⟨3, _⟩ => ⟨S_, .f32⟩
  | .hbm, ⟨4, _⟩ => ⟨S_, .f32⟩
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Common.lean ====
/-
  What several of the claims' proofs share: the constant one half, and drawing a nonnegative finite factor out of a sum of extended reals.
-/
module

public import Idealize.ShloMosaic.Lib.Pointwise

@[expose] public section

set_option maxRecDepth 16384

noncomputable section

open Idealize.ShloMosaic

namespace Cert.Common

/-- The constant one half. -/
def half : EReal := Ideal.ofBits .f32 0x3F000000#32

theorem half_eq : half = ((1 / 2 : ℝ) : EReal) := by
  unfold half
  simp [Ideal.ofBits, Ideal.ieee, -EReal.coe_mul]; norm_num

theorem half_nonneg : 0 ≤ half := by rw [half_eq]; exact_mod_cast (by norm_num : (0 : ℝ) ≤ 1 / 2)
theorem half_ne_top : half ≠ ⊤ := by rw [half_eq]; exact EReal.coe_ne_top _

/-- A nonnegative finite factor may be drawn out of a sum, whatever the summands. -/
theorem mul_sum_of_nonneg {ι : Type} (c : EReal) (h0 : 0 ≤ c) (ht : c ≠ ⊤) (s : Finset ι) (f : ι → EReal) : c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 ht, ih]

theorem half_mul_sum {ι : Type} (s : Finset ι) (f : ι → EReal) : half * ∑ i ∈ s, f i = ∑ i ∈ s, half * f i :=
  mul_sum_of_nonneg half half_nonneg half_ne_top s f

/-! ## The gradient of the root-mean-square norm -/

/-- The mean square of `n = 1024` numbers plus the norm's constant. -/
def sigma (x : Fin 1024 → EReal) : EReal :=
  Ideal.div (∑ j, x j * x j) (Ideal.ofBits .f32 0x44800000#32) + Ideal.ofBits .f32 0x358637BD#32

theorem width_eq : Ideal.ofBits .f32 0x44800000#32 = ((1024 : ℝ) : EReal) := by
  simp [Ideal.ofBits, Ideal.ieee, -EReal.coe_mul]; norm_num

theorem mhalf_eq : Ideal.ofBits .f32 0xBF000000#32 = ((-(1 / 2) : ℝ) : EReal) := by
  simp [Ideal.ofBits, Ideal.ieee, -EReal.coe_mul, -EReal.coe_neg]; norm_num

/-- The norm's constant is a positive real. -/
theorem eps_pos : ∃ e : ℝ, 0 < e ∧ Ideal.ofBits .f32 0x358637BD#32 = (e : EReal) :=
  ⟨8796093 * (2 : ℝ) ^ (-43 : ℤ), by positivity, by simp [Ideal.ofBits, Ideal.ieee, -EReal.coe_mul]⟩

theorem div_width (x : EReal) : Ideal.div x (Ideal.ofBits .f32 0x44800000#32) = x * ((1 / 1024 : ℝ) : EReal) := by
  rw [width_eq]
  unfold Ideal.div
  rw [if_neg (by exact_mod_cast (by norm_num : (1024 : ℝ) ≠ 0)), ← EReal.coe_inv]
  norm_num

theorem sum_sq_nonneg (x : Fin 1024 → EReal) : 0 ≤ ∑ j, x j * x j :=
  Finset.sum_nonneg fun j _ => by
    rcases le_total 0 (x j) with h | h
    · exact mul_nonneg h h
    · rw [← neg_mul_neg]
      exact mul_nonneg (EReal.neg_nonneg.mpr h) (EReal.neg_nonneg.mpr h)

/-- Twice a multiple of an extended real. -/
theorem double_mul (S : EReal) (t : ℝ) : S * ((t : ℝ) : EReal) + S * ((t : ℝ) : EReal) = S * ((2 * t : ℝ) : EReal) := by
  rcases le_total 0 t with h | h
  · have h' : (0 : EReal) ≤ (t : EReal) := by exact_mod_cast h
    rw [mul_comm S, ← EReal.right_distrib_of_nonneg h' h', ← EReal.coe_add, mul_comm, two_mul]
  · have h' : (0 : EReal) ≤ ((-t : ℝ) : EReal) := by exact_mod_cast (by linarith : (0 : ℝ) ≤ -t)
    have e (u : ℝ) : S * (u : EReal) = ((-u : ℝ) : EReal) * (-S) := by rw [EReal.coe_neg, neg_mul_neg, mul_comm]
    rw [e t, e (2 * t), ← EReal.right_distrib_of_nonneg h' h', ← EReal.coe_add]
    congr 2
    ring

/-- The norm's factor, at any row: it is `0`, or a positive real whose square is the reciprocal of `sigma`, and then every
    entry of the row is a real number. -/
theorem rsqrt_sigma (x : Fin 1024 → EReal) : (sigma x = ⊤ ∧ Ideal.rsqrt (sigma x) = 0)
    ∨ ∃ b ρ : ℝ, 0 < b ∧ 0 < ρ ∧ ρ * ρ * b = 1 ∧ sigma x = (b : EReal) ∧ Ideal.rsqrt (sigma x) = (ρ : EReal) ∧ ∀ l, ∃ y : ℝ, x l = (y : EReal) := by
  obtain ⟨e, he, hE⟩ := eps_pos
  have h0 := sum_sq_nonneg x
  have hs : sigma x = (∑ j, x j * x j) * ((1 / 1024 : ℝ) : EReal) + (e : EReal) := by
    unfold sigma
    rw [div_width, hE]
  rcases eq_or_ne (∑ j, x j * x j) ⊤ with ht | ht
  · left
    have : sigma x = ⊤ := by
      rw [hs, ht, EReal.top_mul_coe_of_pos (by norm_num)]
      rfl
    exact ⟨this, by rw [this]; rfl⟩
  · right
    have hr : ∃ a : ℝ, ∑ j, x j * x j = (a : EReal) := ⟨_, (EReal.coe_toReal ht (fun hb => by rw [hb] at h0; exact absurd h0 (by decide))).symm⟩
    obtain ⟨a, ha⟩ := hr
    have ha0 : 0 ≤ a := by rw [ha] at h0; exact_mod_cast h0
    have hb : sigma x = ((a * (1 / 1024) + e : ℝ) : EReal) := by rw [hs, ha]; push_cast; rfl
    have hb0 : 0 < a * (1 / 1024) + e := by positivity
    refine ⟨a * (1 / 1024) + e, (Real.sqrt (a * (1 / 1024) + e))⁻¹, hb0, inv_pos.mpr (Real.sqrt_pos.mpr hb0), ?_, hb, ?_, ?_⟩
    · rw [← mul_inv, Real.mul_self_sqrt hb0.le, inv_mul_cancel₀ hb0.ne']
    · rw [hb, Ideal.rsqrt_coe, if_neg (not_lt.mpr hb0.le), if_neg hb0.ne']
    · intro l
      have hl : x l * x l ≤ ∑ j, x j * x j := by
        refine Finset.single_le_sum (f := fun j => x j * x j) (fun j _ => ?_) (Finset.mem_univ l)
        rcases le_total 0 (x j) with h | h
        · exact mul_nonneg h h
        · rw [← neg_mul_neg]
          exact mul_nonneg (EReal.neg_nonneg.mpr h) (EReal.neg_nonneg.mpr h)
      have hlt : x l * x l ≠ ⊤ := fun h => by rw [h] at hl; exact ht (top_le_iff.mp hl)
      refine ⟨(x l).toReal, (EReal.coe_toReal (fun h => ?_) (fun h => ?_)).symm⟩
      · rw [h] at hlt; exact hlt rfl
      · rw [h] at hlt; exact hlt rfl

/-- The norm's gradient as the kernel writes it is the one differentiation gives, at every row: where the mean square is
    infinite both are `d`. -/
theorem rms_bwd (x y : Fin 1024 → EReal) (d : EReal) (l : Fin 1024) :
    d + Ideal.rsqrt (sigma x) * (y l - (x l * Ideal.rsqrt (sigma x)) * Ideal.div (∑ j, y j * (x j * Ideal.rsqrt (sigma x))) (Ideal.ofBits .f32 0x44800000#32))
      = ((d + y l * Ideal.rsqrt (sigma x))
          + x l * Ideal.div ((∑ j, x j * y j) * (Ideal.ofBits .f32 0xBF000000#32 * Ideal.div (Ideal.rsqrt (sigma x)) (sigma x))) (Ideal.ofBits .f32 0x44800000#32))
          + Ideal.div ((∑ j, x j * y j) * (Ideal.ofBits .f32 0xBF000000#32 * Ideal.div (Ideal.rsqrt (sigma x)) (sigma x))) (Ideal.ofBits .f32 0x44800000#32) * x l := by
  rcases rsqrt_sigma x with ⟨hs, hr⟩ | ⟨b, ρ, hb, hρ, hbr, hs, hr, hx⟩
  · rw [hr, hs, div_width, div_width]
    simp [Ideal.div]
  · rw [hr, hs, div_width, div_width, mhalf_eq]
    obtain ⟨xl, hl⟩ := hx l
    have hdiv : Ideal.div (ρ : EReal) (b : EReal) = ((ρ * b⁻¹ : ℝ) : EReal) := by
      unfold Ideal.div
      rw [if_neg (by exact_mod_cast hb.ne'), ← EReal.coe_inv, ← EReal.coe_mul]
    have hS : ∑ j, y j * (x j * (ρ : EReal)) = (ρ : EReal) * ∑ j, x j * y j := by
      rw [mul_sum_of_nonneg _ (by exact_mod_cast hρ.le) (EReal.coe_ne_top _)]
      exact Finset.sum_congr rfl fun j _ => by rw [mul_comm (ρ : EReal), mul_comm (x j) (y j), mul_assoc]
    rw [hdiv, hS, hl]
    generalize ∑ j, x j * y j = S
    have e1 : (xl : EReal) * (S * (((-(1 / 2) : ℝ) : EReal) * ((ρ * b⁻¹ : ℝ) : EReal)) * ((1 / 1024 : ℝ) : EReal)) = S * ((-(1 / 2) * (ρ * b⁻¹) * (1 / 1024) * xl : ℝ) : EReal) := by
      push_cast
      ac_rfl
    rw [mul_comm (_ * ((1 / 1024 : ℝ) : EReal)) (xl : EReal), e1, add_assoc, double_mul, sub_eq_add_neg,
      EReal.left_distrib_of_nonneg_of_ne_top (by exact_mod_cast hρ.le) (EReal.coe_ne_top _), mul_comm (y l), ← add_assoc]
    congr 1
    have e2 : (ρ : EReal) * -((xl : EReal) * (ρ : EReal) * ((ρ : EReal) * S * ((1 / 1024 : ℝ) : EReal))) = S * ((-(ρ * xl * ρ * ρ * (1 / 1024)) : ℝ) : EReal) := by
      rw [EReal.coe_neg, mul_neg, mul_neg]
      congr 1
      push_cast
      ac_rfl
    rw [e2]
    congr 2
    have hbi : b⁻¹ = ρ * ρ := by field_simp; linarith
    rw [hbi]
    ring

end Cert.Common

end
-- ==== Proof.Gate.lean ====
/-
  The gated half of the feed-forward block, forward and backward: `a = silu (hn · w1_gate) * (hn · w1_up)` and the gradient at
  the two halves of `hn · w1`. Region 0 leaves `a` and the two factors the gradient needs, region 1 multiplies them by the
  gradient that comes in.
-/
module

public import proofs.«01_k».proof.Defs
public import proofs.«01_k».proof.Proof.Gen.KernelIdeal.Frame
public import proofs.«01_k».proof.Proof.Gen.ReferenceIdeal.Run
public import proofs.«01_k».proof.Proof.Gen.ReferenceIdeal.Read
public import proofs.«01_k».proof.Proof.Common

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

/-! ## The run, with the two results -/

namespace Cert.KernelIdeal.Gate

open Cert.KernelIdeal Cert.KernelIdeal.Gen

variable {F : FTy → Type} [FloatOps F]
variable (m : (ℓ : Loc nD τ sig) → Buf (Elt F) ℓ) (ρ : Dev nD → PrngReg)

theorem W2_a (c : Dev nD) : W2 m ρ c (Proc.devRef .tc main_v0_1) = (dat0 (V0 m ρ) c).arrAt 4 cfg0.N :=
  (W2_of_ne m ρ c main_v0_1 (by decide)).trans (W1_arr m ρ c 4)

theorem W2_dgu (c : Dev nD) : W2 m ρ c (Proc.devRef .tc main_v1) = (dat1 (V1 m ρ) c).arrAt 3 cfg1.N := W2_arr m ρ c 3

theorem V1_gu (c : Dev nD) : V1 m ρ c main_v0_0 = (dat0 (V0 m ρ) c).arrAt 3 cfg0.N := W1_arr m ρ c 3
theorem V1_arg2 (c : Dev nD) : V1 m ρ c main_arg2 = m ((c : Thread nD τ).loc main_arg2) := W1_args m ρ c main_arg2 (by decide)
theorem V1_arg3 (c : Dev nD) : V1 m ρ c main_arg3 = m ((c : Thread nD τ).loc main_arg3) := W1_args m ρ c main_arg3 (by decide)

set_option backward.isDefEq.respectTransparency.types false in
/-- Every run ends with region 0's array and region 1's in the two results and the arguments as they were. -/
theorem run_blocks : θ_run defs (onTc (τ := τ) (main (F := F))) ⟨m, fun _ => 0, ρ⟩ (fun r => ∀ c : Dev nD,
      r.2.mem ((c.tc : Thread nD τ).loc main_v0_1) = (dat0 (V0 m ρ) c).arrAt 4 cfg0.N
      ∧ r.2.mem ((c.tc : Thread nD τ).loc main_v1) = (dat1 (V1 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ c =>
      ⟨(h c _ (mem_uc main_v0_1 (by decide))).trans (W2_a m ρ c),
       (h c _ (mem_uc main_v1 (by decide))).trans (W2_dgu m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

/-! ## Two slabs written one after the other -/

theorem canon_hi {e : EltTy} {n k : ℕ} (h1 h0) (p1 p0 : (⟨3, ![1, n, k]⟩ : Shape).Idx → Elt F e) (r : Fin n) (l : Fin k) :
    View.canon (Val := Elt F) (s := ⟨3, ![2, n, k]⟩) (e := e) [⟨Rect.unit ![1, 0, 0] ![1, n, k] h1, p1⟩, ⟨Rect.unit ![0, 0, 0] ![1, n, k] h0, p0⟩] (ix3 1 r l) = p1 (ix3 0 r l) := by
  have e1 : (ix3 1 r l : (⟨3, ![2, n, k]⟩ : Shape).Idx) = (Rect.unit (s := ⟨3, ![2, n, k]⟩) ![1, 0, 0] ![1, n, k] h1).emb (ix3 0 r l) := by
    funext a
    apply Fin.ext
    match a with
    | ⟨0, _⟩ => rfl
    | ⟨1, _⟩ => show r.val = 0 + 1 * r.val; omega
    | ⟨2, _⟩ => show l.val = 0 + 1 * l.val; omega
  rw [e1]
  exact View.canon_cons_emb _ _ _ _

theorem canon_lo {e : EltTy} {n k : ℕ} (h1 h0) (p1 p0 : (⟨3, ![1, n, k]⟩ : Shape).Idx → Elt F e) (r : Fin n) (l : Fin k) :
    View.canon (Val := Elt F) (s := ⟨3, ![2, n, k]⟩) (e := e) [⟨Rect.unit ![1, 0, 0] ![1, n, k] h1, p1⟩, ⟨Rect.unit ![0, 0, 0] ![1, n, k] h0, p0⟩] (ix3 0 r l) = p0 (ix3 0 r l) := by
  have e0 : (ix3 0 r l : (⟨3, ![2, n, k]⟩ : Shape).Idx) = (Rect.unit (s := ⟨3, ![2, n, k]⟩) ![0, 0, 0] ![1, n, k] h0).emb (ix3 0 r l) := by
    funext a
    apply Fin.ext
    match a with
    | ⟨0, _⟩ => rfl
    | ⟨1, _⟩ => show r.val = 0 + 1 * r.val; omega
    | ⟨2, _⟩ => show l.val = 0 + 1 * l.val; omega
  rw [View.canon_cons_of_not_mem _ _ (by
    rw [Rect.mem_set_unit]
    intro h
    exact absurd (h 0).1 (by show ¬ (1 ≤ 0); omega)), e0]
  exact View.canon_cons_emb _ _ _ _

theorem ld_hi {e : EltTy} {n k : ℕ} (h1) (X : (⟨3, ![2, n, k]⟩ : Shape).Idx → Elt F e) (r : Fin n) (l : Fin k) :
    View.ld (Val := Elt F) X (Rect.unit (s := ⟨3, ![2, n, k]⟩) ![1, 0, 0] ![1, n, k] h1) (ix3 0 r l) = X (ix3 1 r l) := by
  refine congrArg X ?_
  funext a
  apply Fin.ext
  match a with
  | ⟨0, _⟩ => rfl
  | ⟨1, _⟩ => show 0 + 1 * r.val = r.val; omega
  | ⟨2, _⟩ => show 0 + 1 * l.val = l.val; omega

theorem ld_lo {e : EltTy} {n k : ℕ} (h0) (X : (⟨3, ![2, n, k]⟩ : Shape).Idx → Elt F e) (r : Fin n) (l : Fin k) :
    View.ld (Val := Elt F) X (Rect.unit (s := ⟨3, ![2, n, k]⟩) ![0, 0, 0] ![1, n, k] h0) (ix3 0 r l) = X (ix3 0 r l) := by
  refine congrArg X ?_
  funext a
  apply Fin.ext
  match a with
  | ⟨0, _⟩ => rfl
  | ⟨1, _⟩ => show 0 + 1 * r.val = r.val; omega
  | ⟨2, _⟩ => show 0 + 1 * l.val = l.val; omega

/-! ## What the blocks hold -/

theorem hz2 : (![0, 0] : Fin 2 → Nat) = fun _ => 0 := funext fun a => by fin_cases a <;> rfl

theorem out4 (x0 : Vec F S512x1024 .bf16) (x1 x2 : Vec F S1024x1408 .bf16) : out0_4 x0 x1 x2 = k0_pay7 x0 x1 x2 := by
  unfold out0_4
  rw [View.canon_unit_zero hz2]
  simp only [View.ld_unit_zero (S := S512x1024) hz2, View.ld_unit_zero (S := S1024x1408) hz2]

theorem out3_lo (x0 : Vec F S512x1024 .bf16) (x1 x2 : Vec F S1024x1408 .bf16) (r : Fin 512) (l : Fin 1408) :
    (out0_3 x0 x1 x2 : Vec F S2x512x1408 .bf16) (ix3 0 r l) = (k0_pay5 x0 x1 x2 : FVec F S1x512x1408 .bf16) (ix3 0 r l) := by
  unfold out0_3
  refine (canon_lo _ _ _ _ r l).trans ?_
  simp only [View.ld_unit_zero (S := S512x1024) hz2, View.ld_unit_zero (S := S1024x1408) hz2]

theorem out3_hi (x0 : Vec F S512x1024 .bf16) (x1 x2 : Vec F S1024x1408 .bf16) (r : Fin 512) (l : Fin 1408) :
    (out0_3 x0 x1 x2 : Vec F S2x512x1408 .bf16) (ix3 1 r l) = (k0_pay6 x0 x1 : FVec F S1x512x1408 .bf16) (ix3 0 r l) := by
  unfold out0_3
  refine (canon_hi _ _ _ _ r l).trans ?_
  simp only [View.ld_unit_zero (S := S512x1024) hz2, View.ld_unit_zero (S := S1024x1408) hz2]

/-- Region 1's block: its two stores, each a slab. -/
theorem out1_eq (c : Dev nD) (i : grid1.Coords) (a3 h3 a4 h4 a5 h5 a6 h6 a7 h7) (x0 : Vec F S256x1024 .f32) (x1 : Vec F S2816x1024 .bf16) (x2 : Vec F S2x256x2816 .bf16) :
    out1_A_3 c i a3 h3 a4 h4 a5 h5 a6 h6 a7 h7 x0 x1 x2
      = View.canon [⟨Rect.unit (s := S2x256x2816) ![1, 0, 0] S1x256x2816.size inb_S2x256x2816_S1x256x2816_1_0_0, k1_pay3 x0 x1 (View.ld x2 (Rect.unit (s := S2x256x2816) ![1, 0, 0] S1x256x2816.size inb_S2x256x2816_S1x256x2816_1_0_0))⟩,
          ⟨Rect.unit (s := S2x256x2816) ![0, 0, 0] S1x256x2816.size inb_S2x256x2816_S1x256x2816_0_0_0, k1_pay2 x0 x1 (View.ld x2 (Rect.unit (s := S2x256x2816) ![0, 0, 0] S1x256x2816.size inb_S2x256x2816_S1x256x2816_0_0_0))⟩] := by
  unfold out1_A_3
  rw [View.read_writes_eq_canon _ _ _ (cover1_A_3 c i a3 h3 a4 h4 a5 h5 a6 h6 a7 h7 x0 x1 x2)]
  unfold kernelRun1_A
  dsimp only
  sl_unfold_words
  simp only [View.readAt_eq_ld, h3.read_unread, h4.read_unread, h5.read_unread, View.ld_unit_zero (S := S256x1024) hz2, View.ld_unit_zero (S := S2816x1024) hz2]

/-- Which blocks the windows are on. -/
theorem idx0_0 : ∀ t : Fin grid0.N, win0_0.index t 0 = t.val % 16 ∧ win0_0.index t 1 = 0 := by decide +kernel
theorem idx0_1 : ∀ t : Fin grid0.N, win0_1.index t 0 = 0 ∧ win0_1.index t 1 = t.val / 16 := by decide +kernel
theorem idx0_2 : ∀ t : Fin grid0.N, win0_2.index t 0 = 0 ∧ win0_2.index t 1 = t.val / 16 + 2 := by decide +kernel
theorem idx0_3 : ∀ t : Fin grid0.N, win0_3.index t 0 = 0 ∧ win0_3.index t 1 = t.val % 16 ∧ win0_3.index t 2 = t.val / 16 ∧ win0_3.flush t = true := by decide +kernel
theorem idx0_4 : ∀ t : Fin grid0.N, win0_4.index t 0 = t.val % 16 ∧ win0_4.index t 1 = t.val / 16 ∧ win0_4.flush t = true := by decide +kernel
theorem idx1_0 : ∀ t : Fin grid1.N, win1_0.index t 0 = t.val ∧ win1_0.index t 1 = 0 := by decide +kernel
theorem idx1_1 : ∀ t : Fin grid1.N, win1_1.index t 0 = 0 ∧ win1_1.index t 1 = 0 := by decide +kernel
theorem idx1_2 : ∀ t : Fin grid1.N, win1_2.index t 0 = 0 ∧ win1_2.index t 1 = t.val ∧ win1_2.index t 2 = 0 := by decide +kernel
theorem idx1_3 : ∀ t : Fin grid1.N, win1_3.index t 0 = 0 ∧ win1_3.index t 1 = t.val ∧ win1_3.index t 2 = 0 ∧ win1_3.flush t = true := by decide +kernel

theorem n0 : cfg0.N = 32 := by decide
theorem n1 : cfg1.N = 32 := by decide

/-- Row `r` and column `l` of region 0's block `t`, and the column among the other half's. -/
def row0 (t : Fin cfg0.N) (r : Fin 512) : Fin 8192 := ⟨t.val % 16 * 512 + r.val, by omega⟩
def col0 (t : Fin cfg0.N) (l : Fin 1408) : Fin 2816 := ⟨t.val / 16 * 1408 + l.val, by have := lt_of_lt_of_eq t.isLt n0; omega⟩
def lo (f : Fin 2816) : Fin 5632 := ⟨f.val, by omega⟩
def hi (f : Fin 2816) : Fin 5632 := ⟨2816 + f.val, by omega⟩
/-- Row `r` of region 1's block `t`. -/
def row1 (t : Fin cfg1.N) (r : Fin 256) : Fin 8192 := ⟨t.val * 256 + r.val, by have := lt_of_lt_of_eq t.isLt n1; omega⟩

section
variable (V : (c : Dev nD) → (b : Ref sig .tc) → Buf (Elt F) ((c : Thread nD τ).loc b))

theorem iblk0_0 (c : Dev nD) (t : Fin cfg0.N) (r : Fin 512) (k : Fin 1024) :
    (iblk0 V c 0 t : Vec F S512x1024 .bf16) (ix2 r k) = (V c main_arg0 : Vec F S8192x1024 .bf16) (ix2 (row0 t r) k) := by
  unfold iblk0
  rw [View.read_apply]
  show V c main_arg0 _ = V c main_arg0 _
  congr 1
  funext a
  apply Fin.ext
  match a with
  | ⟨0, _⟩ => show win0_0.index t 0 * 512 + 1 * r.val = t.val % 16 * 512 + r.val; rw [(idx0_0 t).1]; simp
  | ⟨1, _⟩ => show win0_0.index t 1 * 1024 + 1 * k.val = _; rw [(idx0_0 t).2]; simp

theorem iblk0_1 (c : Dev nD) (t : Fin cfg0.N) (k : Fin 1024) (l : Fin 1408) :
    (iblk0 V c 1 t : Vec F S1024x1408 .bf16) (ix2 k l) = (V c main_arg1 : Vec F S1024x5632 .bf16) (ix2 k (lo (col0 t l))) := by
  unfold iblk0
  rw [View.read_apply]
  show V c main_arg1 _ = V c main_arg1 _
  congr 1
  funext a
  apply Fin.ext
  match a with
  | ⟨0, _⟩ => show win0_1.index t 0 * 1024 + 1 * k.val = k.val; rw [(idx0_1 t).1]; simp
  | ⟨1, _⟩ => show win0_1.index t 1 * 1408 + 1 * l.val = t.val / 16 * 1408 + l.val; rw [(idx0_1 t).2]; simp

theorem iblk0_2 (c : Dev nD) (t : Fin cfg0.N) (k : Fin 1024) (l : Fin 1408) :
    (iblk0 V c 2 t : Vec F S1024x1408 .bf16) (ix2 k l) = (V c main_arg1 : Vec F S1024x5632 .bf16) (ix2 k (hi (col0 t l))) := by
  unfold iblk0
  rw [View.read_apply]
  show V c main_arg1 _ = V c main_arg1 _
  congr 1
  funext a
  apply Fin.ext
  match a with
  | ⟨0, _⟩ => show win0_2.index t 0 * 1024 + 1 * k.val = k.val; rw [(idx0_2 t).1]; simp
  | ⟨1, _⟩ => show win0_2.index t 1 * 1408 + 1 * l.val = 2816 + (t.val / 16 * 1408 + l.val); rw [(idx0_2 t).2]; omega

theorem iblk1_0 (c : Dev nD) (t : Fin cfg1.N) (r : Fin 256) (k : Fin 1024) :
    (iblk1 V c 0 t : Vec F S256x1024 .f32) (ix2 r k) = (V c main_arg3 : Vec F S8192x1024 .f32) (ix2 (row1 t r) k) := by
  unfold iblk1
  rw [View.read_apply]
  show V c main_arg3 _ = V c main_arg3 _
  congr 1
  funext a
  apply Fin.ext
  match a with
  | ⟨0, _⟩ => show win1_0.index t 0 * 256 + 1 * r.val = t.val * 256 + r.val; rw [(idx1_0 t).1]; simp
  | ⟨1, _⟩ => show win1_0.index t 1 * 1024 + 1 * k.val = _; rw [(idx1_0 t).2]; simp

theorem iblk1_1 (c : Dev nD) (t : Fin cfg1.N) (l : Fin 2816) (k : Fin 1024) :
    (iblk1 V c 1 t : Vec F S2816x1024 .bf16) (ix2 l k) = (V c main_arg2 : Vec F S2816x1024 .bf16) (ix2 l k) := by
  unfold iblk1
  rw [View.read_apply]
  show V c main_arg2 _ = V c main_arg2 _
  congr 1
  funext a
  apply Fin.ext
  match a with
  | ⟨0, _⟩ => show win1_1.index t 0 * 2816 + 1 * l.val = _; rw [(idx1_1 t).1]; simp
  | ⟨1, _⟩ => show win1_1.index t 1 * 1024 + 1 * k.val = _; rw [(idx1_1 t).2]; simp

theorem iblk1_2 (c : Dev nD) (t : Fin cfg1.N) (b : Fin 2) (r : Fin 256) (l : Fin 2816) :
    (iblk1 V c 2 t : Vec F S2x256x2816 .bf16) (ix3 b r l) = (V c main_v0_0 : Vec F S2x8192x2816 .bf16) (ix3 b (row1 t r) l) := by
  unfold iblk1
  rw [View.read_apply]
  show V c main_v0_0 _ = V c main_v0_0 _
  congr 1
  funext a
  apply Fin.ext
  match a with
  | ⟨0, _⟩ => show win1_2.index t 0 * 2 + 1 * b.val = b.val; rw [(idx1_2 t).1]; simp
  | ⟨1, _⟩ => show win1_2.index t 1 * 256 + 1 * r.val = t.val * 256 + r.val; rw [(idx1_2 t).2.1]; simp
  | ⟨2, _⟩ => show win1_2.index t 2 * 2816 + 1 * l.val = l.val; rw [(idx1_2 t).2.2]; simp

/-! ## The arrays -/

theorem mem_blk0_3 (t : Fin cfg0.N) (i : S2x8192x2816.Idx) :
    i ∈ ((cfg0.win 3).blk t).view.set ↔ ∀ a : Fin 3, win0_3.index t a * S2x512x1408.size a ≤ (i a).val ∧ (i a).val < win0_3.index t a * S2x512x1408.size a + S2x512x1408.size a := by
  show i ∈ ((View.whole main_v0_0).slice (win0_3.rect t)).set ↔ _
  rw [View.set_slice_whole, Rect.mem_set_unit]
  exact Iff.rfl

theorem covered0_3 (i : S2x8192x2816.Idx) : ∃ t : Fin cfg0.N, (cfg0.win 3).flush t = true ∧ i ∈ ((cfg0.win 3).blk t).view.set := by
  have h0 : (i 0).val < 2 := (i 0).isLt
  have h1 : (i 1).val < 8192 := (i 1).isLt
  have h2 : (i 2).val < 2816 := (i 2).isLt
  refine ⟨⟨(i 2).val / 1408 * 16 + (i 1).val / 512, by rw [n0]; omega⟩, (idx0_3 _).2.2.2, ?_⟩
  rw [mem_blk0_3]
  intro a
  match a with
  | ⟨0, _⟩ => show win0_3.index _ 0 * 2 ≤ (i 0 : Nat) ∧ (i 0 : Nat) < win0_3.index _ 0 * 2 + 2
              rw [(idx0_3 _).1]; omega
  | ⟨1, _⟩ => show win0_3.index _ 1 * 512 ≤ (i 1 : Nat) ∧ (i 1 : Nat) < win0_3.index _ 1 * 512 + 512
              rw [(idx0_3 _).2.1]; dsimp only; omega
  | ⟨2, _⟩ => show win0_3.index _ 2 * 1408 ≤ (i 2 : Nat) ∧ (i 2 : Nat) < win0_3.index _ 2 * 1408 + 1408
              rw [(idx0_3 _).2.2.1]; dsimp only; omega

theorem arr0_3_of (c : Dev nD) (G : Buf (Elt F) ((c : Thread nD τ).loc main_v0_0))
    (hlo : ∀ (t : Fin cfg0.N) (r : Fin 512) (l : Fin 1408), (k0_pay5 (iblk0 V c 0 t) (iblk0 V c 1 t) (iblk0 V c 2 t) : FVec F S1x512x1408 .bf16) (ix3 0 r l) = (G : Vec F S2x8192x2816 .bf16) (ix3 0 (row0 t r) (col0 t l)))
    (hhi : ∀ (t : Fin cfg0.N) (r : Fin 512) (l : Fin 1408), (k0_pay6 (iblk0 V c 0 t) (iblk0 V c 1 t) : FVec F S1x512x1408 .bf16) (ix3 0 r l) = (G : Vec F S2x8192x2816 .bf16) (ix3 1 (row0 t r) (col0 t l))) :
    (dat0 V c).arrAt 3 cfg0.N = G :=
  (dat0 V c).arrAt_eq_of_cover 3 G (fun t _ => by
      show (cfg0.win 3).cut (grid0.coords t) ((dat0 V c).after 3 t) = _
      rw [after0_3]
      funext y
      have e : (((cfg0.win 3).blk t).view.emb y) = ix3 (y 0) (row0 t (y 1)) (col0 t (y 2)) := by
        funext a
        apply Fin.ext
        match a with
        | ⟨0, _⟩ => show win0_3.index t 0 * 2 + 1 * (y 0).val = (y 0).val; rw [(idx0_3 t).1]; omega
        | ⟨1, _⟩ => show win0_3.index t 1 * 512 + 1 * (y 1).val = t.val % 16 * 512 + (y 1).val; rw [(idx0_3 t).2.1]; omega
        | ⟨2, _⟩ => show win0_3.index t 2 * 1408 + 1 * (y 2).val = t.val / 16 * 1408 + (y 2).val; rw [(idx0_3 t).2.2.1]; omega
      show (out0_3 (iblk0 V c 0 t) (iblk0 V c 1 t) (iblk0 V c 2 t) : Vec F S2x512x1408 .bf16) _ = G (((cfg0.win 3).blk t).view.emb y)
      refine Eq.trans ?_ (congrArg G e.symm)
      have hb : ∀ (b : Fin 2) (r : Fin 512) (l : Fin 1408), (out0_3 (iblk0 V c 0 t) (iblk0 V c 1 t) (iblk0 V c 2 t) : Vec F S2x512x1408 .bf16) (ix3 b r l) = (G : Vec F S2x8192x2816 .bf16) (ix3 b (row0 t r) (col0 t l)) := by
        intro b r l
        match b with
        | ⟨0, _⟩ => exact (out3_lo _ _ _ r l).trans (hlo t r l)
        | ⟨1, _⟩ => exact (out3_hi _ _ _ r l).trans (hhi t r l)
      refine (congrArg _ ?_).trans (hb (y 0) (y 1) (y 2))
      funext a
      match a with
      | ⟨0, _⟩ => rfl
      | ⟨1, _⟩ => rfl
      | ⟨2, _⟩ => rfl)
    covered0_3

theorem mem_blk0_4 (t : Fin cfg0.N) (i : S8192x2816.Idx) :
    i ∈ ((cfg0.win 4).blk t).view.set ↔ ∀ a : Fin 2, win0_4.index t a * S512x1408.size a ≤ (i a).val ∧ (i a).val < win0_4.index t a * S512x1408.size a + S512x1408.size a := by
  show i ∈ ((View.whole main_v0_1).slice (win0_4.rect t)).set ↔ _
  rw [View.set_slice_whole, Rect.mem_set_unit]
  exact Iff.rfl

theorem covered0_4 (i : S8192x2816.Idx) : ∃ t : Fin cfg0.N, (cfg0.win 4).flush t = true ∧ i ∈ ((cfg0.win 4).blk t).view.set := by
  have h0 : (i 0).val < 8192 := (i 0).isLt
  have h1 : (i 1).val < 2816 := (i 1).isLt
  refine ⟨⟨(i 1).val / 1408 * 16 + (i 0).val / 512, by rw [n0]; omega⟩, (idx0_4 _).2.2, ?_⟩
  rw [mem_blk0_4]
  intro a
  match a with
  | ⟨0, _⟩ => show win0_4.index _ 0 * 512 ≤ (i 0 : Nat) ∧ (i 0 : Nat) < win0_4.index _ 0 * 512 + 512
              rw [(idx0_4 _).1]; dsimp only; omega
  | ⟨1, _⟩ => show win0_4.index _ 1 * 1408 ≤ (i 1 : Nat) ∧ (i 1 : Nat) < win0_4.index _ 1 * 1408 + 1408
              rw [(idx0_4 _).2.1]; dsimp only; omega

theorem arr0_4_of (c : Dev nD) (G : Buf (Elt F) ((c : Thread nD τ).loc main_v0_1))
    (h : ∀ (t : Fin cfg0.N) (r : Fin 512) (l : Fin 1408), (k0_pay7 (iblk0 V c 0 t) (iblk0 V c 1 t) (iblk0 V c 2 t) : FVec F S512x1408 .bf16) (ix2 r l) = (G : Vec F S8192x2816 .bf16) (ix2 (row0 t r) (col0 t l))) :
    (dat0 V c).arrAt 4 cfg0.N = G :=
  (dat0 V c).arrAt_eq_of_cover 4 G (fun t _ => by
      show (cfg0.win 4).cut (grid0.coords t) ((dat0 V c).after 4 t) = _
      rw [after0_4, out4]
      funext y
      have e : (((cfg0.win 4).blk t).view.emb y) = ix2 (row0 t (y 0)) (col0 t (y 1)) := by
        funext a
        apply Fin.ext
        match a with
        | ⟨0, _⟩ => show win0_4.index t 0 * 512 + 1 * (y 0).val = t.val % 16 * 512 + (y 0).val; rw [(idx0_4 t).1]; omega
        | ⟨1, _⟩ => show win0_4.index t 1 * 1408 + 1 * (y 1).val = t.val / 16 * 1408 + (y 1).val; rw [(idx0_4 t).2.1]; omega
      show (k0_pay7 (iblk0 V c 0 t) (iblk0 V c 1 t) (iblk0 V c 2 t) : FVec F S512x1408 .bf16) _ = G (((cfg0.win 4).blk t).view.emb y)
      refine (congrArg _ ?_).trans ((h t (y 0) (y 1)).trans (congrArg G e.symm))
      funext a
      match a with
      | ⟨0, _⟩ => rfl
      | ⟨1, _⟩ => rfl)
    covered0_4

theorem mem_blk1_3 (t : Fin cfg1.N) (i : S2x8192x2816.Idx) :
    i ∈ ((cfg1.win 3).blk t).view.set ↔ ∀ a : Fin 3, win1_3.index t a * S2x256x2816.size a ≤ (i a).val ∧ (i a).val < win1_3.index t a * S2x256x2816.size a + S2x256x2816.size a := by
  show i ∈ ((View.whole main_v1).slice (win1_3.rect t)).set ↔ _
  rw [View.set_slice_whole, Rect.mem_set_unit]
  exact Iff.rfl

theorem covered1_3 (i : S2x8192x2816.Idx) : ∃ t : Fin cfg1.N, (cfg1.win 3).flush t = true ∧ i ∈ ((cfg1.win 3).blk t).view.set := by
  have h0 : (i 0).val < 2 := (i 0).isLt
  have h1 : (i 1).val < 8192 := (i 1).isLt
  have h2 : (i 2).val < 2816 := (i 2).isLt
  refine ⟨⟨(i 1).val / 256, by rw [n1]; omega⟩, (idx1_3 _).2.2.2, ?_⟩
  rw [mem_blk1_3]
  intro a
  match a with
  | ⟨0, _⟩ => show win1_3.index _ 0 * 2 ≤ (i 0 : Nat) ∧ (i 0 : Nat) < win1_3.index _ 0 * 2 + 2
              rw [(idx1_3 _).1]; omega
  | ⟨1, _⟩ => show win1_3.index _ 1 * 256 ≤ (i 1 : Nat) ∧ (i 1 : Nat) < win1_3.index _ 1 * 256 + 256
              rw [(idx1_3 _).2.1]; dsimp only; omega
  | ⟨2, _⟩ => show win1_3.index _ 2 * 2816 ≤ (i 2 : Nat) ∧ (i 2 : Nat) < win1_3.index _ 2 * 2816 + 2816
              rw [(idx1_3 _).2.2.1]; omega

theorem arr1_3_of (c : Dev nD) (G : Buf (Elt F) ((c : Thread nD τ).loc main_v1))
    (hlo : ∀ (t : Fin cfg1.N) (r : Fin 256) (l : Fin 2816) (y : FVec F S1x256x2816 .bf16), (∀ r l, y (ix3 0 r l) = (V c main_v0_0 : Vec F S2x8192x2816 .bf16) (ix3 0 (row1 t r) l)) →
      (k1_pay2 (iblk1 V c 0 t) (iblk1 V c 1 t) y : FVec F S1x256x2816 .bf16) (ix3 0 r l) = (G : Vec F S2x8192x2816 .bf16) (ix3 0 (row1 t r) l))
    (hhi : ∀ (t : Fin cfg1.N) (r : Fin 256) (l : Fin 2816) (y : FVec F S1x256x2816 .bf16), (∀ r l, y (ix3 0 r l) = (V c main_v0_0 : Vec F S2x8192x2816 .bf16) (ix3 1 (row1 t r) l)) →
      (k1_pay3 (iblk1 V c 0 t) (iblk1 V c 1 t) y : FVec F S1x256x2816 .bf16) (ix3 0 r l) = (G : Vec F S2x8192x2816 .bf16) (ix3 1 (row1 t r) l)) :
    (dat1 V c).arrAt 3 cfg1.N = G :=
  (dat1 V c).arrAt_eq_of_cover 3 G (fun t _ => by
      show (cfg1.win 3).cut (grid1.coords t) ((dat1 V c).after 3 t) = _
      rw [after1_3]
      unfold outsAt1
      rw [out1_eq]
      funext y
      have e : (((cfg1.win 3).blk t).view.emb y) = ix3 (y 0) (row1 t (y 1)) (y 2) := by
        funext a
        apply Fin.ext
        match a with
        | ⟨0, _⟩ => show win1_3.index t 0 * 2 + 1 * (y 0).val = (y 0).val; rw [(idx1_3 t).1]; omega
        | ⟨1, _⟩ => show win1_3.index t 1 * 256 + 1 * (y 1).val = t.val * 256 + (y 1).val; rw [(idx1_3 t).2.1]; omega
        | ⟨2, _⟩ => show win1_3.index t 2 * 2816 + 1 * (y 2).val = (y 2).val; rw [(idx1_3 t).2.2.1]; omega
      generalize hX : (View.canon _ : Vec F S2x256x2816 .bf16) = X
      show X _ = G (((cfg1.win 3).blk t).view.emb y)
      refine Eq.trans ?_ (congrArg G e.symm)
      have hb : ∀ (b : Fin 2) (r : Fin 256) (l : Fin 2816), X (ix3 b r l) = (G : Vec F S2x8192x2816 .bf16) (ix3 b (row1 t r) l) := by
        intro b r l
        rw [← hX]
        match b with
        | ⟨0, _⟩ => exact (canon_lo _ _ _ _ r l).trans (hlo t r l _ fun r l => (ld_lo _ _ r l).trans (iblk1_2 V c t 0 r l))
        | ⟨1, _⟩ => exact (canon_hi _ _ _ _ r l).trans (hhi t r l _ fun r l => (ld_hi _ _ r l).trans (iblk1_2 V c t 1 r l))
      refine (congrArg _ ?_).trans (hb (y 0) (y 1) (y 2))
      funext a
      match a with
      | ⟨0, _⟩ => rfl
      | ⟨1, _⟩ => rfl
      | ⟨2, _⟩ => rfl)
    covered1_3

end

end Cert.KernelIdeal.Gate

/-! ## Over the extended reals -/

namespace Cert.Gate

open Cert.KernelIdeal Cert.KernelIdeal.Gen Cert.KernelIdeal.Gate Cert.Common Cert.ReferenceIdeal.Read

/-- The sigmoid, as the kernel writes it. -/
def sg (g : EReal) : EReal := half + half * Ideal.tanh (half * g)

/-- The kernel's sigmoid is `1 / (1 + exp (-g))` at every extended real. -/
theorem sg_eq (g : EReal) : Ideal.div 1 (1 + Ideal.exp (-g)) = sg g := by
  show Ideal.logistic g = sg g
  unfold sg
  rw [half_eq]
  induction g using EReal.rec with
  | bot =>
    rw [Ideal.logistic_bot, EReal.coe_mul_bot_of_pos (by norm_num), Ideal.tanh_bot]
    rw [mul_neg_one, ← EReal.coe_neg, ← EReal.coe_add]
    norm_num
  | top =>
    rw [Ideal.logistic_top, EReal.coe_mul_top_of_pos (by norm_num), Ideal.tanh_top, mul_one, ← EReal.coe_add]
    norm_num
  | coe x =>
    rw [Ideal.logistic_coe, ← EReal.coe_mul, Ideal.tanh_coe, ← EReal.coe_mul, ← EReal.coe_add, Real.tanh_eq_sinh_div_cosh, Real.sinh_eq, Real.cosh_eq]
    congr 1
    have h1 : Real.exp (-x) = Real.exp (-(1 / 2 * x)) * Real.exp (-(1 / 2 * x)) := by rw [← Real.exp_add]; congr 1; ring
    have h2 : Real.exp (1 / 2 * x) * Real.exp (-(1 / 2 * x)) = 1 := by rw [← Real.exp_add]; simp
    have p1 := Real.exp_pos (1 / 2 * x)
    have p2 := Real.exp_pos (-(1 / 2 * x))
    rw [h1]
    generalize Real.exp (1 / 2 * x) = a at *
    generalize Real.exp (-(1 / 2 * x)) = b at *
    field_simp
    nlinarith [h2]

theorem sg_real (x : ℝ) : ∃ s : ℝ, sg (x : EReal) = (s : EReal) :=
  ⟨1 / 2 + 1 / 2 * Real.tanh (1 / 2 * x), by unfold sg; rw [half_eq, ← EReal.coe_mul, Ideal.tanh_coe, ← EReal.coe_mul, ← EReal.coe_add]⟩

theorem sg_top : sg ⊤ = 1 := by rw [← sg_eq]; exact Ideal.logistic_top
theorem sg_bot : sg ⊥ = 0 := by rw [← sg_eq]; exact Ideal.logistic_bot

/-- The other half times the derivative of `g * sigmoid g`, as the kernel writes it. -/
def slope (g u : EReal) : EReal := u * (sg g + g * sg g * (1 - sg g))

/-- The gradient at the gate: where `d * u` is finite, the kernel's product is the two terms differentiation gives. -/
theorem slope_eq (d g u : EReal) (ht : d * u ≠ ⊤) (hb : d * u ≠ ⊥) :
    d * slope g u = d * u * sg g + g * (d * u) * (sg g * (1 - sg g)) := by
  unfold slope
  rw [← mul_assoc]
  generalize d * u = t at *
  induction g using EReal.rec with
  | bot => simp [sg_bot]
  | top =>
    have : (1 : EReal) - 1 = 0 := by rw [← EReal.coe_one, ← EReal.coe_sub]; simp
    simp [sg_top, this]
  | coe x =>
    obtain ⟨s, hs⟩ := sg_real x
    rw [hs]
    lift t to ℝ using ⟨ht, hb⟩
    rw [← EReal.coe_one]
    norm_cast
    ring

/-- The products of a row with the two halves of the weights, `a`, and what region 0 leaves for the gradient. -/
def pre (h w : Fin 1024 → EReal) : EReal := ∑ k, h k * w k
def act (h g u : Fin 1024 → EReal) : EReal := pre h g * sg (pre h g) * pre h u

/-- The gradient at `a`, as the kernel writes it. -/
def dact (d w : Fin 1024 → EReal) : EReal := half * ∑ k, d k * w k

theorem pay7_apply (x0 : FVec Ideal S512x1024 .bf16) (x1 x2 : FVec Ideal S1024x1408 .bf16) (r : Fin 512) (l : Fin 1408) :
    (k0_pay7 x0 x1 x2 : FVec Ideal S512x1408 .bf16) (ix2 r l) = act (fun k => x0 (ix2 r k)) (fun k => x1 (ix2 k l)) (fun k => x2 (ix2 k l)) := by
  unfold act sg pre half
  pointwise [k0_pay7, k0_pay4, k0_pay3, k0_pay2, k0_pay1]

theorem pay5_apply (x0 : FVec Ideal S512x1024 .bf16) (x1 x2 : FVec Ideal S1024x1408 .bf16) (r : Fin 512) (l : Fin 1408) :
    (k0_pay5 x0 x1 x2 : FVec Ideal S1x512x1408 .bf16) (ix3 0 r l) = slope (pre (fun k => x0 (ix2 r k)) (fun k => x1 (ix2 k l))) (pre (fun k => x0 (ix2 r k)) (fun k => x2 (ix2 k l))) := by
  unfold slope sg pre half
  pointwise [k0_pay5, k0_pay4, k0_pay3, k0_pay2, k0_pay1]

theorem pay6_apply (x0 : FVec Ideal S512x1024 .bf16) (x1 : FVec Ideal S1024x1408 .bf16) (r : Fin 512) (l : Fin 1408) :
    (k0_pay6 x0 x1 : FVec Ideal S1x512x1408 .bf16) (ix3 0 r l) = pre (fun k => x0 (ix2 r k)) (fun k => x1 (ix2 k l)) * sg (pre (fun k => x0 (ix2 r k)) (fun k => x1 (ix2 k l))) := by
  unfold sg pre half
  pointwise [k0_pay6, k0_pay4, k0_pay3, k0_pay2, k0_pay1]

theorem dpay2_apply (x0 : FVec Ideal S256x1024 .f32) (x1 : FVec Ideal S2816x1024 .bf16) (y : FVec Ideal S1x256x2816 .bf16) (r : Fin 256) (l : Fin 2816) :
    (k1_pay2 x0 x1 y : FVec Ideal S1x256x2816 .bf16) (ix3 0 r l) = dact (fun k => x0 (ix2 r k)) (fun k => x1 (ix2 l k)) * y (ix3 0 r l) := by
  unfold dact half
  pointwise [k1_pay2, k1_pay1]

theorem dpay3_apply (x0 : FVec Ideal S256x1024 .f32) (x1 : FVec Ideal S2816x1024 .bf16) (y : FVec Ideal S1x256x2816 .bf16) (r : Fin 256) (l : Fin 2816) :
    (k1_pay3 x0 x1 y : FVec Ideal S1x256x2816 .bf16) (ix3 0 r l) = dact (fun k => x0 (ix2 r k)) (fun k => x1 (ix2 l k)) * y (ix3 0 r l) := by
  unfold dact half
  pointwise [k1_pay3, k1_pay1]

section
variable (x0 : FVec Ideal S8192x1024 .bf16) (x1 : FVec Ideal S1024x5632 .bf16) (x2 : FVec Ideal S2816x1024 .bf16) (x3 : FVec Ideal S8192x1024 .f32) (r : Fin 8192) (l : Fin 2816)

/-- The products at row `r` and column `l` of each half. -/
abbrev gOf : EReal := pre (fun k => x0 (ix2 r k)) (fun k => x1 (ix2 k (lo l)))
abbrev uOf : EReal := pre (fun k => x0 (ix2 r k)) (fun k => x1 (ix2 k (hi l)))
abbrev dOf : EReal := dact (fun k => x3 (ix2 r k)) (fun k => x2 (ix2 l k))

theorem dOf_eq : ∑ k : Fin 1024, Ideal.ofBits .f32 1056964608#32 * x3 (ix2 r k) * x2 (ix2 l k) = dOf x2 x3 r l := by
  unfold dOf dact
  rw [half_mul_sum]
  exact Finset.sum_congr rfl fun k _ => mul_assoc _ _ _

theorem ref_a : (val_main_v19 (F := Ideal) x0 x1 : FVec Ideal S8192x2816 .bf16) (ix2 r l) = act (fun k => x0 (ix2 r k)) (fun k => x1 (ix2 k (lo l))) (fun k => x1 (ix2 k (hi l))) := by
  unfold act
  rw [← sg_eq]
  unfold pre
  pointwise [val_main_v19, val_main_v18, val_main_v17, val_main_v5, val_main_v4, val_main_v3, val_main_v1, val_main_v0, val_main_call2_v5, val_main_call2_v4, val_main_call2_v3, val_main_call2_v2, val_main_call2_v1, val_main_call2_v0, val_main_call2_cst, val_main_call2_cst_0]
  first | done | rfl

theorem ref_lo : (val_main_v23 (F := Ideal) x0 x1 x2 x3 : FVec Ideal S2x8192x2816 .bf16) (ix3 0 r l)
    = dOf x2 x3 r l * uOf x0 x1 r l * sg (gOf x0 x1 r l) + gOf x0 x1 r l * (dOf x2 x3 r l * uOf x0 x1 r l) * (sg (gOf x0 x1 r l) * (1 - sg (gOf x0 x1 r l))) := by
  rw [← sg_eq, ← dOf_eq]
  unfold gOf uOf pre
  pointwise [val_main_v23, val_main_v22, val_main_v20, val_main_v16, val_main_call1_v2, val_main_call1_v1, val_main_call1_v0, val_main_v15, val_main_v13, val_main_v12, val_main_v11, val_main_cst_0, val_main_v5, val_main_v4, val_main_v3, val_main_v2, val_main_v1, val_main_v0, val_main_v6_1, val_main_v6_2, val_main_call0_v7, val_main_call0_v6, val_main_call0_v4, val_main_call0_v3, val_main_call0_v2, val_main_call0_v1, val_main_call0_v0, val_main_call0_cst, val_main_call0_cst_0, val_main_call0_cst_1]
  first | done | rfl

theorem ref_hi : (val_main_v23 (F := Ideal) x0 x1 x2 x3 : FVec Ideal S2x8192x2816 .bf16) (ix3 1 r l)
    = gOf x0 x1 r l * sg (gOf x0 x1 r l) * dOf x2 x3 r l := by
  rw [← sg_eq, ← dOf_eq]
  unfold gOf pre
  pointwise [val_main_v23, val_main_v22, val_main_v21, val_main_v14, val_main_v6_0, val_main_v13, val_main_v12, val_main_v11, val_main_cst_0, val_main_v4, val_main_v3, val_main_v2, val_main_v1, val_main_v0, val_main_v6_2, val_main_call0_v4, val_main_call0_v3, val_main_call0_v2, val_main_call0_v1, val_main_call0_v0, val_main_call0_cst, val_main_call0_cst_0]
  first | done | rfl

end

/-! ## The precondition -/

instance preFacts : Cert.Pre_finite_gate.Facts where
  bitsLt_bf16_f32 := by decide
  slices_S1024x5632_S1024x2816_0_2816 := by decide
  bcast_S_S8192x1024 := by decide
  transposes_S2816x1024_S1024x2816_1_0 := by decide
  bcast_S_S8192x2816 := by decide
  dot_S8192x1024_S1024x2816_S8192x2816_1_0_0_1_n_n_wf := by decide

theorem inf_eq : Ideal.ofBits .f32 0x7F800000#32 = ⊤ := by
  simp [Ideal.ofBits, Ideal.ieee]

theorem pre_finite (x0 : FVec Ideal S8192x1024 .bf16) (x1 : FVec Ideal S1024x5632 .bf16) (x2 : FVec Ideal S2816x1024 .bf16) (x3 : FVec Ideal S8192x1024 .f32)
    (h : Cert.Pre_finite_gate.fn (F := Ideal) x0 x1 x2 x3 = fun _ => 1#1) (r : Fin 8192) (l : Fin 2816) :
    dOf x2 x3 r l * uOf x0 x1 r l ≠ ⊤ ∧ dOf x2 x3 r l * uOf x0 x1 r l ≠ ⊥ := by
  have e : Cert.Pre_finite_gate.fn (F := Ideal) x0 x1 x2 x3 (ix2 r l)
      = BitVec.ofBool (decide (max (dOf x2 x3 r l * uOf x0 x1 r l) (-(dOf x2 x3 r l * uOf x0 x1 r l)) < Ideal.ofBits .f32 2139095040#32)) := by
    rw [← dOf_eq]
    unfold uOf pre
    pointwise [Cert.Pre_finite_gate.fn]
    first | done | rfl
  rw [h] at e
  have hlt : max (dOf x2 x3 r l * uOf x0 x1 r l) (-(dOf x2 x3 r l * uOf x0 x1 r l)) < Ideal.ofBits .f32 2139095040#32 := by
    by_contra hn
    rw [decide_eq_false hn] at e
    exact absurd (show (1#1 : BitVec 1) = BitVec.ofBool false from e) (by decide)
  rw [show Ideal.ofBits .f32 2139095040#32 = (⊤ : EReal) from inf_eq, max_lt_iff] at hlt
  refine ⟨hlt.1.ne, fun hb => ?_⟩
  rw [hb] at hlt
  exact absurd hlt.2 (by simp)

/-! ## The arrays -/

section
variable (m : (ℓ : Loc nD τ sig) → Buf (Elt Ideal) ℓ) (ρ : Dev nD → PrngReg) (c : Dev nD)

/-- The arguments. -/
abbrev hn : FVec Ideal S8192x1024 .bf16 := m ((c : Thread nD τ).loc main_arg0)
abbrev w1 : FVec Ideal S1024x5632 .bf16 := m ((c : Thread nD τ).loc main_arg1)
abbrev w2 : FVec Ideal S2816x1024 .bf16 := m ((c : Thread nD τ).loc main_arg2)
abbrev dres : FVec Ideal S8192x1024 .f32 := m ((c : Thread nD τ).loc main_arg3)

theorem blk_hn (t : Fin cfg0.N) (r : Fin 512) : (fun k => (iblk0 (V0 m ρ) c 0 t : Vec Ideal S512x1024 .bf16) (ix2 r k)) = fun k => hn m c (ix2 (row0 t r) k) :=
  funext fun k => iblk0_0 (V0 m ρ) c t r k
theorem blk_g (t : Fin cfg0.N) (l : Fin 1408) : (fun k => (iblk0 (V0 m ρ) c 1 t : Vec Ideal S1024x1408 .bf16) (ix2 k l)) = fun k => w1 m c (ix2 k (lo (col0 t l))) :=
  funext fun k => iblk0_1 (V0 m ρ) c t k l
theorem blk_u (t : Fin cfg0.N) (l : Fin 1408) : (fun k => (iblk0 (V0 m ρ) c 2 t : Vec Ideal S1024x1408 .bf16) (ix2 k l)) = fun k => w1 m c (ix2 k (hi (col0 t l))) :=
  funext fun k => iblk0_2 (V0 m ρ) c t k l

theorem a_eq : (dat0 (V0 m ρ) c).arrAt 4 cfg0.N = val_main_v19 (F := Ideal) (hn m c) (w1 m c) :=
  arr0_4_of (V0 m ρ) c _ fun t r l => by
    refine (pay7_apply _ _ _ r l).trans (Eq.trans ?_ (ref_a (hn m c) (w1 m c) (row0 t r) (col0 t l)).symm)
    rw [blk_hn, blk_g, blk_u]

/-- What region 0 leaves for the gradient. -/
def gu : FVec Ideal S2x8192x2816 .bf16 := fun i =>
  if (i 0).val = 0 then slope (gOf (hn m c) (w1 m c) (i 1) (i 2)) (uOf (hn m c) (w1 m c) (i 1) (i 2))
  else gOf (hn m c) (w1 m c) (i 1) (i 2) * sg (gOf (hn m c) (w1 m c) (i 1) (i 2))

theorem gu_lo (r : Fin 8192) (l : Fin 2816) : gu m c (ix3 0 r l) = slope (gOf (hn m c) (w1 m c) r l) (uOf (hn m c) (w1 m c) r l) := rfl
theorem gu_hi (r : Fin 8192) (l : Fin 2816) : gu m c (ix3 1 r l) = gOf (hn m c) (w1 m c) r l * sg (gOf (hn m c) (w1 m c) r l) := rfl

theorem gu_eq : (dat0 (V0 m ρ) c).arrAt 3 cfg0.N = gu m c :=
  arr0_3_of (V0 m ρ) c _ (fun t r l => by
    refine (pay5_apply _ _ _ r l).trans (Eq.trans ?_ (gu_lo m c (row0 t r) (col0 t l)).symm)
    rw [blk_hn, blk_g, blk_u]) (fun t r l => by
    refine (pay6_apply _ _ r l).trans (Eq.trans ?_ (gu_hi m c (row0 t r) (col0 t l)).symm)
    rw [blk_hn, blk_g])

theorem blk_dres (t : Fin cfg1.N) (r : Fin 256) : (fun k => (iblk1 (V1 m ρ) c 0 t : Vec Ideal S256x1024 .f32) (ix2 r k)) = fun k => dres m c (ix2 (row1 t r) k) :=
  funext fun k => (iblk1_0 (V1 m ρ) c t r k).trans (congrFun (V1_arg3 m ρ c) _)
theorem blk_w2 (t : Fin cfg1.N) (l : Fin 2816) : (fun k => (iblk1 (V1 m ρ) c 1 t : Vec Ideal S2816x1024 .bf16) (ix2 l k)) = fun k => w2 m c (ix2 l k) :=
  funext fun k => (iblk1_1 (V1 m ρ) c t l k).trans (congrFun (V1_arg2 m ρ c) _)

theorem dgu_eq (h : Cert.Pre_finite_gate.fn (F := Ideal) (hn m c) (w1 m c) (w2 m c) (dres m c) = fun _ => 1#1) :
    (dat1 (V1 m ρ) c).arrAt 3 cfg1.N = val_main_v23 (F := Ideal) (hn m c) (w1 m c) (w2 m c) (dres m c) :=
  arr1_3_of (V1 m ρ) c _ (fun t r l y hy => by
    refine (dpay2_apply _ _ _ r l).trans (Eq.trans ?_ (ref_lo (hn m c) (w1 m c) (w2 m c) (dres m c) (row1 t r) l).symm)
    rw [blk_dres, blk_w2, hy, (V1_gu m ρ c).trans (gu_eq m ρ c), gu_lo]
    exact slope_eq _ _ _ (pre_finite _ _ _ _ h (row1 t r) l).1 (pre_finite _ _ _ _ h (row1 t r) l).2) (fun t r l y hy => by
    refine (dpay3_apply _ _ _ r l).trans (Eq.trans ?_ (ref_hi (hn m c) (w1 m c) (w2 m c) (dres m c) (row1 t r) l).symm)
    rw [blk_dres, blk_w2, hy, (V1_gu m ρ c).trans (gu_eq m ρ c), gu_hi]
    exact mul_comm _ _)

end

theorem alg : algebraic_KernelIdeal_ReferenceIdeal_pre_finite_gate (hKernelIdeal := Cert.KernelIdeal.Gen.facts) (hReferenceIdeal := Cert.ReferenceIdeal.Gen.facts) (hPre_finite_gate := preFacts) := by
  intro m g m' g' hp hag
  refine ⟨fun c => val_main_v19 (F := Ideal) (hn m c) (w1 m c), fun c => val_main_v23 (F := Ideal) (hn m c) (w1 m c) (w2 m c) (dres m c), ?_, ?_⟩
  · exact (θ_run _ _ _).mono (fun r h c => ⟨(h c).1.trans (a_eq m g c), (h c).2.1.trans (dgu_eq m g c (hp c)), (h c).2.2⟩) (run_blocks m g)
  · refine (θ_run _ _ _).mono (fun r h c => ⟨(h c).1.trans ?_, (h c).2.1.trans ?_, (h c).2.2⟩) (Cert.ReferenceIdeal.Value.run m' g')
    · refine (Cert.ReferenceIdeal.Read.val_main_v19_eq _ _).trans ?_
      rw [(hag c).1, (hag c).2.1]
    · refine (Cert.ReferenceIdeal.Read.val_main_v23_eq m' c).trans ?_
      rw [(hag c).1, (hag c).2.1, (hag c).2.2.1, (hag c).2.2.2]

end Cert.Gate

end
-- ==== Proof.Dw2.lean ====
/-
  The gradient at the feed-forward block's second weight: `½ · aᵀ · dres`, each block of rows of the result summed over
  four blocks of 2048 positions in a scratch buffer, written back after the fourth.
-/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import proofs.«01_k».proof.Proof.Common

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen

variable {F : FTy → Type} [FloatOps F]
variable (m : (ℓ : Loc nD τ sig) → Buf (Elt F) ℓ) (ρ : Dev nD → PrngReg)

theorem hz2 : (![0, 0] : Fin 2 → Nat) = fun _ => 0 := funext fun a => by fin_cases a <;> rfl

/-- At the first block of positions the scratch ends holding that block's product. -/
theorem sout_A (c : Dev nD) (i : grid0.Coords) (a3 h3 a4 h4 a5 h5 a6 h6 hc0 hc1 hc2) (x0 : Vec F S2048x1408 .bf16) (x1 : Vec F S2048x1024 .f32) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz2]
  unfold k0_pay2
  simp only [View.readAt_eq_ld, h3.read_unread, h4.read_unread, View.ld_unit_zero (S := S2048x1408) hz2, View.ld_unit_zero (S := S2048x1024) hz2, shapeCast_self]

/-- At a later one it ends holding what it held plus the block's product. -/
theorem sout_B (c : Dev nD) (i : grid0.Coords) (a3 h3 a4 h4 a5 h5 a6 h6 hc0 hc1 hc2) (x0 : Vec F S2048x1408 .bf16) (x1 : Vec F S2048x1024 .f32) (xs : Vec F S1408x1024 .f32) :
    sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero hz2]
  unfold k0_pay3
  simp only [View.readAt_eq_ld, h3.read_unread, h4.read_unread, h6.read_unread, View.ld_unit_zero (S := S2048x1408) hz2, View.ld_unit_zero (S := S2048x1024) hz2, View.ld_unit_zero (S := S1408x1024) hz2, shapeCast_self]

/-- At the last one the output block is half of that sum. -/
theorem out_C (c : Dev nD) (i : grid0.Coords) (a3 h3 a4 h4 a5 h5 a6 h6 hc0 hc1 hc2) (x0 : Vec F S2048x1408 .bf16) (x1 : Vec F S2048x1024 .f32) (xs : Vec F S1408x1024 .f32) :
    out0_C_2 c i a3 h3 a4 h4 a5 h5 a6 h6 hc0 hc1 hc2 x0 x1 xs = k0_pay4 (addf xs (k0_pay1 x0 x1)) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz2, View.readCov_unit_zero (S := S1408x1024) _ hz2]
  unfold k0_pay3
  simp only [View.readAt_eq_ld, h3.read_unread, h4.read_unread, h6.read_unread, View.ld_unit_zero (S := S2048x1408) hz2, View.ld_unit_zero (S := S2048x1024) hz2, View.ld_unit_zero (S := S1408x1024) hz2, shapeCast_self]

/-- The product of the blocks fetched at point `n`. -/
def prodAt (c : Dev nD) (n : ℕ) (h : n < cfg0.N) : FVec F S1408x1024 .f32 := k0_pay1 (iblk m c 0 ⟨n, h⟩) (iblk m c 1 ⟨n, h⟩)

theorem scr_first (c : Dev nD) (n : ℕ) (h : n < cfg0.N) (h0 : n % 4 = 0) : (outsAt0 m c n h).2 = prodAt m c n h := by
  have e := congrArg Prod.snd (outsAt0_A m c ⟨n, h⟩ h0 (by dsimp only; omega) (by dsimp only; omega))
  rw [sout_A] at e
  exact e

theorem scr_next (c : Dev nD) (n : ℕ) (h : n + 1 < cfg0.N) (h0 : 1 ≤ (n + 1) % 4) (h3 : (n + 1) % 4 ≠ 3) :
    (outsAt0 m c (n + 1) h).2 = addf (outsAt0 m c n (by omega)).2 (prodAt m c (n + 1) h) := by
  have e := congrArg Prod.snd (outsAt0_B m c ⟨n + 1, h⟩ (by dsimp only; omega) h0 h3)
  rw [sout_B] at e
  exact e

theorem out_last (c : Dev nD) (n : ℕ) (h : n + 1 < cfg0.N) (h3 : (n + 1) % 4 = 3) :
    (outsAt0 m c (n + 1) h).1 = k0_pay4 (addf (outsAt0 m c n (by omega)).2 (prodAt m c (n + 1) h)) := by
  have e := congrArg Prod.fst (outsAt0_C m c ⟨n + 1, h⟩ (by dsimp only; omega) (by dsimp only; omega) h3)
  rw [out_C] at e
  exact e

/-- What the last of a block's four points leaves in the output block. -/
theorem out_chain (c : Dev nD) (n : ℕ) (h : n + 3 < cfg0.N) (h0 : n % 4 = 0) :
    (outsAt0 m c (n + 3) h).1 = k0_pay4 (addf (addf (addf (prodAt m c n (by omega)) (prodAt m c (n + 1) (by omega))) (prodAt m c (n + 2) (by omega))) (prodAt m c (n + 3) h)) := by
  rw [out_last m c (n + 2) h (by omega), scr_next m c (n + 1) (by omega) (by omega) (by omega), scr_next m c n (by omega) (by omega) (by omega),
    scr_first m c n (by omega) h0]

/-- Which blocks the windows are on. -/
theorem idx0 : ∀ t : Fin grid0.N, win0_0.index t 0 = t.val % 4 ∧ win0_0.index t 1 = t.val / 4 := by decide +kernel
theorem idx1 : ∀ t : Fin grid0.N, win0_1.index t 0 = t.val % 4 ∧ win0_1.index t 1 = 0 := by decide +kernel
theorem idx2 : ∀ t : Fin grid0.N, win0_2.index t 0 = t.val / 4 ∧ win0_2.index t 1 = 0 := by decide +kernel

theorem iblk0_apply (c : Dev nD) (t : Fin cfg0.N) (r : Fin 2048) (k : Fin 1408) :
    (iblk m c 0 t : Vec F S2048x1408 .bf16) (ix2 r k)
      = m ((c : Thread nD τ).loc main_arg0) (ix2 ⟨(t.val % 4) * 2048 + r.val, by omega⟩ ⟨(t.val / 4) * 1408 + k.val, by
          have := lt_of_lt_of_eq t.isLt (show cfg0.N = 8 from N_0); omega⟩) := by
  unfold iblk
  rw [View.read_apply]
  show V m c main_arg0 _ = m (c.tc.loc main_arg0) _
  unfold V
  congr 1
  funext a
  apply Fin.ext
  match a with
  | ⟨0, _⟩ => show win0_0.index t 0 * 2048 + 1 * r.val = _; rw [(idx0 t).1]; simp
  | ⟨1, _⟩ => show win0_0.index t 1 * 1408 + 1 * k.val = _; rw [(idx0 t).2]; simp

theorem iblk1_apply (c : Dev nD) (t : Fin cfg0.N) (r : Fin 2048) (k : Fin 1024) :
    (iblk m c 1 t : Vec F S2048x1024 .f32) (ix2 r k)
      = m ((c : Thread nD τ).loc main_arg1) (ix2 ⟨(t.val % 4) * 2048 + r.val, by omega⟩ k) := by
  unfold iblk
  rw [View.read_apply]
  show V m c main_arg1 _ = m (c.tc.loc main_arg1) _
  unfold V
  congr 1
  funext a
  apply Fin.ext
  match a with
  | ⟨0, _⟩ => show win0_1.index t 0 * 2048 + 1 * r.val = _; rw [(idx1 t).1]; simp
  | ⟨1, _⟩ => show win0_1.index t 1 * 1024 + 1 * k.val = _; rw [(idx1 t).2]; simp

end Cert.Kernel2Ideal.Value

/-! ## Over the extended reals -/

namespace Cert.Kernel2Ideal.Value

open Cert.Kernel2Ideal Cert.Kernel2Ideal.Gen Cert.Common

variable (m : (ℓ : Loc nD τ sig) → Buf (Elt Ideal) ℓ) (ρ : Dev nD → PrngReg)

/-- The gradient: half the sum over all positions. -/
def grad (a : S8192x2816.Idx → EReal) (d : S8192x1024.Idx → EReal) : S2816x1024.Idx → EReal := fun i =>
  half * ∑ k : Fin 8192, a (ix2 k (i 0)) * d (ix2 k (i 1))

/-- The rows of one array against the columns of another, over the positions of a block. -/
def blockSum (x : S2048x1408.Idx → EReal) (y : S2048x1024.Idx → EReal) (r : Fin 1408) (l : Fin 1024) : EReal :=
  ∑ k : Fin 2048, x (ix2 k r) * y (ix2 k l)

/-- A block's product at `(r, l)` sums over the block's positions. -/
theorem pay1_apply (x : FVec Ideal S2048x1408 .bf16) (y : FVec Ideal S2048x1024 .f32) (r : Fin 1408) (l : Fin 1024) :
    (k0_pay1 x y : FVec Ideal S1408x1024 .f32) (ix2 r l) = blockSum x y r l := by
  unfold blockSum
  pointwise [k0_pay1]

/-- The share of the block of positions `q`. -/
def part (a : S8192x2816.Idx → EReal) (d : S8192x1024.Idx → EReal) (R : Fin 2816) (l : Fin 1024) (q : Fin 4) : EReal :=
  ∑ k : Fin 2048, a (ix2 ⟨q.val * 2048 + k.val, by omega⟩ R) * d (ix2 ⟨q.val * 2048 + k.val, by omega⟩ l)

theorem prodAt_apply (c : Dev nD) (n : ℕ) (h : n < cfg0.N) (r : Fin 1408) (l : Fin 1024) (q : Fin 4) (hq : n % 4 = q.val) (R : Fin 2816)
    (hR : R.val = (n / 4) * 1408 + r.val) :
    prodAt m c n h (ix2 r l) = part (m ((c : Thread nD τ).loc main_arg0)) (m ((c : Thread nD τ).loc main_arg1)) R l q := by
  unfold prodAt
  refine (pay1_apply _ _ r l).trans ?_
  unfold blockSum part
  refine Finset.sum_congr rfl fun k _ => ?_
  refine congrArg₂ (fun u v : EReal => u * v) ((iblk0_apply m c ⟨n, h⟩ k r).trans ?_) ((iblk1_apply m c ⟨n, h⟩ k l).trans ?_)
  · exact congrArg₂ (fun u v => m ((c : Thread nD τ).loc main_arg0) (ix2 u v)) (Fin.ext (by simp [hq])) (Fin.ext hR.symm)
  · exact congrArg (fun u => m ((c : Thread nD τ).loc main_arg1) (ix2 u l)) (Fin.ext (by simp [hq]))

theorem pay4_apply (x : FVec Ideal S1408x1024 .f32) (r : Fin 1408) (l : Fin 1024) :
    (k0_pay4 x : FVec Ideal S1408x1024 .bf16) (ix2 r l) = half * x (ix2 r l) := by
  unfold half
  pointwise [k0_pay4]

/-- What the array ends holding. -/
theorem G2_eq (c : Dev nD) : G2 m c = grad (m ((c : Thread nD τ).loc main_arg0)) (m ((c : Thread nD τ).loc main_arg1)) := by
  funext i
  have h0 : (i 0).val < 2816 := (i 0).isLt
  have h1 : (i 1).val < 1024 := (i 1).isLt
  have hp : pt2Of i = 4 * ((i 0).val / 1408) + 3 := by
    show 4 * (1 * ((i 0).val / 1408 - 0) + 1 * ((i 1).val / 1024 - 0)) + 3 = _
    omega
  have hlt : 4 * ((i 0).val / 1408) + 3 < cfg0.N := by rw [show cfg0.N = 8 from N_0]; omega
  have hl : loc2Of i = ix2 ⟨(i 0).val % 1408, Nat.mod_lt _ (by decide)⟩ (i 1) := by
    funext a
    match a with
    | ⟨0, _⟩ => rfl
    | ⟨1, _⟩ => exact Fin.ext (Nat.mod_eq_of_lt h1)
  unfold G2
  rw [dif_pos (by rw [hp]; exact hlt), fold0_congr m c _ _ _ (by omega) hp, ← outsAt0_sweep m c _ hlt, hl, out_chain m c _ hlt (by omega)]
  unfold grad
  rw [Fin.sum_univ_tiles 4 2048 (by decide), Fin.sum_univ_four]
  refine (pay4_apply _ _ _).trans (congrArg (fun u => half * u) ?_)
  have e (q : Fin 4) (h : 4 * ((i 0).val / 1408) + q.val < cfg0.N) :
      prodAt m c (4 * ((i 0).val / 1408) + q.val) h (ix2 ⟨(i 0).val % 1408, Nat.mod_lt _ (by decide)⟩ (i 1)) = part _ _ (i 0) (i 1) q :=
    prodAt_apply m c _ h _ _ q (by omega) (i 0) (by
      show (i 0).val = (4 * ((i 0).val / 1408) + q.val) / 4 * 1408 + (i 0).val % 1408
      rw [show (4 * ((i 0).val / 1408) + q.val) / 4 = (i 0).val / 1408 from by omega]
      omega)
  exact congrArg₂ (fun u v : EReal => u + v) (congrArg₂ (fun u v : EReal => u + v) (congrArg₂ (fun u v : EReal => u + v) (e 0 _) (e 1 _)) (e 2 _)) (e 3 _)

end Cert.Kernel2Ideal.Value

/-! ## The reference -/

namespace Cert.Reference2Ideal.Value

open Cert.Reference2Ideal Cert.Reference2Ideal.Gen Cert.Reference2Ideal.Read Cert.Common

theorem ref_eq (a : FVec Ideal S8192x2816 .bf16) (d : FVec Ideal S8192x1024 .f32) :
    val_main_v9 (F := Ideal) a d = Cert.Kernel2Ideal.Value.grad a d := by
  funext i
  unfold Cert.Kernel2Ideal.Value.grad
  pointwise [val_main_v9, val_main_v8, val_main_v7, val_main_v6, val_main_v5, val_main_v1, val_main_cst_1]
  rw [half_mul_sum]
  refine Finset.sum_congr rfl fun k _ => ?_
  unfold half
  rw [mul_assoc, mul_comm (d _)]

end Cert.Reference2Ideal.Value

/-! ## The two together -/

namespace Cert.Dw2

open Cert.Kernel2Ideal.Value

theorem alg : algebraic_Kernel2Ideal_Reference2Ideal (hKernel2Ideal := Cert.Kernel2Ideal.Gen.facts) (hReference2Ideal := Cert.Reference2Ideal.Gen.facts) := by
  intro m g m' g' _ hag
  refine ⟨fun c => grad (m ((c.tc : Thread _ _).loc Cert.Kernel2Ideal.main_arg0)) (m ((c.tc : Thread _ _).loc Cert.Kernel2Ideal.main_arg1)), ?_, ?_⟩
  · exact (θ_run _ _ _).mono (fun r h c => ⟨(h c).1.trans (G2_eq m c), (h c).2⟩) (Cert.Kernel2Ideal.Value.run m g)
  · refine (θ_run _ _ _).mono (fun r h c => ⟨(h c).1.trans ?_, (h c).2⟩) (Cert.Reference2Ideal.Value.run m' g')
    refine (Cert.Reference2Ideal.Read.val_main_v9_eq _ _).trans ((Cert.Reference2Ideal.Value.ref_eq _ _).trans ?_)
    rw [(hag c).1, (hag c).2]

end Cert.Dw2

end
-- ==== Proof.Dw1.lean ====
/-
  The gradient at the feed-forward block's first weight: `hnᵀ · [dgate, dup]`, each block of columns of the result summed
  over four blocks of 2048 positions in a scratch buffer, written back after the fourth.
-/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import proofs.«01_k».proof.Proof.Common

@[expose] public section

set_option maxRecDepth 16384

noncomputable section

open Idealize.ShloMosaic Idealize.ShloMosaic.TcCoe Idealize.SL.Sem
open Idealize.ShloMosaic.Pipeline (Dat)

namespace Cert.Kernel3Ideal.Value

open Cert.Kernel3Ideal Cert.Kernel3Ideal.Gen

variable {F : FTy → Type} [FloatOps F]
variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- At the first block of positions the scratch ends holding that block's product. -/
theorem sout_A (c : Dev nD) (i : grid0.Coords) (a3 h3 a4 h4 a5 h5 a6 h6 hc0 hc1 hc2) (x0 : Vec F S2048x1024 .bf16) (x1 : Vec F S1x2048x1408 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz2]
  unfold k0_pay2
  simp only [View.readAt_eq_ld, h3.read_unread, h4.read_unread, View.ld_unit_zero (S := S2048x1024) hz2, View.ld_unit_zero (S := S1x2048x1408) hz3, shapeCast_self]

/-- At a later one it ends holding what it held plus the block's product. -/
theorem sout_B (c : Dev nD) (i : grid0.Coords) (a3 h3 a4 h4 a5 h5 a6 h6 hc0 hc1 hc2) (x0 : Vec F S2048x1024 .bf16) (x1 : Vec F S1x2048x1408 .bf16) (xs : Vec F S1024x1408 .f32) :
    sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero hz2]
  unfold k0_pay3
  simp only [View.readAt_eq_ld, h3.read_unread, h4.read_unread, h6.read_unread, View.ld_unit_zero (S := S2048x1024) hz2, View.ld_unit_zero (S := S1x2048x1408) hz3, View.ld_unit_zero (S := S1024x1408) hz2, shapeCast_self]

/-- At the last one the output block is that sum. -/
theorem out_C (c : Dev nD) (i : grid0.Coords) (a3 h3 a4 h4 a5 h5 a6 h6 hc0 hc1 hc2) (x0 : Vec F S2048x1024 .bf16) (x1 : Vec F S1x2048x1408 .bf16) (xs : Vec F S1024x1408 .f32) :
    out0_C_2 c i a3 h3 a4 h4 a5 h5 a6 h6 hc0 hc1 hc2 x0 x1 xs = k0_pay4 (addf xs (k0_pay1 x0 x1)) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz2, View.readCov_unit_zero (S := S1024x1408) _ hz2]
  unfold k0_pay3
  simp only [View.readAt_eq_ld, h3.read_unread, h4.read_unread, h6.read_unread, View.ld_unit_zero (S := S2048x1024) hz2, View.ld_unit_zero (S := S1x2048x1408) hz3, View.ld_unit_zero (S := S1024x1408) hz2, shapeCast_self]

/-- The product of the blocks fetched at point `n`. -/
def prodAt (c : Dev nD) (n : ℕ) (h : n < cfg0.N) : FVec F S1024x1408 .f32 := k0_pay1 (iblk m c 0 ⟨n, h⟩) (iblk m c 1 ⟨n, h⟩)

theorem scr_first (c : Dev nD) (n : ℕ) (h : n < cfg0.N) (h0 : n % 4 = 0) : (outsAt0 m c n h).2 = prodAt m c n h := by
  have e := congrArg Prod.snd (outsAt0_A m c ⟨n, h⟩ h0 (by dsimp only; omega) (by dsimp only; omega))
  rw [sout_A] at e
  exact e

theorem scr_next (c : Dev nD) (n : ℕ) (h : n + 1 < cfg0.N) (h0 : 1 ≤ (n + 1) % 4) (h3 : (n + 1) % 4 ≠ 3) :
    (outsAt0 m c (n + 1) h).2 = addf (outsAt0 m c n (by omega)).2 (prodAt m c (n + 1) h) := by
  have e := congrArg Prod.snd (outsAt0_B m c ⟨n + 1, h⟩ (by dsimp only; omega) h0 h3)
  rw [sout_B] at e
  exact e

theorem out_last (c : Dev nD) (n : ℕ) (h : n + 1 < cfg0.N) (h3 : (n + 1) % 4 = 3) :
    (outsAt0 m c (n + 1) h).1 = k0_pay4 (addf (outsAt0 m c n (by omega)).2 (prodAt m c (n + 1) h)) := by
  have e := congrArg Prod.fst (outsAt0_C m c ⟨n + 1, h⟩ (by dsimp only; omega) (by dsimp only; omega) h3)
  rw [out_C] at e
  exact e

/-- What the last of a block's four points leaves in the output block. -/
theorem out_chain (c : Dev nD) (n : ℕ) (h : n + 3 < cfg0.N) (h0 : n % 4 = 0) :
    (outsAt0 m c (n + 3) h).1 = k0_pay4 (addf (addf (addf (prodAt m c n (by omega)) (prodAt m c (n + 1) (by omega))) (prodAt m c (n + 2) (by omega))) (prodAt m c (n + 3) h)) := by
  rw [out_last m c (n + 2) h (by omega), scr_next m c (n + 1) (by omega) (by omega) (by omega), scr_next m c n (by omega) (by omega) (by omega),
    scr_first m c n (by omega) h0]

/-- Which blocks the windows are on. -/
theorem idx0 : ∀ t : Fin grid0.N, win0_0.index t 0 = t.val % 4 ∧ win0_0.index t 1 = 0 := by decide +kernel
theorem idx1 : ∀ t : Fin grid0.N, win0_1.index t 0 = t.val / 8 ∧ win0_1.index t 1 = t.val % 4 ∧ win0_1.index t 2 = (t.val / 4) % 2 := by decide +kernel

theorem iblk0_apply (c : Dev nD) (t : Fin cfg0.N) (r : Fin 2048) (k : Fin 1024) :
    (iblk m c 0 t : Vec F S2048x1024 .bf16) (ix2 r k)
      = m ((c : Thread nD τ).loc main_arg0) (ix2 ⟨(t.val % 4) * 2048 + r.val, by omega⟩ k) := by
  unfold iblk
  rw [View.read_apply]
  show V m c main_arg0 _ = m (c.tc.loc main_arg0) _
  unfold V
  congr 1
  funext a
  apply Fin.ext
  match a with
  | ⟨0, _⟩ => show win0_0.index t 0 * 2048 + 1 * r.val = _; rw [(idx0 t).1]; simp
  | ⟨1, _⟩ => show win0_0.index t 1 * 1024 + 1 * k.val = _; rw [(idx0 t).2]; simp

theorem iblk1_apply (c : Dev nD) (t : Fin cfg0.N) (r : Fin 2048) (k : Fin 1408) :
    (iblk m c 1 t : Vec F S1x2048x1408 .bf16) (ix3 0 r k)
      = m ((c : Thread nD τ).loc main_arg1) (ix3 ⟨t.val / 8, by have := lt_of_lt_of_eq t.isLt (show cfg0.N = 16 from N_0); omega⟩
          ⟨(t.val % 4) * 2048 + r.val, by omega⟩ ⟨((t.val / 4) % 2) * 1408 + k.val, by omega⟩) := by
  unfold iblk
  rw [View.read_apply]
  show V m c main_arg1 _ = m (c.tc.loc main_arg1) _
  unfold V
  congr 1
  funext a
  apply Fin.ext
  match a with
  | ⟨0, _⟩ => show win0_1.index t 0 * 1 + 1 * (0 : Fin 1).val = _; rw [(idx1 t).1]; simp
  | ⟨1, _⟩ => show win0_1.index t 1 * 2048 + 1 * r.val = _; rw [(idx1 t).2.1]; simp
  | ⟨2, _⟩ => show win0_1.index t 2 * 1408 + 1 * k.val = _; rw [(idx1 t).2.2]; simp

end Cert.Kernel3Ideal.Value

/-! ## Over the extended reals -/

namespace Cert.Kernel3Ideal.Value

open Cert.Kernel3Ideal Cert.Kernel3Ideal.Gen Cert.Common

variable (m : (ℓ : Loc nD τ sig) → Buf (Elt Ideal) ℓ) (ρ : Dev nD → PrngReg)

/-- The gradient: the sum over all positions; columns of the gate's half first, then the other's. -/
def grad (a : S8192x1024.Idx → EReal) (d : S2x8192x2816.Idx → EReal) : S1024x5632.Idx → EReal := fun i =>
  ∑ k : Fin 8192, a (ix2 k (i 0)) * d (ix3 ⟨(i 1).val / 2816, by have : (i 1).val < 5632 := (i 1).isLt; show _ < 2; omega⟩ k ⟨(i 1).val % 2816, Nat.mod_lt _ (by decide)⟩)

/-- The columns of one array against the columns of another, over the positions of a block. -/
def blockSum (x : S2048x1024.Idx → EReal) (y : S1x2048x1408.Idx → EReal) (r : Fin 1024) (l : Fin 1408) : EReal :=
  ∑ k : Fin 2048, x (ix2 k r) * y (ix3 0 k l)

/-- A block's product at `(r, l)` sums over the block's positions. -/
theorem pay1_apply (x : FVec Ideal S2048x1024 .bf16) (y : FVec Ideal S1x2048x1408 .bf16) (r : Fin 1024) (l : Fin 1408) :
    (k0_pay1 x y : FVec Ideal S1024x1408 .f32) (ix2 r l) = blockSum x y r l := by
  unfold blockSum
  pointwise [k0_pay1]

/-- The share of the block of positions `q`. -/
def part (a : S8192x1024.Idx → EReal) (d : S2x8192x2816.Idx → EReal) (r : Fin 1024) (p : Fin 2) (L : Fin 2816) (q : Fin 4) : EReal :=
  ∑ k : Fin 2048, a (ix2 ⟨q.val * 2048 + k.val, by omega⟩ r) * d (ix3 p ⟨q.val * 2048 + k.val, by omega⟩ L)

theorem prodAt_apply (c : Dev nD) (n : ℕ) (h : n < cfg0.N) (r : Fin 1024) (l : Fin 1408) (q : Fin 4) (hq : n % 4 = q.val) (p : Fin 2) (L : Fin 2816)
    (hp : p.val = n / 8) (hL : L.val = ((n / 4) % 2) * 1408 + l.val) :
    prodAt m c n h (ix2 r l) = part (m ((c : Thread nD τ).loc main_arg0)) (m ((c : Thread nD τ).loc main_arg1)) r p L q := by
  unfold prodAt
  refine (pay1_apply _ _ r l).trans ?_
  unfold blockSum part
  refine Finset.sum_congr rfl fun k _ => ?_
  refine congrArg₂ (fun u v : EReal => u * v) ((iblk0_apply m c ⟨n, h⟩ k r).trans ?_) ((iblk1_apply m c ⟨n, h⟩ k l).trans ?_)
  · exact congrArg (fun u => m ((c : Thread nD τ).loc main_arg0) (ix2 u r)) (Fin.ext (by simp [hq]))
  · refine congrArg (m ((c : Thread nD τ).loc main_arg1)) ?_
    rw [show (⟨n / 8, _⟩ : Fin 2) = p from Fin.ext hp.symm, show (⟨((n / 4) % 2) * 1408 + l.val, _⟩ : Fin 2816) = L from Fin.ext hL.symm,
      show (⟨(n % 4) * 2048 + k.val, _⟩ : Fin 8192) = ⟨q.val * 2048 + k.val, _⟩ from Fin.ext (by simp [hq])]

/-- What the array ends holding. -/
theorem G2_eq (c : Dev nD) : G2 m c = grad (m ((c : Thread nD τ).loc main_arg0)) (m ((c : Thread nD τ).loc main_arg1)) := by
  funext i
  have h0 : (i 0).val < 1024 := (i 0).isLt
  have h1 : (i 1).val < 5632 := (i 1).isLt
  have hp : pt2Of i = 4 * ((i 1).val / 1408) + 3 := by
    show 4 * (4 * ((i 0).val / 1024 - 0) + 1 * ((i 1).val / 1408 - 0)) + 3 = _
    omega
  have hlt : 4 * ((i 1).val / 1408) + 3 < cfg0.N := by rw [show cfg0.N = 16 from N_0]; omega
  have hl : loc2Of i = ix2 (i 0) ⟨(i 1).val % 1408, Nat.mod_lt _ (by decide)⟩ := by
    funext a
    match a with
    | ⟨0, _⟩ => exact Fin.ext (Nat.mod_eq_of_lt h0)
    | ⟨1, _⟩ => rfl
  unfold G2
  rw [dif_pos (by rw [hp]; exact hlt), fold0_congr m c _ _ _ (by omega) hp, ← outsAt0_sweep m c _ hlt, hl, out_chain m c _ hlt (by omega)]
  unfold grad
  rw [Fin.sum_univ_tiles 4 2048 (by decide), Fin.sum_univ_four]
  have e (q : Fin 4) (h : 4 * ((i 1).val / 1408) + q.val < cfg0.N) :
      prodAt m c (4 * ((i 1).val / 1408) + q.val) h (ix2 (i 0) ⟨(i 1).val % 1408, Nat.mod_lt _ (by decide)⟩)
        = part _ _ (i 0) ⟨(i 1).val / 2816, by show _ < 2; omega⟩ ⟨(i 1).val % 2816, Nat.mod_lt _ (by decide)⟩ q :=
    prodAt_apply m c _ h _ _ q (by omega) _ _ (by show (i 1).val / 2816 = _; omega) (by
      show (i 1).val % 2816 = (4 * ((i 1).val / 1408) + q.val) / 4 % 2 * 1408 + (i 1).val % 1408
      rw [show (4 * ((i 1).val / 1408) + q.val) / 4 = (i 1).val / 1408 from by omega]
      omega)
  exact congrArg₂ (fun u v : EReal => u + v) (congrArg₂ (fun u v : EReal => u + v) (congrArg₂ (fun u v : EReal => u + v) (e 0 _) (e 1 _)) (e 2 _)) (e 3 _)

end Cert.Kernel3Ideal.Value

/-! ## The reference -/

namespace Cert.Reference3Ideal.Value

open Cert.Reference3Ideal Cert.Reference3Ideal.Gen Cert.Reference3Ideal.Read Cert.Common

theorem ref_eq (a : FVec Ideal S8192x1024 .bf16) (d : FVec Ideal S2x8192x2816 .bf16) :
    val_main_v13 (F := Ideal) a d = Cert.Kernel3Ideal.Value.grad a d := by
  funext i
  unfold Cert.Kernel3Ideal.Value.grad
  pointwise [val_main_v13, val_main_v12, val_main_v11, val_main_v10, val_main_v9, val_main_v8, val_main_v7, val_main_v6, val_main_v2, val_main_v1]
  refine Finset.sum_congr rfl fun k _ => ?_
  have h1 : (i 1).val < 5632 := (i 1).isLt
  rw [mul_comm]
  refine congrArg (fun u : EReal => a (ix2 k (i 0)) * u) ?_
  split
  · rename_i h
    exact congrArg₂ (fun u v => d (ix3 u k v)) (Fin.ext (by show 0 = (i 1).val / 2816; omega)) (Fin.ext (by show (i 1).val = (i 1).val % 2816; omega))
  · rename_i h
    exact congrArg₂ (fun u v => d (ix3 u k v)) (Fin.ext (by show 1 = (i 1).val / 2816; omega)) (Fin.ext (by show (i 1).val - 2816 = (i 1).val % 2816; omega))

end Cert.Reference3Ideal.Value

/-! ## The two together -/

namespace Cert.Dw1

open Cert.Kernel3Ideal.Value

theorem alg : algebraic_Kernel3Ideal_Reference3Ideal (hKernel3Ideal := Cert.Kernel3Ideal.Gen.facts) (hReference3Ideal := Cert.Reference3Ideal.Gen.facts) := by
  intro m g m' g' _ hag
  refine ⟨fun c => grad (m ((c.tc : Thread _ _).loc Cert.Kernel3Ideal.main_arg0)) (m ((c.tc : Thread _ _).loc Cert.Kernel3Ideal.main_arg1)), ?_, ?_⟩
  · exact (θ_run _ _ _).mono (fun r h c => ⟨(h c).1.trans (G2_eq m c), (h c).2⟩) (Cert.Kernel3Ideal.Value.run m g)
  · refine (θ_run _ _ _).mono (fun r h c => ⟨(h c).1.trans ?_, (h c).2⟩) (Cert.Reference3Ideal.Value.run m' g')
    refine (Cert.Reference3Ideal.Read.val_main_v13_eq _ _).trans ((Cert.Reference3Ideal.Value.ref_eq _ _).trans ?_)
    rw [(hag c).1, (hag c).2]

end Cert.Dw1

end
-- ==== Proof.Dhn.lean ====
/-
  The gradient at the feed-forward block's input: the two halves' products against the first weight, and the norm's gradient
  of their sum row block by row block, the gradient at the norm's gain summed over the row blocks in the output's buffer.
-/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import proofs.«01_k».proof.Proof.Common

@[expose] public section

set_option maxRecDepth 16384

noncomputable section

open Idealize.ShloMosaic Idealize.ShloMosaic.TcCoe Idealize.SL.Sem
open Idealize.ShloMosaic.Pipeline (Dat)

namespace Cert.Kernel4Ideal.Value

open Cert.Kernel4Ideal Cert.Kernel4Ideal.Gen

variable {F : FTy → Type} [FloatOps F]
variable (m : (ℓ : Loc nD τ sig) → Buf (Elt F) ℓ) (ρ : Dev nD → PrngReg)

theorem hz2 : (![0, 0] : Fin 2 → Nat) = fun _ => 0 := funext fun a => by fin_cases a <;> rfl

theorem hz3 : (![0, 0, 0] : Fin 3 → Nat) = fun _ => 0 := funext fun a => by fin_cases a <;> rfl

theorem out_A_7 (c : Dev nD) (i : grid0.Coords) a3 h3 a4 h4 a5 h5 a6 h6 a7 h7 a8 h8 a9 h9 a10 h10 a11 h11 a12 h12 hc0 hc1 (x0 : Vec F S1x512x2816 .bf16) (x1 : Vec F S1024x2816 .bf16) (x2 : Vec F S1x512x2816 .bf16) (x3 : Vec F S1024x2816 .bf16) (x4 : Vec F S512x1024 .f32) (x5 : Vec F S1x1024 .f32) (x6 : Vec F S512x1024 .f32) :
    out0_A_7 c i a3 h3 a4 h4 a5 h5 a6 h6 a7 h7 a8 h8 a9 h9 a10 h10 a11 h11 a12 h12 hc0 hc1 x0 x1 x2 x3 x4 x5 x6 = k0_pay1 x6 (k0_pay7 x0 x1 x2 x3 x4 x5) := by
  unfold out0_A_7
  rw [View.read_writes_eq_canon _ _ _ (cover0_A_7 c i a3 h3 a4 h4 a5 h5 a6 h6 a7 h7 a8 h8 a9 h9 a10 h10 a11 h11 a12 h12 hc0 hc1 x0 x1 x2 x3 x4 x5 x6)]
  unfold kernelRun0_A
  dsimp only
  sl_unfold_words
  rw [View.canon_unit_zero hz2]
  simp only [View.readAt_eq_ld, h3.read_unread, h4.read_unread, h5.read_unread, h6.read_unread, h7.read_unread, h8.read_unread, h9.read_unread, h10.read_unread, h11.read_unread, View.ld_unit_zero (S := S1x512x2816) hz3, View.ld_unit_zero (S := S1024x2816) hz2, View.ld_unit_zero (S := S512x1024) hz2, View.ld_unit_zero (S := S1x1024) hz2, shapeCast_self]

theorem out_A_8 (c : Dev nD) (i : grid0.Coords) a3 h3 a4 h4 a5 h5 a6 h6 a7 h7 a8 h8 a9 h9 a10 h10 a11 h11 a12 h12 hc0 hc1 (x0 : Vec F S1x512x2816 .bf16) (x1 : Vec F S1024x2816 .bf16) (x2 : Vec F S1x512x2816 .bf16) (x3 : Vec F S1024x2816 .bf16) (x4 : Vec F S512x1024 .f32) (x5 : Vec F S1x1024 .f32) (x6 : Vec F S512x1024 .f32) :
    out0_A_8 c i a3 h3 a4 h4 a5 h5 a6 h6 a7 h7 a8 h8 a9 h9 a10 h10 a11 h11 a12 h12 hc0 hc1 x0 x1 x2 x3 x4 x5 x6 = k0_pay2 (k0_pay4 x0 x1 x2 x3) (k0_pay6 x4) := by
  unfold out0_A_8
  rw [View.read_writes_eq_canon _ _ _ (cover0_A_8 c i a3 h3 a4 h4 a5 h5 a6 h6 a7 h7 a8 h8 a9 h9 a10 h10 a11 h11 a12 h12 hc0 hc1 x0 x1 x2 x3 x4 x5 x6)]
  unfold kernelRun0_A
  dsimp only
  sl_unfold_words
  rw [View.canon_unit_zero hz2]
  simp only [View.readAt_eq_ld, h3.read_unread, h4.read_unread, h5.read_unread, h6.read_unread, h7.read_unread, h8.read_unread, h9.read_unread, h10.read_unread, h11.read_unread, View.ld_unit_zero (S := S1x512x2816) hz3, View.ld_unit_zero (S := S1024x2816) hz2, View.ld_unit_zero (S := S512x1024) hz2, View.ld_unit_zero (S := S1x1024) hz2, shapeCast_self]

theorem out_B_7 (c : Dev nD) (i : grid0.Coords) a3 h3 a4 h4 a5 h5 a6 h6 a7 h7 a8 h8 a9 h9 a10 h10 a11 h11 a12 h12 hc0 hc1 (x0 : Vec F S1x512x2816 .bf16) (x1 : Vec F S1024x2816 .bf16) (x2 : Vec F S1x512x2816 .bf16) (x3 : Vec F S1024x2816 .bf16) (x4 : Vec F S512x1024 .f32) (x5 : Vec F S1x1024 .f32) (x6 : Vec F S512x1024 .f32) (xo : Vec F S1x1024 .f32) :
    out0_B_7 c i a3 h3 a4 h4 a5 h5 a6 h6 a7 h7 a8 h8 a9 h9 a10 h10 a11 h11 a12 h12 hc0 hc1 x0 x1 x2 x3 x4 x5 x6 xo = k0_pay1 x6 (k0_pay7 x0 x1 x2 x3 x4 x5) := by
  unfold out0_B_7
  rw [View.read_writes_eq_canon _ _ _ (cover0_B_7 c i a3 h3 a4 h4 a5 h5 a6 h6 a7 h7 a8 h8 a9 h9 a10 h10 a11 h11 a12 h12 hc0 hc1 x0 x1 x2 x3 x4 x5 x6 xo)]
  unfold kernelRun0_B
  dsimp only
  sl_unfold_words
  rw [View.canon_unit_zero hz2]
  simp only [View.readAt_eq_ld, h3.read_unread, h4.read_unread, h5.read_unread, h6.read_unread, h7.read_unread, h8.read_unread, h9.read_unread, h10.read_unread, h11.read_unread, View.ld_unit_zero (S := S1x512x2816) hz3, View.ld_unit_zero (S := S1024x2816) hz2, View.ld_unit_zero (S := S512x1024) hz2, View.ld_unit_zero (S := S1x1024) hz2, shapeCast_self]

theorem out_B_8 (c : Dev nD) (i : grid0.Coords) a3 h3 a4 h4 a5 h5 a6 h6 a7 h7 a8 h8 a9 h9 a10 h10 a11 h11 a12 h12 hc0 hc1 (x0 : Vec F S1x512x2816 .bf16) (x1 : Vec F S1024x2816 .bf16) (x2 : Vec F S1x512x2816 .bf16) (x3 : Vec F S1024x2816 .bf16) (x4 : Vec F S512x1024 .f32) (x5 : Vec F S1x1024 .f32) (x6 : Vec F S512x1024 .f32) (xo : Vec F S1x1024 .f32) :
    out0_B_8 c i a3 h3 a4 h4 a5 h5 a6 h6 a7 h7 a8 h8 a9 h9 a10 h10 a11 h11 a12 h12 hc0 hc1 x0 x1 x2 x3 x4 x5 x6 xo = addf xo (k0_pay2 (k0_pay4 x0 x1 x2 x3) (k0_pay6 x4)) := by
  unfold out0_B_8
  rw [View.read_writes_eq_canon _ _ _ (cover0_B_8 c i a3 h3 a4 h4 a5 h5 a6 h6 a7 h7 a8 h8 a9 h9 a10 h10 a11 h11 a12 h12 hc0 hc1 x0 x1 x2 x3 x4 x5 x6 xo)]
  unfold kernelRun0_B
  dsimp only
  sl_unfold_words
  rw [View.canon_unit_zero hz2]
  unfold k0_pay3
  simp only [View.readAt_eq_ld, h3.read_unread, h4.read_unread, h5.read_unread, h6.read_unread, h7.read_unread, h8.read_unread, h9.read_unread, h10.read_unread, h11.read_unread, View.ld_unit_zero (S := S1x512x2816) hz3, View.ld_unit_zero (S := S1024x2816) hz2, View.ld_unit_zero (S := S512x1024) hz2, View.ld_unit_zero (S := S1x1024) hz2, shapeCast_self]

/-- Which blocks the windows are on. -/
theorem idx0 : ∀ t : Fin grid0.N, win0_0.index t 0 = 0 ∧ win0_0.index t 1 = t.val ∧ win0_0.index t 2 = 0 := by decide +kernel
theorem idx1 : ∀ t : Fin grid0.N, win0_1.index t 0 = 0 ∧ win0_1.index t 1 = 0 := by decide +kernel
theorem idx2 : ∀ t : Fin grid0.N, win0_2.index t 0 = 1 ∧ win0_2.index t 1 = t.val ∧ win0_2.index t 2 = 0 := by decide +kernel
theorem idx3 : ∀ t : Fin grid0.N, win0_3.index t 0 = 0 ∧ win0_3.index t 1 = 1 := by decide +kernel
theorem idx4 : ∀ t : Fin grid0.N, win0_4.index t 0 = t.val ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = t.val ∧ win0_6.index t 1 = 0 := by decide +kernel
theorem idx7 : ∀ t : Fin grid0.N, win0_7.index t 0 = t.val ∧ win0_7.index t 1 = 0 ∧ win0_7.flush t = true := by decide +kernel
theorem idx8 : ∀ t : Fin grid0.N, win0_8.index t 0 = 0 ∧ win0_8.index t 1 = 0 := by decide +kernel

/-- Row `r` of block `t`. -/
def row (t : Fin cfg0.N) (r : Fin 512) : Fin 8192 := ⟨t.val * 512 + r.val, by have := lt_of_lt_of_eq t.isLt (show cfg0.N = 16 from N_0); omega⟩
/-- The two halves of the first weight's columns. -/
def lo (k : Fin 2816) : Fin 5632 := ⟨k.val, by omega⟩
def hi (k : Fin 2816) : Fin 5632 := ⟨2816 + k.val, by omega⟩

theorem iblk0_apply (c : Dev nD) (t : Fin cfg0.N) (r : Fin 512) (k : Fin 2816) :
    (iblk m c 0 t : Vec F S1x512x2816 .bf16) (ix3 0 r k) = m ((c : Thread nD τ).loc main_arg0) (ix3 0 (row t r) k) := by
  unfold iblk
  rw [View.read_apply]
  show V m c main_arg0 _ = m (c.tc.loc main_arg0) _
  unfold V
  congr 1
  funext a
  apply Fin.ext
  match a with
  | ⟨0, _⟩ => show win0_0.index t 0 * 1 + 1 * 0 = 0; rw [(idx0 t).1]
  | ⟨1, _⟩ => show win0_0.index t 1 * 512 + 1 * r.val = t.val * 512 + r.val; rw [(idx0 t).2.1]; omega
  | ⟨2, _⟩ => show win0_0.index t 2 * 2816 + 1 * k.val = k.val; rw [(idx0 t).2.2]; omega

theorem iblk1_apply (c : Dev nD) (t : Fin cfg0.N) (l : Fin 1024) (k : Fin 2816) :
    (iblk m c 1 t : Vec F S1024x2816 .bf16) (ix2 l k) = m ((c : Thread nD τ).loc main_arg1) (ix2 l (lo k)) := by
  unfold iblk
  rw [View.read_apply]
  show V m c main_arg1 _ = m (c.tc.loc main_arg1) _
  unfold V
  congr 1
  funext a
  apply Fin.ext
  match a with
  | ⟨0, _⟩ => show win0_1.index t 0 * 1024 + 1 * l.val = l.val; rw [(idx1 t).1]; omega
  | ⟨1, _⟩ => show win0_1.index t 1 * 2816 + 1 * k.val = k.val; rw [(idx1 t).2]; omega

theorem iblk2_apply (c : Dev nD) (t : Fin cfg0.N) (r : Fin 512) (k : Fin 2816) :
    (iblk m c 2 t : Vec F S1x512x2816 .bf16) (ix3 0 r k) = m ((c : Thread nD τ).loc main_arg0) (ix3 1 (row t r) k) := by
  unfold iblk
  rw [View.read_apply]
  show V m c main_arg0 _ = m (c.tc.loc main_arg0) _
  unfold V
  congr 1
  funext a
  apply Fin.ext
  match a with
  | ⟨0, _⟩ => show win0_2.index t 0 * 1 + 1 * 0 = 1; rw [(idx2 t).1]
  | ⟨1, _⟩ => show win0_2.index t 1 * 512 + 1 * r.val = t.val * 512 + r.val; rw [(idx2 t).2.1]; omega
  | ⟨2, _⟩ => show win0_2.index t 2 * 2816 + 1 * k.val = k.val; rw [(idx2 t).2.2]; omega

theorem iblk3_apply (c : Dev nD) (t : Fin cfg0.N) (l : Fin 1024) (k : Fin 2816) :
    (iblk m c 3 t : Vec F S1024x2816 .bf16) (ix2 l k) = m ((c : Thread nD τ).loc main_arg1) (ix2 l (hi k)) := by
  unfold iblk
  rw [View.read_apply]
  show V m c main_arg1 _ = m (c.tc.loc main_arg1) _
  unfold V
  congr 1
  funext a
  apply Fin.ext
  match a with
  | ⟨0, _⟩ => show win0_3.index t 0 * 1024 + 1 * l.val = l.val; rw [(idx3 t).1]; omega
  | ⟨1, _⟩ => show win0_3.index t 1 * 2816 + 1 * k.val = 2816 + k.val; rw [(idx3 t).2]; omega

theorem iblk4_apply (c : Dev nD) (t : Fin cfg0.N) (r : Fin 512) (l : Fin 1024) :
    (iblk m c 4 t : Vec F S512x1024 .f32) (ix2 r l) = m ((c : Thread nD τ).loc main_arg2) (ix2 (row t r) l) := by
  unfold iblk
  rw [View.read_apply]
  show V m c main_arg2 _ = m (c.tc.loc main_arg2) _
  unfold V
  congr 1
  funext a
  apply Fin.ext
  match a with
  | ⟨0, _⟩ => show win0_4.index t 0 * 512 + 1 * r.val = t.val * 512 + r.val; rw [(idx4 t).1]; omega
  | ⟨1, _⟩ => show win0_4.index t 1 * 1024 + 1 * l.val = l.val; rw [(idx4 t).2]; omega

theorem iblk5_apply (c : Dev nD) (t : Fin cfg0.N) (l : Fin 1024) :
    (iblk m c 5 t : Vec F S1x1024 .f32) (ix2 0 l) = m ((c : Thread nD τ).loc main_arg3) (ix2 0 l) := by
  unfold iblk
  rw [View.read_apply]
  show V m c main_arg3 _ = m (c.tc.loc main_arg3) _
  unfold V
  congr 1
  funext a
  apply Fin.ext
  match a with
  | ⟨0, _⟩ => show win0_5.index t 0 * 1 + 1 * 0 = 0; rw [(idx5 t).1]
  | ⟨1, _⟩ => show win0_5.index t 1 * 1024 + 1 * l.val = l.val; rw [(idx5 t).2]; omega

theorem iblk6_apply (c : Dev nD) (t : Fin cfg0.N) (r : Fin 512) (l : Fin 1024) :
    (iblk m c 6 t : Vec F S512x1024 .f32) (ix2 r l) = m ((c : Thread nD τ).loc main_arg4) (ix2 (row t r) l) := by
  unfold iblk
  rw [View.read_apply]
  show V m c main_arg4 _ = m (c.tc.loc main_arg4) _
  unfold V
  congr 1
  funext a
  apply Fin.ext
  match a with
  | ⟨0, _⟩ => show win0_6.index t 0 * 512 + 1 * r.val = t.val * 512 + r.val; rw [(idx6 t).1]; omega
  | ⟨1, _⟩ => show win0_6.index t 1 * 1024 + 1 * l.val = l.val; rw [(idx6 t).2]; omega

/-- What point `n` leaves in the first output's block. -/
def dxAt (c : Dev nD) (n : ℕ) (h : n < cfg0.N) : FVec F S512x1024 .f32 :=
  k0_pay1 (iblk m c 6 ⟨n, h⟩) (k0_pay7 (iblk m c 0 ⟨n, h⟩) (iblk m c 1 ⟨n, h⟩) (iblk m c 2 ⟨n, h⟩) (iblk m c 3 ⟨n, h⟩) (iblk m c 4 ⟨n, h⟩) (iblk m c 5 ⟨n, h⟩))
/-- What it adds to the second output's. -/
def dgAt (c : Dev nD) (n : ℕ) (h : n < cfg0.N) : FVec F S1x1024 .f32 :=
  k0_pay2 (k0_pay4 (iblk m c 0 ⟨n, h⟩) (iblk m c 1 ⟨n, h⟩) (iblk m c 2 ⟨n, h⟩) (iblk m c 3 ⟨n, h⟩)) (k0_pay6 (iblk m c 4 ⟨n, h⟩))

theorem outs_zero (c : Dev nD) (h : 0 < cfg0.N) : outsAt0 m c 0 h = (dxAt m c 0 h, dgAt m c 0 h) := by
  have e := outsAt0_A m c ⟨0, h⟩ rfl (by dsimp only; omega)
  rw [out_A_7, out_A_8] at e
  exact e

theorem outs_succ (c : Dev nD) (n : ℕ) (h : n + 1 < cfg0.N) :
    outsAt0 m c (n + 1) h = (dxAt m c (n + 1) h, addf (outsAt0 m c n (by omega)).2 (dgAt m c (n + 1) h)) := by
  have hN : cfg0.N = 16 := N_0
  have e := outsAt0_B m c ⟨n + 1, h⟩ (by dsimp only; omega) (by dsimp only; omega)
  rw [out_B_7, out_B_8] at e
  exact e

theorem outs_dx (c : Dev nD) : ∀ (n : ℕ) (h : n < cfg0.N), (outsAt0 m c n h).1 = dxAt m c n h
  | 0, h => congrArg Prod.fst (outs_zero m c h)
  | n + 1, h => congrArg Prod.fst (outs_succ m c n h)

theorem mem_blk7 (t : Fin cfg0.N) (i : S8192x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v0_0).slice (win0_7.rect t)).set ↔ _
  rw [View.set_slice_whole, Rect.mem_set_unit]
  exact Iff.rfl

theorem covered7 (i : S8192x1024.Idx) : ∃ t : Fin cfg0.N, (cfg0.win 7).flush t = true ∧ i ∈ ((cfg0.win 7).blk t).view.set := by
  have h0 : (i 0).val < 8192 := (i 0).isLt
  have h1 : (i 1).val < 1024 := (i 1).isLt
  refine ⟨⟨(i 0).val / 512, by rw [show cfg0.N = 16 from N_0]; omega⟩, (idx7 _).2.2, ?_⟩
  rw [mem_blk7]
  intro a
  match a with
  | ⟨0, _⟩ => show win0_7.index _ 0 * 512 ≤ (i 0 : Nat) ∧ (i 0 : Nat) < win0_7.index _ 0 * 512 + 512
              rw [(idx7 _).1]; dsimp only; omega
  | ⟨1, _⟩ => show win0_7.index _ 1 * 1024 ≤ (i 1 : Nat) ∧ (i 1 : Nat) < win0_7.index _ 1 * 1024 + 1024
              rw [(idx7 _).2.1]; omega

/-- If what every point leaves in the first output's block is its rows of `G`, that array ends holding `G`. -/
theorem arr7_of (c : Dev nD) (G : Buf (Elt F) ((c : Thread nD τ).loc main_v0_0))
    (h : ∀ (t : Fin cfg0.N) (r : Fin 512) (l : Fin 1024), dxAt m c t.val t.isLt (ix2 r l) = G (ix2 (row t r) l)) :
    (dats m 0 c).arrAt 7 cfg0.N = G :=
  (dats m 0 c).arrAt_eq_of_cover 7 G (fun t _ => by
      rw [flushed7, outs_dx]
      funext y
      have e : (((cfg0.win 7).blk t).view.emb y) = ix2 (row t (y 0)) (y 1) := by
        funext a
        apply Fin.ext
        match a with
        | ⟨0, _⟩ => show win0_7.index t 0 * 512 + 1 * (y 0).val = t.val * 512 + (y 0).val; rw [(idx7 t).1]; omega
        | ⟨1, _⟩ => show win0_7.index t 1 * 1024 + 1 * (y 1).val = _; rw [(idx7 t).2.1]; show _ = (y 1).val; omega
      show dxAt m c t.val t.isLt _ = G (((cfg0.win 7).blk t).view.emb y)
      refine (congrArg _ ?_).trans ((h t (y 0) (y 1)).trans (congrArg G e.symm))
      funext a
      match a with
      | ⟨0, _⟩ => rfl
      | ⟨1, _⟩ => rfl)
    covered7

theorem mem_blk8 (t : Fin cfg0.N) (i : S1x1024.Idx) :
    i ∈ ((cfg0.win 8).blk t).view.set ↔ ∀ a : Fin 2, win0_8.index t a * S1x1024.size a ≤ (i a).val ∧ (i a).val < win0_8.index t a * S1x1024.size a + S1x1024.size a := by
  show i ∈ ((View.whole main_v0_1).slice (win0_8.rect t)).set ↔ _
  rw [View.set_slice_whole, Rect.mem_set_unit]
  exact Iff.rfl

theorem covered8 (i : S1x1024.Idx) : ∃ t : Fin cfg0.N, (cfg0.win 8).flush t = true ∧ i ∈ ((cfg0.win 8).blk t).view.set := by
  have h0 : (i 0).val < 1 := (i 0).isLt
  have h1 : (i 1).val < 1024 := (i 1).isLt
  refine ⟨⟨15, by rw [show cfg0.N = 16 from N_0]; omega⟩, (flush0_8 _).mpr rfl, ?_⟩
  rw [mem_blk8]
  intro a
  match a with
  | ⟨0, _⟩ => show win0_8.index _ 0 * 1 ≤ (i 0 : Nat) ∧ (i 0 : Nat) < win0_8.index _ 0 * 1 + 1
              rw [(idx8 _).1]; omega
  | ⟨1, _⟩ => show win0_8.index _ 1 * 1024 ≤ (i 1 : Nat) ∧ (i 1 : Nat) < win0_8.index _ 1 * 1024 + 1024
              rw [(idx8 _).2]; omega

/-- The second output's array ends holding what the last point leaves in its block. -/
theorem arr8_of (c : Dev nD) (G : Buf (Elt F) ((c : Thread nD τ).loc main_v0_1))
    (h : ∀ (h15 : 15 < cfg0.N) (l : Fin 1024), (outsAt0 m c 15 h15).2 (ix2 0 l) = G (ix2 0 l)) :
    (dats m 0 c).arrAt 8 cfg0.N = G :=
  (dats m 0 c).arrAt_eq_of_cover 8 G (fun t hf => by
      have ht : t.val = 15 := by
        have h1 := (flush0_8 t).mp hf
        have h2 := lt_of_lt_of_eq t.isLt (show cfg0.N = 16 from N_0)
        omega
      obtain ⟨n, hn⟩ := t
      dsimp only at ht
      subst ht
      rw [flushed8]
      funext y
      have hy : (y 0).val < 1 := (y 0).isLt
      have e : (((cfg0.win 8).blk ⟨15, hn⟩).view.emb y) = ix2 0 (y 1) := by
        funext a
        apply Fin.ext
        match a with
        | ⟨0, _⟩ => show win0_8.index _ 0 * 1 + 1 * (y 0).val = 0; rw [(idx8 _).1]; omega
        | ⟨1, _⟩ => show win0_8.index _ 1 * 1024 + 1 * (y 1).val = _; rw [(idx8 _).2]; show _ = (y 1).val; omega
      show (outsAt0 m c 15 hn).2 _ = G (((cfg0.win 8).blk _).view.emb y)
      refine (congrArg _ ?_).trans ((h hn (y 1)).trans (congrArg G e.symm))
      funext a
      match a with
      | ⟨0, _⟩ => exact Fin.ext (by show (y 0).val = 0; omega)
      | ⟨1, _⟩ => rfl)
    covered8

end Cert.Kernel4Ideal.Value

/-! ## Over the extended reals -/

namespace Cert.Dhn

open Cert.Kernel4Ideal Cert.Kernel4Ideal.Gen Cert.Kernel4Ideal.Value Cert.Common Cert.Reference4Ideal.Read

/-- A row of the gradient at the norm's output: the two halves against the two halves of the weight. -/
def dhRow (u v : Fin 2816 → EReal) (wu wv : Fin 1024 → Fin 2816 → EReal) (l : Fin 1024) : EReal :=
  ∑ k : Fin 2816, u k * wu l k + ∑ k : Fin 2816, v k * wv l k

/-- A row of the gradient at the norm's input, as the kernel writes it. -/
def dxRow (x y : Fin 1024 → EReal) (d : EReal) (l : Fin 1024) : EReal :=
  d + Ideal.rsqrt (sigma x) * (y l - (x l * Ideal.rsqrt (sigma x)) * Ideal.div (∑ j, y j * (x j * Ideal.rsqrt (sigma x))) (Ideal.ofBits .f32 0x44800000#32))

/-- The same, as the derivative reads. -/
theorem dxRow_eq (x y : Fin 1024 → EReal) (d : EReal) (l : Fin 1024) :
    dxRow x y d l = ((d + y l * Ideal.rsqrt (sigma x))
          + x l * Ideal.div ((∑ j, x j * y j) * (Ideal.ofBits .f32 0xBF000000#32 * Ideal.div (Ideal.rsqrt (sigma x)) (sigma x))) (Ideal.ofBits .f32 0x44800000#32))
          + Ideal.div ((∑ j, x j * y j) * (Ideal.ofBits .f32 0xBF000000#32 * Ideal.div (Ideal.rsqrt (sigma x)) (sigma x))) (Ideal.ofBits .f32 0x44800000#32) * x l := by
  unfold dxRow
  exact rms_bwd x y d l

theorem pay4_apply (x0 : FVec Ideal S1x512x2816 .bf16) (x1 : FVec Ideal S1024x2816 .bf16) (x2 : FVec Ideal S1x512x2816 .bf16) (x3 : FVec Ideal S1024x2816 .bf16) (r : Fin 512) (l : Fin 1024) :
    (k0_pay4 x0 x1 x2 x3 : FVec Ideal S512x1024 .f32) (ix2 r l)
      = dhRow (fun k => x0 (ix3 0 r k)) (fun k => x2 (ix3 0 r k)) (fun l k => x1 (ix2 l k)) (fun l k => x3 (ix2 l k)) l := by
  unfold dhRow
  pointwise [k0_pay4]

theorem dx_apply (x0 : FVec Ideal S1x512x2816 .bf16) (x1 : FVec Ideal S1024x2816 .bf16) (x2 : FVec Ideal S1x512x2816 .bf16) (x3 : FVec Ideal S1024x2816 .bf16)
    (x4 : FVec Ideal S512x1024 .f32) (x5 : FVec Ideal S1x1024 .f32) (x6 : FVec Ideal S512x1024 .f32) (r : Fin 512) (l : Fin 1024) :
    (k0_pay1 x6 (k0_pay7 x0 x1 x2 x3 x4 x5) : FVec Ideal S512x1024 .f32) (ix2 r l)
      = dxRow (fun l => x4 (ix2 r l)) (fun l => (k0_pay4 x0 x1 x2 x3 : FVec Ideal S512x1024 .f32) (ix2 r l) * x5 (ix2 0 l)) (x6 (ix2 r l)) l := by
  unfold dxRow sigma
  generalize hd : (k0_pay4 x0 x1 x2 x3 : FVec Ideal S512x1024 .f32) = dh
  unfold k0_pay7
  rw [hd]
  pointwise [k0_pay1, k0_pay6, k0_pay5]

theorem dg_apply (dh : FVec Ideal S512x1024 .f32) (x4 : FVec Ideal S512x1024 .f32) (l : Fin 1024) :
    (k0_pay2 dh (k0_pay6 x4) : FVec Ideal S1x1024 .f32) (ix2 0 l)
      = ∑ r : Fin 512, dh (ix2 r l) * (x4 (ix2 r l) * Ideal.rsqrt (sigma fun l => x4 (ix2 r l))) := by
  unfold sigma
  pointwise [k0_pay2, k0_pay6, k0_pay5]

/-- The reference's gradient at the norm's output. -/
theorem ref_dh (x0 : FVec Ideal S2x8192x2816 .bf16) (x1 : FVec Ideal S1024x5632 .bf16) (r : Fin 8192) (l : Fin 1024) :
    (val_main_v27 (F := Ideal) x0 x1 : FVec Ideal S8192x1024 .f32) (ix2 r l)
      = dhRow (fun k => x0 (ix3 0 r k)) (fun k => x0 (ix3 1 r k)) (fun l k => x1 (ix2 l (lo k))) (fun l k => x1 (ix2 l (hi k))) l := by
  unfold dhRow
  pointwise [val_main_v27, val_main_v26, val_main_v25, val_main_v24, val_main_v23, val_main_v22, val_main_v1, val_main_v0]
  rfl

theorem ref_dx (x0 : FVec Ideal S2x8192x2816 .bf16) (x1 : FVec Ideal S1024x5632 .bf16) (x2 : FVec Ideal S8192x1024 .f32) (x3 : FVec Ideal S1x1024 .f32) (x4 : FVec Ideal S8192x1024 .f32) (r : Fin 8192) (l : Fin 1024) :
    (val_main_v48 (F := Ideal) x0 x1 x2 x3 x4 : FVec Ideal S8192x1024 .f32) (ix2 r l)
      = dxRow (fun l => x2 (ix2 r l)) (fun l => (val_main_v27 (F := Ideal) x0 x1 : FVec Ideal S8192x1024 .f32) (ix2 r l) * x3 (ix2 0 l)) (x4 (ix2 r l)) l := by
  refine Eq.trans ?_ (dxRow_eq _ _ _ l).symm
  unfold sigma
  generalize hd : (val_main_v27 (F := Ideal) x0 x1 : FVec Ideal S8192x1024 .f32) = dh
  unfold val_main_v48 val_main_v46 val_main_v47 val_main_v39 val_main_v45 val_main_v44 val_main_v43 val_main_v42 val_main_v40 val_main_v38 val_main_v36 val_main_v35 val_main_v34 val_main_v32
  rw [hd]
  pointwise [val_main_v2, val_main_v3, val_main_cst, val_main_v4, val_main_v5, val_main_cst_0, val_main_v6, val_main_v7, val_main_cst_1, val_main_v8, val_main_v9, val_main_v10, val_main_v11, val_main_cst_2, val_main_v12, val_main_v13, val_main_v16, val_main_v31, val_main_cst_5, val_main_v37, val_main_cst_6, val_main_v41, val_main_cst_7]
  simp only [Fin.sum_univ_one]

theorem ref_dg (x0 : FVec Ideal S2x8192x2816 .bf16) (x1 : FVec Ideal S1024x5632 .bf16) (x2 : FVec Ideal S8192x1024 .f32) (l : Fin 1024) :
    (val_main_v49 (F := Ideal) x0 x1 x2 : FVec Ideal S1x1024 .f32) (ix2 0 l)
      = ∑ r : Fin 8192, (val_main_v27 (F := Ideal) x0 x1 : FVec Ideal S8192x1024 .f32) (ix2 r l) * (x2 (ix2 r l) * Ideal.rsqrt (sigma fun l => x2 (ix2 r l))) := by
  unfold sigma
  generalize hd : (val_main_v27 (F := Ideal) x0 x1 : FVec Ideal S8192x1024 .f32) = dh
  unfold val_main_v49 val_main_v33 val_main_v30 val_main_v29 val_main_v28
  rw [hd]
  pointwise [val_main_v3, val_main_cst, val_main_v4, val_main_v5, val_main_cst_0, val_main_v6, val_main_v7, val_main_cst_1, val_main_v8, val_main_v9, val_main_v10, val_main_v14, val_main_v15, val_main_cst_3, val_main_cst_4]
  refine (Fin.sum_univ_one _).trans (Finset.sum_congr rfl fun x _ => mul_comm _ _)

/-! ## The blocks against the arrays -/

variable (m : (ℓ : Loc nD τ sig) → Buf (Elt Ideal) ℓ)

theorem dh_block (c : Dev nD) (t : Fin cfg0.N) (r : Fin 512) (l : Fin 1024) :
    (k0_pay4 (iblk m c 0 t) (iblk m c 1 t) (iblk m c 2 t) (iblk m c 3 t) : FVec Ideal S512x1024 .f32) (ix2 r l)
      = (val_main_v27 (F := Ideal) (m ((c : Thread nD τ).loc main_arg0)) (m ((c : Thread nD τ).loc main_arg1)) : FVec Ideal S8192x1024 .f32) (ix2 (row t r) l) := by
  refine (pay4_apply _ _ _ _ r l).trans (Eq.trans ?_ (ref_dh _ _ (row t r) l).symm)
  rw [show (fun k => (iblk m c 0 t : Vec Ideal S1x512x2816 .bf16) (ix3 0 r k)) = _ from funext fun k => iblk0_apply m c t r k,
    show (fun k => (iblk m c 2 t : Vec Ideal S1x512x2816 .bf16) (ix3 0 r k)) = _ from funext fun k => iblk2_apply m c t r k,
    show (fun l k => (iblk m c 1 t : Vec Ideal S1024x2816 .bf16) (ix2 l k)) = _ from funext fun l => funext fun k => iblk1_apply m c t l k,
    show (fun l k => (iblk m c 3 t : Vec Ideal S1024x2816 .bf16) (ix2 l k)) = _ from funext fun l => funext fun k => iblk3_apply m c t l k]

theorem x_block (c : Dev nD) (t : Fin cfg0.N) (r : Fin 512) :
    (fun l => (iblk m c 4 t : Vec Ideal S512x1024 .f32) (ix2 r l)) = fun l => (m ((c : Thread nD τ).loc main_arg2) : FVec Ideal S8192x1024 .f32) (ix2 (row t r) l) :=
  funext fun l => iblk4_apply m c t r l

theorem arr7_eq (c : Dev nD) :
    (dats m 0 c).arrAt 7 cfg0.N = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  arr7_of m c _ fun t r l => by
    unfold dxAt
    refine (dx_apply _ _ _ _ _ _ _ r l).trans (Eq.trans ?_ (ref_dx _ _ _ _ _ (row t r) l).symm)
    rw [x_block m c t r]
    refine congrArg₂ (fun y d => dxRow _ y d l) (funext fun j => ?_) (iblk6_apply m c t r l)
    exact congrArg₂ (fun u v : EReal => u * v) (dh_block m c t r j) (iblk5_apply m c t j)

/-- The terms of the gradient at the gain. -/
def gainTerm (dh x : S8192x1024.Idx → EReal) (l : Fin 1024) (R : Fin 8192) : EReal :=
  dh (ix2 R l) * (x (ix2 R l) * Ideal.rsqrt (sigma fun l => x (ix2 R l)))
def dgTerm (c : Dev nD) (l : Fin 1024) (R : Fin 8192) : EReal :=
  gainTerm (val_main_v27 (F := Ideal) (m ((c : Thread nD τ).loc main_arg0)) (m ((c : Thread nD τ).loc main_arg1))) (m ((c : Thread nD τ).loc main_arg2)) l R

theorem dg_block (c : Dev nD) (n : ℕ) (h : n < cfg0.N) (l : Fin 1024) :
    (dgAt m c n h : FVec Ideal S1x1024 .f32) (ix2 0 l) = ∑ r : Fin 512, dgTerm m c l (row ⟨n, h⟩ r) := by
  unfold dgAt dgTerm gainTerm
  refine (dg_apply _ _ l).trans (Finset.sum_congr rfl fun r _ => ?_)
  refine congrArg₂ (fun u v : EReal => u * v) (dh_block m c ⟨n, h⟩ r l) ?_
  rw [x_block m c ⟨n, h⟩ r]
  exact congrArg (fun u : EReal => u * _) (iblk4_apply m c ⟨n, h⟩ r l)

/-- What the second output's block holds after point `n`. -/
theorem outs_dg (c : Dev nD) (l : Fin 1024) : ∀ (n : ℕ) (h : n < cfg0.N),
    ((outsAt0 m c n h).2 : FVec Ideal S1x1024 .f32) (ix2 0 l) = ∑ t : Fin (n + 1), ∑ r : Fin 512, dgTerm m c l (row ⟨t.val, lt_of_lt_of_le t.isLt h⟩ r)
  | 0, h => by
    rw [outs_zero m c h, Fin.sum_univ_one]
    exact dg_block m c 0 h l
  | n + 1, h => by
    rw [outs_succ m c n h, Fin.sum_univ_castSucc]
    exact congrArg₂ (fun u v : EReal => u + v) (outs_dg c l n (by omega)) (dg_block m c (n + 1) h l)

theorem arr8_eq (c : Dev nD) :
    (dats m 0 c).arrAt 8 cfg0.N = val_main_v49 (F := Ideal) (m ((c : Thread nD τ).loc main_arg0)) (m ((c : Thread nD τ).loc main_arg1)) (m ((c : Thread nD τ).loc main_arg2)) :=
  arr8_of m c _ fun h15 l => by
    refine (outs_dg m c l 15 h15).trans (Eq.trans ?_ (ref_dg _ _ _ l).symm)
    exact (Fin.sum_univ_tiles 16 512 (by decide) (dgTerm m c l)).symm

theorem alg : algebraic_Kernel4Ideal_Reference4Ideal (hKernel4Ideal := Cert.Kernel4Ideal.Gen.facts) (hReference4Ideal := Cert.Reference4Ideal.Gen.facts) := by
  intro m g m' g' _ hag
  refine ⟨fun c => val_main_v48 (F := Ideal) (m ((c.tc : Thread _ _).loc Cert.Kernel4Ideal.main_arg0)) (m ((c.tc : Thread _ _).loc Cert.Kernel4Ideal.main_arg1)) (m ((c.tc : Thread _ _).loc Cert.Kernel4Ideal.main_arg2)) (m ((c.tc : Thread _ _).loc Cert.Kernel4Ideal.main_arg3)) (m ((c.tc : Thread _ _).loc Cert.Kernel4Ideal.main_arg4)),
    fun c => val_main_v49 (F := Ideal) (m ((c.tc : Thread _ _).loc Cert.Kernel4Ideal.main_arg0)) (m ((c.tc : Thread _ _).loc Cert.Kernel4Ideal.main_arg1)) (m ((c.tc : Thread _ _).loc Cert.Kernel4Ideal.main_arg2)), ?_, ?_⟩
  · exact (θ_run _ _ _).mono (fun r h c => ⟨(h c).1.trans (arr7_eq m c), (h c).2.1.trans (arr8_eq m c), (h c).2.2⟩) (Cert.Kernel4Ideal.Value.run_blocks m g)
  · refine (θ_run _ _ _).mono (fun r h c => ⟨(h c).1.trans ?_, (h c).2.1.trans ?_, (h c).2.2⟩) (Cert.Reference4Ideal.Value.run m' g')
    · refine (Cert.Reference4Ideal.Read.val_main_v48_eq m' c).trans ?_
      rw [(hag c).1, (hag c).2.1, (hag c).2.2.1, (hag c).2.2.2.1, (hag c).2.2.2.2]
    · refine (Cert.Reference4Ideal.Read.val_main_v49_eq _ _ _).trans ?_
      rw [(hag c).1, (hag c).2.1, (hag c).2.2.1]

end Cert.Dhn

end
-- ==== Proof.Down.lean ====
/-
  The feed-forward block's second product: `x + ½ · a · w2` row block by row block, and the next norm of the result.
-/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import proofs.«01_k».proof.Proof.Common

@[expose] public section

set_option maxRecDepth 16384

noncomputable section

open Idealize.ShloMosaic Idealize.ShloMosaic.TcCoe Idealize.SL.Sem
open Idealize.ShloMosaic.Pipeline (Dat)

namespace Cert.Kernel5Ideal.Value

open Cert.Kernel5Ideal Cert.Kernel5Ideal.Gen

variable {F : FTy → Type} [FloatOps F]
variable (m : (ℓ : Loc nD τ sig) → Buf (Elt F) ℓ) (ρ : Dev nD → PrngReg)

theorem hz2 : (![0, 0] : Fin 2 → Nat) = fun _ => 0 := funext fun a => by fin_cases a <;> rfl

/-- The first output block. -/
theorem out_A_4 (c : Dev nD) (i : grid0.Coords) (a2 h2 a3 h3 a4 h4 a5 h5 a6 h6 a7 h7 a8 h8) (x0 : Vec F S512x2816 .bf16) (x1 : Vec F S2816x1024 .bf16) (x2 : Vec F S512x1024 .f32) (x3 : Vec F S1x1024 .f32) :
    out0_A_4 c i a2 h2 a3 h3 a4 h4 a5 h5 a6 h6 a7 h7 a8 h8 x0 x1 x2 x3 = k0_pay1 x0 x1 x2 := by
  unfold out0_A_4
  rw [View.read_writes_eq_canon _ _ _ (cover0_A_4 c i a2 h2 a3 h3 a4 h4 a5 h5 a6 h6 a7 h7 a8 h8 x0 x1 x2 x3)]
  unfold kernelRun0_A
  dsimp only
  sl_unfold_words
  rw [View.canon_unit_zero hz2]
  simp only [View.readAt_eq_ld, h2.read_unread, h3.read_unread, h4.read_unread, View.ld_unit_zero (S := S512x2816) hz2, View.ld_unit_zero (S := S2816x1024) hz2, View.ld_unit_zero (S := S512x1024) hz2]

/-- The second. -/
theorem out_A_5 (c : Dev nD) (i : grid0.Coords) (a2 h2 a3 h3 a4 h4 a5 h5 a6 h6 a7 h7 a8 h8) (x0 : Vec F S512x2816 .bf16) (x1 : Vec F S2816x1024 .bf16) (x2 : Vec F S512x1024 .f32) (x3 : Vec F S1x1024 .f32) :
    out0_A_5 c i a2 h2 a3 h3 a4 h4 a5 h5 a6 h6 a7 h7 a8 h8 x0 x1 x2 x3 = k0_pay2 x0 x1 x2 x3 := by
  unfold out0_A_5
  rw [View.read_writes_eq_canon _ _ _ (cover0_A_5 c i a2 h2 a3 h3 a4 h4 a5 h5 a6 h6 a7 h7 a8 h8 x0 x1 x2 x3)]
  unfold kernelRun0_A
  dsimp only
  sl_unfold_words
  rw [View.canon_unit_zero hz2]
  simp only [View.readAt_eq_ld, h2.read_unread, h3.read_unread, h4.read_unread, h5.read_unread, View.ld_unit_zero (S := S512x2816) hz2, View.ld_unit_zero (S := S2816x1024) hz2, View.ld_unit_zero (S := S512x1024) hz2, View.ld_unit_zero (S := S1x1024) hz2]

/-- Which blocks the windows are on. -/
theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = t.val ∧ win0_4.index t 1 = 0 ∧ win0_4.flush t = true := by decide +kernel
theorem idx5 : ∀ t : Fin grid0.N, win0_5.index t 0 = t.val ∧ win0_5.index t 1 = 0 ∧ win0_5.flush t = true := by decide +kernel

/-- Row `r` of block `t`. -/
def row (t : Fin cfg0.N) (r : Fin 512) : Fin 8192 := ⟨t.val * 512 + r.val, by have := lt_of_lt_of_eq t.isLt (show cfg0.N = 16 from N_0); omega⟩

theorem iblk0_apply (c : Dev nD) (t : Fin cfg0.N) (r : Fin 512) (k : Fin 2816) :
    (iblk m c 0 t : Vec F S512x2816 .bf16) (ix2 r k) = m ((c : Thread nD τ).loc main_arg0) (ix2 (row t r) k) := by
  unfold iblk
  rw [View.read_apply]
  show V m c main_arg0 _ = m (c.tc.loc main_arg0) _
  unfold V
  congr 1
  funext a
  apply Fin.ext
  match a with
  | ⟨0, _⟩ => show win0_0.index t 0 * 512 + 1 * r.val = t.val * 512 + r.val; rw [(idx0 t).1]; simp
  | ⟨1, _⟩ => show win0_0.index t 1 * 2816 + 1 * k.val = _; rw [(idx0 t).2]; simp

theorem iblk1_apply (c : Dev nD) (t : Fin cfg0.N) (r : Fin 2816) (k : Fin 1024) :
    (iblk m c 1 t : Vec F S2816x1024 .bf16) (ix2 r k) = m ((c : Thread nD τ).loc main_arg1) (ix2 r k) := by
  unfold iblk
  rw [View.read_apply]
  show V m c main_arg1 _ = m (c.tc.loc main_arg1) _
  unfold V
  congr 1
  funext a
  apply Fin.ext
  match a with
  | ⟨0, _⟩ => show win0_1.index t 0 * 2816 + 1 * r.val = _; rw [(idx1 t).1]; simp
  | ⟨1, _⟩ => show win0_1.index t 1 * 1024 + 1 * k.val = _; rw [(idx1 t).2]; simp

theorem iblk2_apply (c : Dev nD) (t : Fin cfg0.N) (r : Fin 512) (k : Fin 1024) :
    (iblk m c 2 t : Vec F S512x1024 .f32) (ix2 r k) = m ((c : Thread nD τ).loc main_arg2) (ix2 (row t r) k) := by
  unfold iblk
  rw [View.read_apply]
  show V m c main_arg2 _ = m (c.tc.loc main_arg2) _
  unfold V
  congr 1
  funext a
  apply Fin.ext
  match a with
  | ⟨0, _⟩ => show win0_2.index t 0 * 512 + 1 * r.val = t.val * 512 + r.val; rw [(idx2 t).1]; simp
  | ⟨1, _⟩ => show win0_2.index t 1 * 1024 + 1 * k.val = _; rw [(idx2 t).2]; simp

theorem iblk3_apply (c : Dev nD) (t : Fin cfg0.N) (k : Fin 1024) :
    (iblk m c 3 t : Vec F S1x1024 .f32) (ix2 0 k) = m ((c : Thread nD τ).loc main_arg3) (ix2 0 k) := by
  unfold iblk
  rw [View.read_apply]
  show V m c main_arg3 _ = m (c.tc.loc main_arg3) _
  unfold V
  congr 1
  funext a
  apply Fin.ext
  match a with
  | ⟨0, _⟩ => show win0_3.index t 0 * 1 + 1 * (0 : Fin 1).val = _; rw [(idx3 t).1]; simp
  | ⟨1, _⟩ => show win0_3.index t 1 * 1024 + 1 * k.val = _; rw [(idx3 t).2]; simp

theorem mem_blk4 (t : Fin cfg0.N) (i : S8192x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v0_0).slice (win0_4.rect t)).set ↔ _
  rw [View.set_slice_whole, Rect.mem_set_unit]
  exact Iff.rfl

theorem covered4 (i : S8192x1024.Idx) : ∃ t : Fin cfg0.N, (cfg0.win 4).flush t = true ∧ i ∈ ((cfg0.win 4).blk t).view.set := by
  have h0 : (i 0).val < 8192 := (i 0).isLt
  have h1 : (i 1).val < 1024 := (i 1).isLt
  refine ⟨⟨(i 0).val / 512, by rw [show cfg0.N = 16 from N_0]; omega⟩, (idx4 _).2.2, ?_⟩
  rw [mem_blk4]
  intro a
  match a with
  | ⟨0, _⟩ => show win0_4.index _ 0 * 512 ≤ (i 0 : Nat) ∧ (i 0 : Nat) < win0_4.index _ 0 * 512 + 512
              rw [(idx4 _).1]; dsimp only; omega
  | ⟨1, _⟩ => show win0_4.index _ 1 * 1024 ≤ (i 1 : Nat) ∧ (i 1 : Nat) < win0_4.index _ 1 * 1024 + 1024
              rw [(idx4 _).2.1]; omega

/-- If what every point leaves in the block is its rows of `G`, the array ends holding `G`. -/
theorem arr4_of (c : Dev nD) (G : Buf (Elt F) ((c : Thread nD τ).loc main_v0_0))
    (h : ∀ (t : Fin cfg0.N) (r : Fin 512) (l : Fin 1024), (k0_pay1 (iblk m c 0 t) (iblk m c 1 t) (iblk m c 2 t) : Vec F S512x1024 .f32) (ix2 r l) = G (ix2 (row t r) l)) :
    (dats m 0 c).arrAt 4 cfg0.N = G :=
  (dats m 0 c).arrAt_eq_of_cover 4 G (fun t _ => by
      rw [flushed4_A, out_A_4]
      funext y
      have e : (((cfg0.win 4).blk t).view.emb y) = ix2 (row t (y 0)) (y 1) := by
        funext a
        apply Fin.ext
        match a with
        | ⟨0, _⟩ => show win0_4.index t 0 * 512 + 1 * (y 0).val = t.val * 512 + (y 0).val; rw [(idx4 t).1]; omega
        | ⟨1, _⟩ => show win0_4.index t 1 * 1024 + 1 * (y 1).val = _; rw [(idx4 t).2.1]; show _ = (y 1).val; omega
      show (k0_pay1 (iblk m c 0 t) (iblk m c 1 t) (iblk m c 2 t) : Vec F S512x1024 .f32) _ = G (((cfg0.win 4).blk t).view.emb y)
      refine (congrArg _ ?_).trans ((h t (y 0) (y 1)).trans (congrArg G e.symm))
      funext a
      match a with
      | ⟨0, _⟩ => rfl
      | ⟨1, _⟩ => rfl)
    (covered4)

theorem mem_blk5 (t : Fin cfg0.N) (i : S8192x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v0_1).slice (win0_5.rect t)).set ↔ _
  rw [View.set_slice_whole, Rect.mem_set_unit]
  exact Iff.rfl

theorem covered5 (i : S8192x1024.Idx) : ∃ t : Fin cfg0.N, (cfg0.win 5).flush t = true ∧ i ∈ ((cfg0.win 5).blk t).view.set := by
  have h0 : (i 0).val < 8192 := (i 0).isLt
  have h1 : (i 1).val < 1024 := (i 1).isLt
  refine ⟨⟨(i 0).val / 512, by rw [show cfg0.N = 16 from N_0]; omega⟩, (idx5 _).2.2, ?_⟩
  rw [mem_blk5]
  intro a
  match a with
  | ⟨0, _⟩ => show win0_5.index _ 0 * 512 ≤ (i 0 : Nat) ∧ (i 0 : Nat) < win0_5.index _ 0 * 512 + 512
              rw [(idx5 _).1]; dsimp only; omega
  | ⟨1, _⟩ => show win0_5.index _ 1 * 1024 ≤ (i 1 : Nat) ∧ (i 1 : Nat) < win0_5.index _ 1 * 1024 + 1024
              rw [(idx5 _).2.1]; omega

/-- If what every point leaves in the block is its rows of `G`, the array ends holding `G`. -/
theorem arr5_of (c : Dev nD) (G : Buf (Elt F) ((c : Thread nD τ).loc main_v0_1))
    (h : ∀ (t : Fin cfg0.N) (r : Fin 512) (l : Fin 1024), (k0_pay2 (iblk m c 0 t) (iblk m c 1 t) (iblk m c 2 t) (iblk m c 3 t) : Vec F S512x1024 .bf16) (ix2 r l) = G (ix2 (row t r) l)) :
    (dats m 0 c).arrAt 5 cfg0.N = G :=
  (dats m 0 c).arrAt_eq_of_cover 5 G (fun t _ => by
      rw [flushed5_A, out_A_5]
      funext y
      have e : (((cfg0.win 5).blk t).view.emb y) = ix2 (row t (y 0)) (y 1) := by
        funext a
        apply Fin.ext
        match a with
        | ⟨0, _⟩ => show win0_5.index t 0 * 512 + 1 * (y 0).val = t.val * 512 + (y 0).val; rw [(idx5 t).1]; omega
        | ⟨1, _⟩ => show win0_5.index t 1 * 1024 + 1 * (y 1).val = _; rw [(idx5 t).2.1]; show _ = (y 1).val; omega
      show (k0_pay2 (iblk m c 0 t) (iblk m c 1 t) (iblk m c 2 t) (iblk m c 3 t) : Vec F S512x1024 .bf16) _ = G (((cfg0.win 5).blk t).view.emb y)
      refine (congrArg _ ?_).trans ((h t (y 0) (y 1)).trans (congrArg G e.symm))
      funext a
      match a with
      | ⟨0, _⟩ => rfl
      | ⟨1, _⟩ => rfl)
    (covered5)

end Cert.Kernel5Ideal.Value

/-! ## Over the extended reals -/

namespace Cert.Down

open Cert.Kernel5Ideal Cert.Kernel5Ideal.Gen Cert.Kernel5Ideal.Value Cert.Common Cert.Reference5Ideal.Read

/-- A row of the residual stream after the block: the stream's row plus half the row of `a` times `w2`. -/
def stream (a : Fin 2816 → EReal) (w : Fin 2816 → Fin 1024 → EReal) (x : Fin 1024 → EReal) (l : Fin 1024) : EReal :=
  x l + half * ∑ k : Fin 2816, a k * w k l

/-- Its norm. -/
def normed (a : Fin 2816 → EReal) (w : Fin 2816 → Fin 1024 → EReal) (x : Fin 1024 → EReal) (g : Fin 1024 → EReal) (l : Fin 1024) : EReal :=
  stream a w x l * Ideal.rsqrt (Ideal.div (∑ j : Fin 1024, stream a w x j * stream a w x j) (Ideal.ofBits .f32 0x44800000#32) + Ideal.ofBits .f32 0x358637BD#32) * g l

theorem pay1_apply (x0 : FVec Ideal S512x2816 .bf16) (x1 : FVec Ideal S2816x1024 .bf16) (x2 : FVec Ideal S512x1024 .f32) (r : Fin 512) (l : Fin 1024) :
    (k0_pay1 x0 x1 x2 : FVec Ideal S512x1024 .f32) (ix2 r l) = stream (fun k => x0 (ix2 r k)) (fun k l => x1 (ix2 k l)) (fun l => x2 (ix2 r l)) l := by
  unfold stream half
  pointwise [k0_pay1]

theorem pay2_apply (x0 : FVec Ideal S512x2816 .bf16) (x1 : FVec Ideal S2816x1024 .bf16) (x2 : FVec Ideal S512x1024 .f32) (x3 : FVec Ideal S1x1024 .f32) (r : Fin 512) (l : Fin 1024) :
    (k0_pay2 x0 x1 x2 x3 : FVec Ideal S512x1024 .bf16) (ix2 r l) = normed (fun k => x0 (ix2 r k)) (fun k l => x1 (ix2 k l)) (fun l => x2 (ix2 r l)) (fun l => x3 (ix2 0 l)) l := by
  unfold normed stream half
  pointwise [k0_pay1, k0_pay2]

theorem ref1_apply (x0 : FVec Ideal S8192x2816 .bf16) (x1 : FVec Ideal S2816x1024 .bf16) (x2 : FVec Ideal S8192x1024 .f32) (r : Fin 8192) (l : Fin 1024) :
    (val_main_v5 (F := Ideal) x0 x1 x2 : FVec Ideal S8192x1024 .f32) (ix2 r l) = stream (fun k => x0 (ix2 r k)) (fun k l => x1 (ix2 k l)) (fun l => x2 (ix2 r l)) l := by
  unfold stream half
  pointwise [val_main_v5, val_main_v4, val_main_v3, val_main_v2, val_main_v1, val_main_v0, val_main_cst]

theorem ref2_apply (x0 : FVec Ideal S8192x2816 .bf16) (x1 : FVec Ideal S2816x1024 .bf16) (x2 : FVec Ideal S8192x1024 .f32) (x3 : FVec Ideal S1x1024 .f32) (r : Fin 8192) (l : Fin 1024) :
    (val_main_v20 (F := Ideal) x0 x1 x2 x3 : FVec Ideal S8192x1024 .bf16) (ix2 r l) = normed (fun k => x0 (ix2 r k)) (fun k l => x1 (ix2 k l)) (fun l => x2 (ix2 r l)) (fun l => x3 (ix2 0 l)) l := by
  unfold normed stream half
  pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]

theorem arr4_eq (m : (ℓ : Loc nD τ sig) → Buf (Elt Ideal) ℓ) (c : Dev nD) :
    (dats m 0 c).arrAt 4 cfg0.N = val_main_v5 (F := Ideal) (m ((c : Thread nD τ).loc main_arg0)) (m ((c : Thread nD τ).loc main_arg1)) (m ((c : Thread nD τ).loc main_arg2)) :=
  arr4_of m c _ fun t r l => by
    refine (pay1_apply _ _ _ r l).trans (Eq.trans ?_ (ref1_apply _ _ _ (row t r) l).symm)
    rw [show (fun k => (iblk m c 0 t : Vec Ideal S512x2816 .bf16) (ix2 r k)) = _ from funext fun k => iblk0_apply m c t r k,
      show (fun k l => (iblk m c 1 t : Vec Ideal S2816x1024 .bf16) (ix2 k l)) = _ from funext fun k => funext fun l => iblk1_apply m c t k l,
      show (fun l => (iblk m c 2 t : Vec Ideal S512x1024 .f32) (ix2 r l)) = _ from funext fun k => iblk2_apply m c t r k]

theorem arr5_eq (m : (ℓ : Loc nD τ sig) → Buf (Elt Ideal) ℓ) (c : Dev nD) :
    (dats m 0 c).arrAt 5 cfg0.N = val_main_v20 (F := Ideal) (m ((c : Thread nD τ).loc main_arg0)) (m ((c : Thread nD τ).loc main_arg1)) (m ((c : Thread nD τ).loc main_arg2)) (m ((c : Thread nD τ).loc main_arg3)) :=
  arr5_of m c _ fun t r l => by
    refine (pay2_apply _ _ _ _ r l).trans (Eq.trans ?_ (ref2_apply _ _ _ _ (row t r) l).symm)
    rw [show (fun k => (iblk m c 0 t : Vec Ideal S512x2816 .bf16) (ix2 r k)) = _ from funext fun k => iblk0_apply m c t r k,
      show (fun k l => (iblk m c 1 t : Vec Ideal S2816x1024 .bf16) (ix2 k l)) = _ from funext fun k => funext fun l => iblk1_apply m c t k l,
      show (fun l => (iblk m c 2 t : Vec Ideal S512x1024 .f32) (ix2 r l)) = _ from funext fun k => iblk2_apply m c t r k,
      show (fun l => (iblk m c 3 t : Vec Ideal S1x1024 .f32) (ix2 0 l)) = _ from funext fun k => iblk3_apply m c t k]

theorem alg : algebraic_Kernel5Ideal_Reference5Ideal (hKernel5Ideal := Cert.Kernel5Ideal.Gen.facts) (hReference5Ideal := Cert.Reference5Ideal.Gen.facts) := by
  intro m g m' g' _ hag
  refine ⟨fun c => val_main_v5 (F := Ideal) (m ((c.tc : Thread _ _).loc Cert.Kernel5Ideal.main_arg0)) (m ((c.tc : Thread _ _).loc Cert.Kernel5Ideal.main_arg1)) (m ((c.tc : Thread _ _).loc Cert.Kernel5Ideal.main_arg2)),
    fun c => val_main_v20 (F := Ideal) (m ((c.tc : Thread _ _).loc Cert.Kernel5Ideal.main_arg0)) (m ((c.tc : Thread _ _).loc Cert.Kernel5Ideal.main_arg1)) (m ((c.tc : Thread _ _).loc Cert.Kernel5Ideal.main_arg2)) (m ((c.tc : Thread _ _).loc Cert.Kernel5Ideal.main_arg3)), ?_, ?_⟩
  · exact (θ_run _ _ _).mono (fun r h c => ⟨(h c).1.trans (arr4_eq m c), (h c).2.1.trans (arr5_eq m c), (h c).2.2⟩) (Cert.Kernel5Ideal.Value.run_blocks m g)
  · refine (θ_run _ _ _).mono (fun r h c => ⟨(h c).1.trans ?_, (h c).2.1.trans ?_, (h c).2.2⟩) (Cert.Reference5Ideal.Value.run m' g')
    · refine (Cert.Reference5Ideal.Read.val_main_v5_eq _ _ _).trans ?_
      rw [(hag c).1, (hag c).2.1, (hag c).2.2.1]
    · refine (Cert.Reference5Ideal.Read.val_main_v20_eq _ _ _ _).trans ?_
      rw [(hag c).1, (hag c).2.1, (hag c).2.2.1, (hag c).2.2.2]

end Cert.Down

end
-- ==== Proof.Proj.lean ====
/-
  The retention's input projection: `h · w_in`, tile by tile, each contraction whole.
-/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proj

open Cert.Kernel6Ideal Cert.Kernel6Ideal.Gen Cert.Kernel6Ideal.Value Cert.Reference6Ideal.Read

/-- Which blocks the windows are on: rows move fastest, the weight's columns last. -/
theorem idx : ∀ t : Fin cfg0.N, win0_0.index t = ![t.val % 8, 0] ∧ win0_1.index t = ![0, t.val / 8] ∧ win0_2.index t = ![t.val % 8, t.val / 8] :=
  (by decide +kernel : ∀ t : Fin grid0.N, _)

theorem arr2 (m : (ℓ : Loc nD τ sig) → Buf (Elt Ideal) ℓ) (c : Dev nD) :
    (dats m 0 c).arrAt 2 cfg0.N = val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2]; unfold outsAt0; frame_out
  pointwise [k0_pay1, val_main_v3, val_main_v2, val_main_v1, val_main_v0]
  blk_point [iblk, V, idx t]

theorem alg : algebraic_Kernel6Ideal_Reference6Ideal (hKernel6Ideal := Cert.Kernel6Ideal.Gen.facts) (hReference6Ideal := Cert.Reference6Ideal.Gen.facts) := by
  intro m g m' g' _ hag
  refine ⟨fun c => val_main_v3 (F := Ideal) (m ((c : Thread nD τ).loc main_arg0)) (m ((c : Thread nD τ).loc main_arg1)), ?_, ?_⟩
  · exact (θ_run _ _ _).mono (fun r h c => ⟨(h c).1.trans (arr2 m c), (h c).2⟩) (Cert.Kernel6Ideal.Value.run_blocks m g)
  · refine (θ_run _ _ _).mono (fun r h c => ⟨(h c).1.trans ?_, (h c).2⟩) (Cert.Reference6Ideal.Value.run m' g')
    refine (val_main_v3_eq _ _).trans ?_
    rw [(hag c).1, (hag c).2]

end Cert.Proj
-- ==== Proof.UpRetIn.lean ====
/-
  The optimiser's step at the retention's first weight: the eight devices' gradients summed, the change of the weight, both moments moved.
-/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.UpRetIn

open Cert.Kernel7Ideal Cert.Kernel7Ideal.Gen Cert.Kernel7Ideal.Value Cert.Reference7Ideal.Read

/-- Every window is on the point's rows. -/
theorem idx : ∀ t : Fin cfg0.N, win0_0.index t = ![0, t.val, 0] ∧ win0_1.index t = ![0, t.val, 0] ∧ win0_2.index t = ![0, t.val, 0] ∧ win0_3.index t = ![0, t.val, 0]
    ∧ win0_4.index t = ![0, t.val, 0] ∧ win0_5.index t = ![0, t.val, 0] ∧ win0_6.index t = ![0, t.val, 0] ∧ win0_7.index t = ![0, t.val, 0] :=
  (by decide +kernel : ∀ t : Fin grid0.N, _)

theorem arrs (m : (ℓ : Loc nD τ sig) → Buf (Elt Ideal) ℓ) (c : Dev nD) :
    (dats m 0 c).arrAt 4 cfg0.N = val_main_v2 (F := Ideal) (m ((c : Thread nD τ).loc main_arg0))
    ∧ (dats m 0 c).arrAt 5 cfg0.N = val_main_v26 (F := Ideal) (m ((c : Thread nD τ).loc main_arg0)) (m ((c : Thread nD τ).loc main_arg1)) (m ((c : Thread nD τ).loc main_arg2)) (m ((c : Thread nD τ).loc main_arg3))
    ∧ (dats m 0 c).arrAt 6 cfg0.N = val_main_v7 (F := Ideal) (m ((c : Thread nD τ).loc main_arg0)) (m ((c : Thread nD τ).loc main_arg2))
    ∧ (dats m 0 c).arrAt 7 cfg0.N = val_main_v13 (F := Ideal) (m ((c : Thread nD τ).loc main_arg0)) (m ((c : Thread nD τ).loc main_arg3)) := by
  refine ⟨(dats m 0 c).arrAt_eq_of_covers 4 _ (by decide +kernel) fun t hf y => ?_, (dats m 0 c).arrAt_eq_of_covers 5 _ (by decide +kernel) fun t hf y => ?_,
    (dats m 0 c).arrAt_eq_of_covers 6 _ (by decide +kernel) fun t hf y => ?_, (dats m 0 c).arrAt_eq_of_covers 7 _ (by decide +kernel) fun t hf y => ?_⟩
  all_goals
    blk_simp
    first | rw [after0_4] | rw [after0_5] | rw [after0_6] | rw [after0_7]
    unfold outsAt0
    frame_out
    pointwise [k0_pay1, k0_pay2, k0_pay3, k0_pay4, k0_pay5, k0_pay6, k0_pay7, val_main_v0, val_main_v1, val_main_v2, val_main_v3, val_main_v4, val_main_v5, val_main_v6, val_main_v7,
      val_main_v8, val_main_v9, val_main_v10, val_main_v11, val_main_v12, val_main_v13, val_main_v14, val_main_v15, val_main_v16, val_main_v17, val_main_v18, val_main_v19, val_main_v20,
      val_main_v21, val_main_v22, val_main_v23, val_main_v24, val_main_v25, val_main_v26, val_main_cst, val_main_cst_0, val_main_cst_1, val_main_cst_2, val_main_cst_3, val_main_cst_4,
      val_main_cst_5, val_main_cst_6, val_main_cst_7, val_main_cst_8]
    simp only [Fin.sum_univ_eight]
    blk_point [iblk, V, idx t]

theorem alg : algebraic_Kernel7Ideal_Reference7Ideal (hKernel7Ideal := Cert.Kernel7Ideal.Gen.facts) (hReference7Ideal := Cert.Reference7Ideal.Gen.facts) := by
  intro m g m' g' _ hag
  refine ⟨_, _, _, _,
    (θ_run _ _ _).mono (fun r h c => ⟨(h c).1.trans (arrs m c).1, (h c).2.1.trans (arrs m c).2.1, (h c).2.2.1.trans (arrs m c).2.2.1, (h c).2.2.2.1.trans (arrs m c).2.2.2, (h c).2.2.2.2⟩) (Cert.Kernel7Ideal.Value.run_blocks m g),
    (θ_run _ _ _).mono (fun r h c => ⟨(h c).1.trans ((val_main_v2_eq _).trans ?_), (h c).2.1.trans ((val_main_v26_eq _ _ _ _).trans ?_), (h c).2.2.1.trans ((val_main_v7_eq _ _).trans ?_), (h c).2.2.2.1.trans ((val_main_v13_eq _ _).trans ?_), (h c).2.2.2.2⟩) (Cert.Reference7Ideal.Value.run m' g')⟩
  all_goals simp only [(hag c).1, (hag c).2.1, (hag c).2.2.1, (hag c).2.2.2]

end Cert.UpRetIn
-- ==== Proof.UpRetOut.lean ====
/-
  The optimiser's step at the retention's second weight: the eight devices' gradients summed, the change of the weight, both moments moved.
-/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.UpRetOut

open Cert.Kernel8Ideal Cert.Kernel8Ideal.Gen Cert.Kernel8Ideal.Value Cert.Reference8Ideal.Read

/-- Every window is on the point's rows. -/
theorem idx : ∀ t : Fin cfg0.N, win0_0.index t = ![0, t.val, 0] ∧ win0_1.index t = ![0, t.val, 0] ∧ win0_2.index t = ![0, t.val, 0] ∧ win0_3.index t = ![0, t.val, 0]
    ∧ win0_4.index t = ![0, t.val, 0] ∧ win0_5.index t = ![0, t.val, 0] ∧ win0_6.index t = ![0, t.val, 0] ∧ win0_7.index t = ![0, t.val, 0] :=
  (by decide +kernel : ∀ t : Fin grid0.N, _)

theorem arrs (m : (ℓ : Loc nD τ sig) → Buf (Elt Ideal) ℓ) (c : Dev nD) :
    (dats m 0 c).arrAt 4 cfg0.N = val_main_v2 (F := Ideal) (m ((c : Thread nD τ).loc main_arg0))
    ∧ (dats m 0 c).arrAt 5 cfg0.N = val_main_v26 (F := Ideal) (m ((c : Thread nD τ).loc main_arg0)) (m ((c : Thread nD τ).loc main_arg1)) (m ((c : Thread nD τ).loc main_arg2)) (m ((c : Thread nD τ).loc main_arg3))
    ∧ (dats m 0 c).arrAt 6 cfg0.N = val_main_v7 (F := Ideal) (m ((c : Thread nD τ).loc main_arg0)) (m ((c : Thread nD τ).loc main_arg2))
    ∧ (dats m 0 c).arrAt 7 cfg0.N = val_main_v13 (F := Ideal) (m ((c : Thread nD τ).loc main_arg0)) (m ((c : Thread nD τ).loc main_arg3)) := by
  refine ⟨(dats m 0 c).arrAt_eq_of_covers 4 _ (by decide +kernel) fun t hf y => ?_, (dats m 0 c).arrAt_eq_of_covers 5 _ (by decide +kernel) fun t hf y => ?_,
    (dats m 0 c).arrAt_eq_of_covers 6 _ (by decide +kernel) fun t hf y => ?_, (dats m 0 c).arrAt_eq_of_covers 7 _ (by decide +kernel) fun t hf y => ?_⟩
  all_goals
    blk_simp
    first | rw [after0_4] | rw [after0_5] | rw [after0_6] | rw [after0_7]
    unfold outsAt0
    frame_out
    pointwise [k0_pay1, k0_pay2, k0_pay3, k0_pay4, k0_pay5, k0_pay6, k0_pay7, val_main_v0, val_main_v1, val_main_v2, val_main_v3, val_main_v4, val_main_v5, val_main_v6, val_main_v7,
      val_main_v8, val_main_v9, val_main_v10, val_main_v11, val_main_v12, val_main_v13, val_main_v14, val_main_v15, val_main_v16, val_main_v17, val_main_v18, val_main_v19, val_main_v20,
      val_main_v21, val_main_v22, val_main_v23, val_main_v24, val_main_v25, val_main_v26, val_main_cst, val_main_cst_0, val_main_cst_1, val_main_cst_2, val_main_cst_3, val_main_cst_4,
      val_main_cst_5, val_main_cst_6, val_main_cst_7, val_main_cst_8]
    simp only [Fin.sum_univ_eight]
    blk_point [iblk, V, idx t]

theorem alg : algebraic_Kernel8Ideal_Reference8Ideal (hKernel8Ideal := Cert.Kernel8Ideal.Gen.facts) (hReference8Ideal := Cert.Reference8Ideal.Gen.facts) := by
  intro m g m' g' _ hag
  refine ⟨_, _, _, _,
    (θ_run _ _ _).mono (fun r h c => ⟨(h c).1.trans (arrs m c).1, (h c).2.1.trans (arrs m c).2.1, (h c).2.2.1.trans (arrs m c).2.2.1, (h c).2.2.2.1.trans (arrs m c).2.2.2, (h c).2.2.2.2⟩) (Cert.Kernel8Ideal.Value.run_blocks m g),
    (θ_run _ _ _).mono (fun r h c => ⟨(h c).1.trans ((val_main_v2_eq _).trans ?_), (h c).2.1.trans ((val_main_v26_eq _ _ _ _).trans ?_), (h c).2.2.1.trans ((val_main_v7_eq _ _).trans ?_), (h c).2.2.2.1.trans ((val_main_v13_eq _ _).trans ?_), (h c).2.2.2.2⟩) (Cert.Reference8Ideal.Value.run m' g')⟩
  all_goals simp only [(hag c).1, (hag c).2.1, (hag c).2.2.1, (hag c).2.2.2]

end Cert.UpRetOut
-- ==== Proof.UpAbIn.lean ====
/-
  The optimiser's step at the first layer's mixing weight: the eight devices' gradients summed, the change of the weight, both moments moved.
-/
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.UpAbIn

open Cert.Kernel9Ideal Cert.Kernel9Ideal.Gen Cert.Kernel9Ideal.Value Cert.Reference9Ideal.Read

/-- Every window is on the point's rows. -/
theorem idx : ∀ t : Fin cfg0.N, win0_0.index t = ![0, t.val, 0] ∧ win0_1.index t = ![0, t.val, 0] ∧ win0_2.index t = ![0, t.val, 0] ∧ win0_3.index t = ![0, t.val, 0]
    ∧ win0_4.index t = ![0, t.val, 0] ∧ win0_5.index t = ![0, t.val, 0] ∧ win0_6.index t = ![0, t.val, 0] ∧ win0_7.index t = ![0, t.val, 0] :=
  (by decide +kernel : ∀ t : Fin grid0.N, _)

theorem arrs (m : (ℓ : Loc nD τ sig) → Buf (Elt Ideal) ℓ) (c : Dev nD) :
    (dats m 0 c).arrAt 4 cfg0.N = val_main_v2 (F := Ideal) (m ((c : Thread nD τ).loc main_arg0))
    ∧ (dats m 0 c).arrAt 5 cfg0.N = val_main_v26 (F := Ideal) (m ((c : Thread nD τ).loc main_arg0)) (m ((c : Thread nD τ).loc main_arg1)) (m ((c : Thread nD τ).loc main_arg2)) (m ((c : Thread nD τ).loc main_arg3))
    ∧ (dats m 0 c).arrAt 6 cfg0.N = val_main_v7 (F := Ideal) (m ((c : Thread nD τ).loc main_arg0)) (m ((c : Thread nD τ).loc main_arg2))
    ∧ (dats m 0 c).arrAt 7 cfg0.N = val_main_v13 (F := Ideal) (m ((c : Thread nD τ).loc main_arg0)) (m ((c : Thread nD τ).loc main_arg3)) := by
  refine ⟨(dats m 0 c).arrAt_eq_of_covers 4 _ (by decide +kernel) fun t hf y => ?_, (dats m 0 c).arrAt_eq_of_covers 5 _ (by decide +kernel) fun t hf y => ?_,
    (dats m 0 c).arrAt_eq_of_covers 6 _ (by decide +kernel) fun t hf y => ?_, (dats m 0 c).arrAt_eq_of_covers 7 _ (by decide +kernel) fun t hf y => ?_⟩
  all_goals
    blk_simp
    first | rw [after0_4] | rw [after0_5] | rw [after0_6] | rw [after0_7]
    unfold outsAt0
    frame_out
    pointwise [k0_pay1, k0_pay2, k0_pay3, k0_pay4, k0_pay5, k0_pay6, k0_pay7, val_main_v0, val_main_v1, val_main_v2, val_main_v3, val_main_v4, val_main_v5, val_main_v6, val_main_v7,
      val_main_v8, val_main_v9, val_main_v10, val_main_v11, val_main_v12, val_main_v13, val_main_v14, val_main_v15, val_main_v16, val_main_v17, val_main_v18, val_main_v19, val_main_v20,
      val_main_v21, val_main_v22, val_main_v23, val_main_v24, val_main_v25, val_main_v26, val_main_cst, val_main_cst_0, val_main_cst_1, val_main_cst_2, val_main_cst_3, val_main_cst_4,
      val_main_cst_5, val_main_cst_6, val_main_cst_7, val_main_cst_8]
    simp only [Fin.sum_univ_eight]
    blk_point [iblk, V, idx t]

theorem alg : algebraic_Kernel9Ideal_Reference9Ideal (hKernel9Ideal := Cert.Kernel9Ideal.Gen.facts) (hReference9Ideal := Cert.Reference9Ideal.Gen.facts) := by
  intro m g m' g' _ hag
  refine ⟨_, _, _, _,
    (θ_run _ _ _).mono (fun r h c => ⟨(h c).1.trans (arrs m c).1, (h c).2.1.trans (arrs m c).2.1, (h c).2.2.1.trans (arrs m c).2.2.1, (h c).2.2.2.1.trans (arrs m c).2.2.2, (h c).2.2.2.2⟩) (Cert.Kernel9Ideal.Value.run_blocks m g),
    (θ_run _ _ _).mono (fun r h c => ⟨(h c).1.trans ((val_main_v2_eq _).trans ?_), (h c).2.1.trans ((val_main_v26_eq _ _ _ _).trans ?_), (h c).2.2.1.trans ((val_main_v7_eq _ _).trans ?_), (h c).2.2.2.1.trans ((val_main_v13_eq _ _).trans ?_), (h c).2.2.2.2⟩) (Cert.Reference9Ideal.Value.run m' g')⟩
  all_goals simp only [(hag c).1, (hag c).2.1, (hag c).2.2.1, (hag c).2.2.2]

end Cert.UpAbIn
-- ==== Proof.UpAbOut.lean ====
/-
  The optimiser's step at the first layer's output weight: the eight devices' gradients summed, the change of the weight, both moments moved.
-/
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.UpAbOut

open Cert.Kernel10Ideal Cert.Kernel10Ideal.Gen Cert.Kernel10Ideal.Value Cert.Reference10Ideal.Read

/-- Every window is on the point's rows. -/
theorem idx : ∀ t : Fin cfg0.N, win0_0.index t = ![0, t.val, 0] ∧ win0_1.index t = ![0, t.val, 0] ∧ win0_2.index t = ![0, t.val, 0] ∧ win0_3.index t = ![0, t.val, 0]
    ∧ win0_4.index t = ![0, t.val, 0] ∧ win0_5.index t = ![0, t.val, 0] ∧ win0_6.index t = ![0, t.val, 0] ∧ win0_7.index t = ![0, t.val, 0] :=
  (by decide +kernel : ∀ t : Fin grid0.N, _)

theorem arrs (m : (ℓ : Loc nD τ sig) → Buf (Elt Ideal) ℓ) (c : Dev nD) :
    (dats m 0 c).arrAt 4 cfg0.N = val_main_v2 (F := Ideal) (m ((c : Thread nD τ).loc main_arg0))
    ∧ (dats m 0 c).arrAt 5 cfg0.N = val_main_v26 (F := Ideal) (m ((c : Thread nD τ).loc main_arg0)) (m ((c : Thread nD τ).loc main_arg1)) (m ((c : Thread nD τ).loc main_arg2)) (m ((c : Thread nD τ).loc main_arg3))
    ∧ (dats m 0 c).arrAt 6 cfg0.N = val_main_v7 (F := Ideal) (m ((c : Thread nD τ).loc main_arg0)) (m ((c : Thread nD τ).loc main_arg2))
    ∧ (dats m 0 c).arrAt 7 cfg0.N = val_main_v13 (F := Ideal) (m ((c : Thread nD τ).loc main_arg0)) (m ((c : Thread nD τ).loc main_arg3)) := by
  refine ⟨(dats m 0 c).arrAt_eq_of_covers 4 _ (by decide +kernel) fun t hf y => ?_, (dats m 0 c).arrAt_eq_of_covers 5 _ (by decide +kernel) fun t hf y => ?_,
    (dats m 0 c).arrAt_eq_of_covers 6 _ (by decide +kernel) fun t hf y => ?_, (dats m 0 c).arrAt_eq_of_covers 7 _ (by decide +kernel) fun t hf y => ?_⟩
  all_goals
    blk_simp
    first | rw [after0_4] | rw [after0_5] | rw [after0_6] | rw [after0_7]
    unfold outsAt0
    frame_out
    pointwise [k0_pay1, k0_pay2, k0_pay3, k0_pay4, k0_pay5, k0_pay6, k0_pay7, val_main_v0, val_main_v1, val_main_v2, val_main_v3, val_main_v4, val_main_v5, val_main_v6, val_main_v7,
      val_main_v8, val_main_v9, val_main_v10, val_main_v11, val_main_v12, val_main_v13, val_main_v14, val_main_v15, val_main_v16, val_main_v17, val_main_v18, val_main_v19, val_main_v20,
      val_main_v21, val_main_v22, val_main_v23, val_main_v24, val_main_v25, val_main_v26, val_main_cst, val_main_cst_0, val_main_cst_1, val_main_cst_2, val_main_cst_3, val_main_cst_4,
      val_main_cst_5, val_main_cst_6, val_main_cst_7, val_main_cst_8]
    simp only [Fin.sum_univ_eight]
    blk_point [iblk, V, idx t]

theorem alg : algebraic_Kernel10Ideal_Reference10Ideal (hKernel10Ideal := Cert.Kernel10Ideal.Gen.facts) (hReference10Ideal := Cert.Reference10Ideal.Gen.facts) := by
  intro m g m' g' _ hag
  refine ⟨_, _, _, _,
    (θ_run _ _ _).mono (fun r h c => ⟨(h c).1.trans (arrs m c).1, (h c).2.1.trans (arrs m c).2.1, (h c).2.2.1.trans (arrs m c).2.2.1, (h c).2.2.2.1.trans (arrs m c).2.2.2, (h c).2.2.2.2⟩) (Cert.Kernel10Ideal.Value.run_blocks m g),
    (θ_run _ _ _).mono (fun r h c => ⟨(h c).1.trans ((val_main_v2_eq _).trans ?_), (h c).2.1.trans ((val_main_v26_eq _ _ _ _).trans ?_), (h c).2.2.1.trans ((val_main_v7_eq _ _).trans ?_), (h c).2.2.2.1.trans ((val_main_v13_eq _ _).trans ?_), (h c).2.2.2.2⟩) (Cert.Reference10Ideal.Value.run m' g')⟩
  all_goals simp only [(hag c).1, (hag c).2.1, (hag c).2.2.1, (hag c).2.2.2]

end Cert.UpAbOut
-- ==== Proof.UpGlu.lean ====
/-
  The optimiser's step at the gate after the scan: the eight devices' gradients summed, the change of the weight, both moments moved.
-/
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.UpGlu

open Cert.Kernel11Ideal Cert.Kernel11Ideal.Gen Cert.Kernel11Ideal.Value Cert.Reference11Ideal.Read

/-- Every window is on the point's rows. -/
theorem idx : ∀ t : Fin cfg0.N, win0_0.index t = ![0, t.val, 0] ∧ win0_1.index t = ![0, t.val, 0] ∧ win0_2.index t = ![0, t.val, 0] ∧ win0_3.index t = ![0, t.val, 0]
    ∧ win0_4.index t = ![0, t.val, 0] ∧ win0_5.index t = ![0, t.val, 0] ∧ win0_6.index t = ![0, t.val, 0] ∧ win0_7.index t = ![0, t.val, 0] :=
  (by decide +kernel : ∀ t : Fin grid0.N, _)

theorem arrs (m : (ℓ : Loc nD τ sig) → Buf (Elt Ideal) ℓ) (c : Dev nD) :
    (dats m 0 c).arrAt 4 cfg0.N = val_main_v2 (F := Ideal) (m ((c : Thread nD τ).loc main_arg0))
    ∧ (dats m 0 c).arrAt 5 cfg0.N = val_main_v26 (F := Ideal) (m ((c : Thread nD τ).loc main_arg0)) (m ((c : Thread nD τ).loc main_arg1)) (m ((c : Thread nD τ).loc main_arg2)) (m ((c : Thread nD τ).loc main_arg3))
    ∧ (dats m 0 c).arrAt 6 cfg0.N = val_main_v7 (F := Ideal) (m ((c : Thread nD τ).loc main_arg0)) (m ((c : Thread nD τ).loc main_arg2))
    ∧ (dats m 0 c).arrAt 7 cfg0.N = val_main_v13 (F := Ideal) (m ((c : Thread nD τ).loc main_arg0)) (m ((c : Thread nD τ).loc main_arg3)) := by
  refine ⟨(dats m 0 c).arrAt_eq_of_covers 4 _ (by decide +kernel) fun t hf y => ?_, (dats m 0 c).arrAt_eq_of_covers 5 _ (by decide +kernel) fun t hf y => ?_,
    (dats m 0 c).arrAt_eq_of_covers 6 _ (by decide +kernel) fun t hf y => ?_, (dats m 0 c).arrAt_eq_of_covers 7 _ (by decide +kernel) fun t hf y => ?_⟩
  all_goals
    blk_simp
    first | rw [after0_4] | rw [after0_5] | rw [after0_6] | rw [after0_7]
    unfold outsAt0
    frame_out
    pointwise [k0_pay1, k0_pay2, k0_pay3, k0_pay4, k0_pay5, k0_pay6, k0_pay7, val_main_v0, val_main_v1, val_main_v2, val_main_v3, val_main_v4, val_main_v5, val_main_v6, val_main_v7,
      val_main_v8, val_main_v9, val_main_v10, val_main_v11, val_main_v12, val_main_v13, val_main_v14, val_main_v15, val_main_v16, val_main_v17, val_main_v18, val_main_v19, val_main_v20,
      val_main_v21, val_main_v22, val_main_v23, val_main_v24, val_main_v25, val_main_v26, val_main_cst, val_main_cst_0, val_main_cst_1, val_main_cst_2, val_main_cst_3, val_main_cst_4,
      val_main_cst_5, val_main_cst_6, val_main_cst_7, val_main_cst_8]
    simp only [Fin.sum_univ_eight]
    blk_point [iblk, V, idx t]

theorem alg : algebraic_Kernel11Ideal_Reference11Ideal (hKernel11Ideal := Cert.Kernel11Ideal.Gen.facts) (hReference11Ideal := Cert.Reference11Ideal.Gen.facts) := by
  intro m g m' g' _ hag
  refine ⟨_, _, _, _,
    (θ_run _ _ _).mono (fun r h c => ⟨(h c).1.trans (arrs m c).1, (h c).2.1.trans (arrs m c).2.1, (h c).2.2.1.trans (arrs m c).2.2.1, (h c).2.2.2.1.trans (arrs m c).2.2.2, (h c).2.2.2.2⟩) (Cert.Kernel11Ideal.Value.run_blocks m g),
    (θ_run _ _ _).mono (fun r h c => ⟨(h c).1.trans ((val_main_v2_eq _).trans ?_), (h c).2.1.trans ((val_main_v26_eq _ _ _ _).trans ?_), (h c).2.2.1.trans ((val_main_v7_eq _ _).trans ?_), (h c).2.2.2.1.trans ((val_main_v13_eq _ _).trans ?_), (h c).2.2.2.2⟩) (Cert.Reference11Ideal.Value.run m' g')⟩
  all_goals simp only [(hag c).1, (hag c).2.1, (hag c).2.2.1, (hag c).2.2.2]

end Cert.UpGlu
-- ==== Proof.UpFfn1.lean ====
/-
  The optimiser's step at the feed-forward's first weight, which both layers have: the layer is the grid's slow axis.
-/
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.UpFfn1

open Cert.Kernel12Ideal Cert.Kernel12Ideal.Gen Cert.Kernel12Ideal.Value Cert.Reference12Ideal.Read

/-- At the first four points every window is on the point's rows of the first layer, -/
theorem idx0 : ∀ t : Fin cfg0.N, t.val < 4 → win0_0.index t = ![0, t.val, 0] ∧ win0_2.index t = ![0, t.val, 0] ∧ win0_3.index t = ![0, t.val, 0] ∧ win0_4.index t = ![0, t.val, 0]
    ∧ win0_5.index t = ![0, t.val, 0] ∧ win0_6.index t = ![0, t.val, 0] ∧ win0_7.index t = ![0, t.val, 0] ∧ win0_8.index t = ![0, t.val, 0] :=
  (by decide +kernel : ∀ t : Fin grid0.N, _)

/-- and at the last four on those of the second. -/
theorem idx1 : ∀ t : Fin cfg0.N, 4 ≤ t.val → win0_1.index t = ![0, t.val - 4, 0] ∧ win0_2.index t = ![1, t.val - 4, 0] ∧ win0_3.index t = ![1, t.val - 4, 0] ∧ win0_4.index t = ![1, t.val - 4, 0]
    ∧ win0_5.index t = ![1, t.val - 4, 0] ∧ win0_6.index t = ![1, t.val - 4, 0] ∧ win0_7.index t = ![1, t.val - 4, 0] ∧ win0_8.index t = ![1, t.val - 4, 0] :=
  (by decide +kernel : ∀ t : Fin grid0.N, _)

/-- So each result's row at a point is one of the layer's, by which the two layers' gradients are told apart. -/
theorem lt5 (t : Fin cfg0.N) (h : t.val < 4) (y) : (((View.whole main_v0_0).slice (win0_5.rect t)).emb y 0).val < 1 := by
  show win0_5.index t 0 * 1 + 1 * (y 0).val < 1
  have h0 : (y 0).val < 1 := (y 0).isLt
  simp [(idx0 t h).2.2.2.2.1, h0]
theorem ge5 (t : Fin cfg0.N) (h : 4 ≤ t.val) (y) : ¬(((View.whole main_v0_0).slice (win0_5.rect t)).emb y 0).val < 1 := by
  show ¬win0_5.index t 0 * 1 + 1 * (y 0).val < 1
  simp [(idx1 t h).2.2.2.2.1]
theorem lt6 (t : Fin cfg0.N) (h : t.val < 4) (y) : (((View.whole main_v0_1).slice (win0_6.rect t)).emb y 0).val < 1 := by
  show win0_6.index t 0 * 1 + 1 * (y 0).val < 1
  have h0 : (y 0).val < 1 := (y 0).isLt
  simp [(idx0 t h).2.2.2.2.2.1, h0]
theorem ge6 (t : Fin cfg0.N) (h : 4 ≤ t.val) (y) : ¬(((View.whole main_v0_1).slice (win0_6.rect t)).emb y 0).val < 1 := by
  show ¬win0_6.index t 0 * 1 + 1 * (y 0).val < 1
  simp [(idx1 t h).2.2.2.2.2.1]
theorem lt7 (t : Fin cfg0.N) (h : t.val < 4) (y) : (((View.whole main_v0_2).slice (win0_7.rect t)).emb y 0).val < 1 := by
  show win0_7.index t 0 * 1 + 1 * (y 0).val < 1
  have h0 : (y 0).val < 1 := (y 0).isLt
  simp [(idx0 t h).2.2.2.2.2.2.1, h0]
theorem ge7 (t : Fin cfg0.N) (h : 4 ≤ t.val) (y) : ¬(((View.whole main_v0_2).slice (win0_7.rect t)).emb y 0).val < 1 := by
  show ¬win0_7.index t 0 * 1 + 1 * (y 0).val < 1
  simp [(idx1 t h).2.2.2.2.2.2.1]
theorem lt8 (t : Fin cfg0.N) (h : t.val < 4) (y) : (((View.whole main_v0_3).slice (win0_8.rect t)).emb y 0).val < 1 := by
  show win0_8.index t 0 * 1 + 1 * (y 0).val < 1
  have h0 : (y 0).val < 1 := (y 0).isLt
  simp [(idx0 t h).2.2.2.2.2.2.2, h0]
theorem ge8 (t : Fin cfg0.N) (h : 4 ≤ t.val) (y) : ¬(((View.whole main_v0_3).slice (win0_8.rect t)).emb y 0).val < 1 := by
  show ¬win0_8.index t 0 * 1 + 1 * (y 0).val < 1
  simp [(idx1 t h).2.2.2.2.2.2.2]

set_option maxHeartbeats 2000000 in
theorem arrs (m : (ℓ : Loc nD τ sig) → Buf (Elt Ideal) ℓ) (c : Dev nD) :
    (dats m 0 c).arrAt 5 cfg0.N = val_main_v6 (F := Ideal) (m ((c : Thread nD τ).loc main_arg0)) (m ((c : Thread nD τ).loc main_arg1))
    ∧ (dats m 0 c).arrAt 6 cfg0.N = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    ∧ (dats m 0 c).arrAt 7 cfg0.N = val_main_v11 (F := Ideal) (m ((c : Thread nD τ).loc main_arg0)) (m ((c : Thread nD τ).loc main_arg1)) (m ((c : Thread nD τ).loc main_arg3))
    ∧ (dats m 0 c).arrAt 8 cfg0.N = val_main_v17 (F := Ideal) (m ((c : Thread nD τ).loc main_arg0)) (m ((c : Thread nD τ).loc main_arg1)) (m ((c : Thread nD τ).loc main_arg4)) := by
  refine ⟨(dats m 0 c).arrAt_eq_of_covers 5 _ (by decide +kernel) fun t hf y => ?_, (dats m 0 c).arrAt_eq_of_covers 6 _ (by decide +kernel) fun t hf y => ?_,
    (dats m 0 c).arrAt_eq_of_covers 7 _ (by decide +kernel) fun t hf y => ?_, (dats m 0 c).arrAt_eq_of_covers 8 _ (by decide +kernel) fun t hf y => ?_⟩
  all_goals
    by_cases h0 : t.val < 4
    all_goals
      blk_simp
      first | rw [after0_5] | rw [after0_6] | rw [after0_7] | rw [after0_8]
      first | rw [outsAt0_A m c t h0 (by omega)] | rw [outsAt0_B m c t h0 (by omega)]
      frame_out
      pointwise [k0_pay1, k0_pay2, k0_pay3, k0_pay4, k0_pay5, k0_pay6, k0_pay7, k0_pay8, k0_pay9, k0_pay10, k0_pay11, k0_pay12, k0_pay13, k0_pay14, val_main_v0,
        val_main_v1, val_main_v2, val_main_v3, val_main_v4, val_main_v5, val_main_v6, val_main_v7, val_main_v8, val_main_v9, val_main_v10, val_main_v11, val_main_v12,
        val_main_v13, val_main_v14, val_main_v15, val_main_v16, val_main_v17, val_main_v18, val_main_v19, val_main_v20, val_main_v21, val_main_v22, val_main_v23,
        val_main_v24, val_main_v25, val_main_v26, val_main_v27, val_main_v28, val_main_v29, val_main_v30, val_main_cst, val_main_cst_0, val_main_cst_1, val_main_cst_2,
        val_main_cst_3, val_main_cst_4, val_main_cst_5, val_main_cst_6, val_main_cst_7, val_main_cst_8, val_main_cst_9]
      first
        | simp only [lt5 t h0, lt6 t h0, lt7 t h0, lt8 t h0, Fin.sum_univ_eight, ↓reduceDIte]
          blk_point [iblk, V, idx0 t h0]
        | simp only [ge5 t (not_lt.mp h0), ge6 t (not_lt.mp h0), ge7 t (not_lt.mp h0), ge8 t (not_lt.mp h0), Fin.sum_univ_eight, ↓reduceDIte]
          blk_point [iblk, V, idx1 t (not_lt.mp h0)]

theorem alg : algebraic_Kernel12Ideal_Reference12Ideal (hKernel12Ideal := Cert.Kernel12Ideal.Gen.facts) (hReference12Ideal := Cert.Reference12Ideal.Gen.facts) := by
  intro m g m' g' _ hag
  refine ⟨_, _, _, _,
    (θ_run _ _ _).mono (fun r h c => ⟨(h c).1.trans (arrs m c).1, (h c).2.1.trans (arrs m c).2.1, (h c).2.2.1.trans (arrs m c).2.2.1, (h c).2.2.2.1.trans (arrs m c).2.2.2, (h c).2.2.2.2⟩) (Cert.Kernel12Ideal.Value.run_blocks m g),
    (θ_run _ _ _).mono (fun r h c => ⟨(h c).1.trans ((val_main_v6_eq _ _).trans ?_), (h c).2.1.trans ((val_main_v30_eq _ _ _ _ _).trans ?_), (h c).2.2.1.trans ((val_main_v11_eq _ _ _).trans ?_), (h c).2.2.2.1.trans ((val_main_v17_eq _ _ _).trans ?_), (h c).2.2.2.2⟩) (Cert.Reference12Ideal.Value.run m' g')⟩
  all_goals simp only [(hag c).1, (hag c).2.1, (hag c).2.2.1, (hag c).2.2.2.1, (hag c).2.2.2.2]

end Cert.UpFfn1
-- ==== Proof.UpFfn2.lean ====
/-
  The optimiser's step at the feed-forward's second weight, which both layers have: the layer is the grid's slow axis.
-/
module

public import proofs.«01_k».proof.Defs
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.UpFfn2

open Cert.Kernel13Ideal Cert.Kernel13Ideal.Gen Cert.Kernel13Ideal.Value Cert.Reference13Ideal.Read

/-- At the first two points every window is on the point's rows of the first layer, -/
theorem idx0 : ∀ t : Fin cfg0.N, t.val < 2 → win0_0.index t = ![0, t.val, 0] ∧ win0_2.index t = ![0, t.val, 0] ∧ win0_3.index t = ![0, t.val, 0] ∧ win0_4.index t = ![0, t.val, 0]
    ∧ win0_5.index t = ![0, t.val, 0] ∧ win0_6.index t = ![0, t.val, 0] ∧ win0_7.index t = ![0, t.val, 0] ∧ win0_8.index t = ![0, t.val, 0] :=
  (by decide +kernel : ∀ t : Fin grid0.N, _)

/-- and at the last two on those of the second. -/
theorem idx1 : ∀ t : Fin cfg0.N, 2 ≤ t.val → win0_1.index t = ![0, t.val - 2, 0] ∧ win0_2.index t = ![1, t.val - 2, 0] ∧ win0_3.index t = ![1, t.val - 2, 0] ∧ win0_4.index t = ![1, t.val - 2, 0]
    ∧ win0_5.index t = ![1, t.val - 2, 0] ∧ win0_6.index t = ![1, t.val - 2, 0] ∧ win0_7.index t = ![1, t.val - 2, 0] ∧ win0_8.index t = ![1, t.val - 2, 0] :=
  (by decide +kernel : ∀ t : Fin grid0.N, _)

/-- So each result's row at a point is one of the layer's, by which the two layers' gradients are told apart. -/
theorem lt5 (t : Fin cfg0.N) (h : t.val < 2) (y) : (((View.whole main_v0_0).slice (win0_5.rect t)).emb y 0).val < 1 := by
  show win0_5.index t 0 * 1 + 1 * (y 0).val < 1
  have h0 : (y 0).val < 1 := (y 0).isLt
  simp [(idx0 t h).2.2.2.2.1, h0]
theorem ge5 (t : Fin cfg0.N) (h : 2 ≤ t.val) (y) : ¬(((View.whole main_v0_0).slice (win0_5.rect t)).emb y 0).val < 1 := by
  show ¬win0_5.index t 0 * 1 + 1 * (y 0).val < 1
  simp [(idx1 t h).2.2.2.2.1]
theorem lt6 (t : Fin cfg0.N) (h : t.val < 2) (y) : (((View.whole main_v0_1).slice (win0_6.rect t)).emb y 0).val < 1 := by
  show win0_6.index t 0 * 1 + 1 * (y 0).val < 1
  have h0 : (y 0).val < 1 := (y 0).isLt
  simp [(idx0 t h).2.2.2.2.2.1, h0]
theorem ge6 (t : Fin cfg0.N) (h : 2 ≤ t.val) (y) : ¬(((View.whole main_v0_1).slice (win0_6.rect t)).emb y 0).val < 1 := by
  show ¬win0_6.index t 0 * 1 + 1 * (y 0).val < 1
  simp [(idx1 t h).2.2.2.2.2.1]
theorem lt7 (t : Fin cfg0.N) (h : t.val < 2) (y) : (((View.whole main_v0_2).slice (win0_7.rect t)).emb y 0).val < 1 := by
  show win0_7.index t 0 * 1 + 1 * (y 0).val < 1
  have h0 : (y 0).val < 1 := (y 0).isLt
  simp [(idx0 t h).2.2.2.2.2.2.1, h0]
theorem ge7 (t : Fin cfg0.N) (h : 2 ≤ t.val) (y) : ¬(((View.whole main_v0_2).slice (win0_7.rect t)).emb y 0).val < 1 := by
  show ¬win0_7.index t 0 * 1 + 1 * (y 0).val < 1
  simp [(idx1 t h).2.2.2.2.2.2.1]
theorem lt8 (t : Fin cfg0.N) (h : t.val < 2) (y) : (((View.whole main_v0_3).slice (win0_8.rect t)).emb y 0).val < 1 := by
  show win0_8.index t 0 * 1 + 1 * (y 0).val < 1
  have h0 : (y 0).val < 1 := (y 0).isLt
  simp [(idx0 t h).2.2.2.2.2.2.2, h0]
theorem ge8 (t : Fin cfg0.N) (h : 2 ≤ t.val) (y) : ¬(((View.whole main_v0_3).slice (win0_8.rect t)).emb y 0).val < 1 := by
  show ¬win0_8.index t 0 * 1 + 1 * (y 0).val < 1
  simp [(idx1 t h).2.2.2.2.2.2.2]

set_option maxHeartbeats 2000000 in
theorem arrs (m : (ℓ : Loc nD τ sig) → Buf (Elt Ideal) ℓ) (c : Dev nD) :
    (dats m 0 c).arrAt 5 cfg0.N = val_main_v6 (F := Ideal) (m ((c : Thread nD τ).loc main_arg0)) (m ((c : Thread nD τ).loc main_arg1))
    ∧ (dats m 0 c).arrAt 6 cfg0.N = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    ∧ (dats m 0 c).arrAt 7 cfg0.N = val_main_v11 (F := Ideal) (m ((c : Thread nD τ).loc main_arg0)) (m ((c : Thread nD τ).loc main_arg1)) (m ((c : Thread nD τ).loc main_arg3))
    ∧ (dats m 0 c).arrAt 8 cfg0.N = val_main_v17 (F := Ideal) (m ((c : Thread nD τ).loc main_arg0)) (m ((c : Thread nD τ).loc main_arg1)) (m ((c : Thread nD τ).loc main_arg4)) := by
  refine ⟨(dats m 0 c).arrAt_eq_of_covers 5 _ (by decide +kernel) fun t hf y => ?_, (dats m 0 c).arrAt_eq_of_covers 6 _ (by decide +kernel) fun t hf y => ?_,
    (dats m 0 c).arrAt_eq_of_covers 7 _ (by decide +kernel) fun t hf y => ?_, (dats m 0 c).arrAt_eq_of_covers 8 _ (by decide +kernel) fun t hf y => ?_⟩
  all_goals
    by_cases h0 : t.val < 2
    all_goals
      blk_simp
      first | rw [after0_5] | rw [after0_6] | rw [after0_7] | rw [after0_8]
      first | rw [outsAt0_A m c t h0 (by omega)] | rw [outsAt0_B m c t h0 (by omega)]
      frame_out
      pointwise [k0_pay1, k0_pay2, k0_pay3, k0_pay4, k0_pay5, k0_pay6, k0_pay7, k0_pay8, k0_pay9, k0_pay10, k0_pay11, k0_pay12, k0_pay13, k0_pay14, val_main_v0,
        val_main_v1, val_main_v2, val_main_v3, val_main_v4, val_main_v5, val_main_v6, val_main_v7, val_main_v8, val_main_v9, val_main_v10, val_main_v11, val_main_v12,
        val_main_v13, val_main_v14, val_main_v15, val_main_v16, val_main_v17, val_main_v18, val_main_v19, val_main_v20, val_main_v21, val_main_v22, val_main_v23,
        val_main_v24, val_main_v25, val_main_v26, val_main_v27, val_main_v28, val_main_v29, val_main_v30, val_main_cst, val_main_cst_0, val_main_cst_1, val_main_cst_2,
        val_main_cst_3, val_main_cst_4, val_main_cst_5, val_main_cst_6, val_main_cst_7, val_main_cst_8, val_main_cst_9]
      first
        | simp only [lt5 t h0, lt6 t h0, lt7 t h0, lt8 t h0, Fin.sum_univ_eight, ↓reduceDIte]
          blk_point [iblk, V, idx0 t h0]
        | simp only [ge5 t (not_lt.mp h0), ge6 t (not_lt.mp h0), ge7 t (not_lt.mp h0), ge8 t (not_lt.mp h0), Fin.sum_univ_eight, ↓reduceDIte]
          blk_point [iblk, V, idx1 t (not_lt.mp h0)]

theorem alg : algebraic_Kernel13Ideal_Reference13Ideal (hKernel13Ideal := Cert.Kernel13Ideal.Gen.facts) (hReference13Ideal := Cert.Reference13Ideal.Gen.facts) := by
  intro m g m' g' _ hag
  refine ⟨_, _, _, _,
    (θ_run _ _ _).mono (fun r h c => ⟨(h c).1.trans (arrs m c).1, (h c).2.1.trans (arrs m c).2.1, (h c).2.2.1.trans (arrs m c).2.2.1, (h c).2.2.2.1.trans (arrs m c).2.2.2, (h c).2.2.2.2⟩) (Cert.Kernel13Ideal.Value.run_blocks m g),
    (θ_run _ _ _).mono (fun r h c => ⟨(h c).1.trans ((val_main_v6_eq _ _).trans ?_), (h c).2.1.trans ((val_main_v30_eq _ _ _ _ _).trans ?_), (h c).2.2.1.trans ((val_main_v11_eq _ _ _).trans ?_), (h c).2.2.2.1.trans ((val_main_v17_eq _ _ _).trans ?_), (h c).2.2.2.2⟩) (Cert.Reference13Ideal.Value.run m' g')⟩
  all_goals simp only [(hag c).1, (hag c).2.1, (hag c).2.2.1, (hag c).2.2.2.1, (hag c).2.2.2.2]

end Cert.UpFfn2
-- ==== Proof.UpSmall.lean ====
/-
  The optimiser's step at the small weights, packed in one array.
-/
module

public import proofs.«01_k».proof.Defs
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.UpSmall

open Cert.Kernel14Ideal Cert.Kernel14Ideal.Gen Cert.Kernel14Ideal.Value Cert.Reference14Ideal.Read

/-- The grid is one point, and every window the whole array. -/
theorem idx : win0_0.index t0_0 = ![0, 0] ∧ win0_1.index t0_0 = ![0, 0] ∧ win0_2.index t0_0 = ![0, 0] ∧ win0_3.index t0_0 = ![0, 0] ∧ win0_4.index t0_0 = ![0, 0] ∧ win0_5.index t0_0 = ![0, 0] ∧ win0_6.index t0_0 = ![0, 0] := by decide +kernel

theorem arrs (m : (ℓ : Loc nD τ sig) → Buf (Elt Ideal) ℓ) (c : Dev nD) :
    (dats m 0 c).arrAt 4 cfg0.N = val_main_v23 (F := Ideal) (m ((c : Thread nD τ).loc main_arg0)) (m ((c : Thread nD τ).loc main_arg1)) (m ((c : Thread nD τ).loc main_arg2)) (m ((c : Thread nD τ).loc main_arg3))
    ∧ (dats m 0 c).arrAt 5 cfg0.N = val_main_v4 (F := Ideal) (m ((c : Thread nD τ).loc main_arg1)) (m ((c : Thread nD τ).loc main_arg2))
    ∧ (dats m 0 c).arrAt 6 cfg0.N = val_main_v10 (F := Ideal) (m ((c : Thread nD τ).loc main_arg1)) (m ((c : Thread nD τ).loc main_arg3)) := by
  refine ⟨(dats m 0 c).arrAt_eq_of_after_last 4 t0_0 (by decide +kernel) _ fun y => ?_, (dats m 0 c).arrAt_eq_of_after_last 5 t0_0 (by decide +kernel) _ fun y => ?_,
    (dats m 0 c).arrAt_eq_of_after_last 6 t0_0 (by decide +kernel) _ fun y => ?_⟩
  all_goals
    blk_simp
    first | rw [after0_4] | rw [after0_5] | rw [after0_6]
    frame_out
    pointwise [k0_pay1, k0_pay2, k0_pay3, val_main_v0, val_main_v1, val_main_v2, val_main_v3, val_main_v4, val_main_v5, val_main_v6, val_main_v7,
      val_main_v8, val_main_v9, val_main_v10, val_main_v11, val_main_v12, val_main_v13, val_main_v14, val_main_v15, val_main_v16, val_main_v17, val_main_v18, val_main_v19, val_main_v20,
      val_main_v21, val_main_v22, val_main_v23, val_main_cst, val_main_cst_0, val_main_cst_1, val_main_cst_2, val_main_cst_3, val_main_cst_4,
      val_main_cst_5, val_main_cst_6, val_main_cst_7]
    blk_point [iblk, V, idx]

theorem alg : algebraic_Kernel14Ideal_Reference14Ideal (hKernel14Ideal := Cert.Kernel14Ideal.Gen.facts) (hReference14Ideal := Cert.Reference14Ideal.Gen.facts) := by
  intro m g m' g' _ hag
  refine ⟨_, _, _,
    (θ_run _ _ _).mono (fun r h c => ⟨(h c).1.trans (arrs m c).1, (h c).2.1.trans (arrs m c).2.1, (h c).2.2.1.trans (arrs m c).2.2, (h c).2.2.2⟩) (Cert.Kernel14Ideal.Value.run_blocks m g),
    (θ_run _ _ _).mono (fun r h c => ⟨(h c).1.trans ((val_main_v23_eq _ _ _ _).trans ?_), (h c).2.1.trans ((val_main_v4_eq _ _).trans ?_), (h c).2.2.1.trans ((val_main_v10_eq _ _).trans ?_), (h c).2.2.2⟩) (Cert.Reference14Ideal.Value.run m' g')⟩
  all_goals simp only [(hag c).1, (hag c).2.1, (hag c).2.2.1, (hag c).2.2.2]

end Cert.UpSmall
-- ==== Proof.SumEarly.lean ====
/-
  The sum of the eight devices' packed gradients of the small weights: the part that is exchanged early, the larger one.
-/
module

public import proofs.«01_k».proof.Defs
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SumEarly

open Cert.Kernel15Ideal Cert.Kernel15Ideal.Gen Cert.Kernel15Ideal.Value Cert.Reference15Ideal.Read

/-- The grid is one point, and both windows the whole arrays. -/
theorem idx : win0_0.index t0_0 = ![0, 0, 0] ∧ win0_1.index t0_0 = ![0, 0] := by decide +kernel

theorem arr1 (m : (ℓ : Loc nD τ sig) → Buf (Elt Ideal) ℓ) (c : Dev nD) :
    (dats m 0 c).arrAt 1 cfg0.N = val_main_v0 (F := Ideal) (m ((c : Thread nD τ).loc main_arg0)) := by
  refine (dats m 0 c).arrAt_eq_of_after_last 1 t0_0 (by decide +kernel) _ fun y => ?_
  blk_simp
  rw [after0_1]; frame_out
  pointwise [k0_pay1, val_main_v0, val_main_cst]
  simp only [Fin.sum_univ_eight]
  blk_point [iblk, V, idx]

theorem alg : algebraic_Kernel15Ideal_Reference15Ideal (hKernel15Ideal := Cert.Kernel15Ideal.Gen.facts) (hReference15Ideal := Cert.Reference15Ideal.Gen.facts) := by
  intro m g m' g' _ hag
  refine ⟨_, (θ_run _ _ _).mono (fun r h c => ⟨(h c).1.trans (arr1 m c), (h c).2⟩) (Cert.Kernel15Ideal.Value.run_blocks m g),
    (θ_run _ _ _).mono (fun r h c => ⟨(h c).1.trans ((val_main_v0_eq _).trans ?_), (h c).2⟩) (Cert.Reference15Ideal.Value.run m' g')⟩
  rw [hag c]

end Cert.SumEarly
-- ==== Proof.SumLate.lean ====
/-
  The sum of the eight devices' packed gradients of the small weights: the part that is exchanged last, the smaller one.
-/
module

public import proofs.«01_k».proof.Defs
public import proofs.«01_k».proof.Proof.Gen.Kernel16Ideal.Value
public import proofs.«01_k».proof.Proof.Gen.Reference16Ideal.Run
public import proofs.«01_k».proof.Proof.Gen.Reference16Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SumLate

open Cert.Kernel16Ideal Cert.Kernel16Ideal.Gen Cert.Kernel16Ideal.Value Cert.Reference16Ideal.Read

/-- The grid is one point, and both windows the whole arrays. -/
theorem idx : win0_0.index t0_0 = ![0, 0, 0] ∧ win0_1.index t0_0 = ![0, 0] := by decide +kernel

theorem arr1 (m : (ℓ : Loc nD τ sig) → Buf (Elt Ideal) ℓ) (c : Dev nD) :
    (dats m 0 c).arrAt 1 cfg0.N = val_main_v0 (F := Ideal) (m ((c : Thread nD τ).loc main_arg0)) := by
  refine (dats m 0 c).arrAt_eq_of_after_last 1 t0_0 (by decide +kernel) _ fun y => ?_
  blk_simp
  rw [after0_1]; frame_out
  pointwise [k0_pay1, val_main_v0, val_main_cst]
  simp only [Fin.sum_univ_eight]
  blk_point [iblk, V, idx]

theorem alg : algebraic_Kernel16Ideal_Reference16Ideal (hKernel16Ideal := Cert.Kernel16Ideal.Gen.facts) (hReference16Ideal := Cert.Reference16Ideal.Gen.facts) := by
  intro m g m' g' _ hag
  refine ⟨_, (θ_run _ _ _).mono (fun r h c => ⟨(h c).1.trans (arr1 m c), (h c).2⟩) (Cert.Kernel16Ideal.Value.run_blocks m g),
    (θ_run _ _ _).mono (fun r h c => ⟨(h c).1.trans ((val_main_v0_eq _).trans ?_), (h c).2⟩) (Cert.Reference16Ideal.Value.run m' g')⟩
  rw [hag c]

end Cert.SumLate
-- ==== Proof.LossHead.lean ====
/-
  The loss and the gradients it starts the backward pass with: half the sum over positions of the mean square of the error,
  the gradient at the last norm's input row block by row block, and the gradient at the norm's gain, summed over the row blocks.
-/
module

public import proofs.«01_k».proof.Defs
public import proofs.«01_k».proof.Proof.Gen.Kernel17Ideal.Value
public import proofs.«01_k».proof.Proof.Gen.Reference17Ideal.Run
public import proofs.«01_k».proof.Proof.Gen.Reference17Ideal.Read
public import proofs.«01_k».proof.Proof.Common
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.LossHead

open Cert.Kernel17Ideal Cert.Kernel17Ideal.Gen Cert.Kernel17Ideal.Value Cert.Reference17Ideal.Read Cert.Common

/-! ## The constants -/

theorem thousandth_eq : Ideal.ofBits .f32 0x3A800000#32 = ((1 / 1024 : ℝ) : EReal) := by
  simp [Ideal.ofBits, Ideal.ieee, -EReal.coe_mul]; norm_num

theorem half_thousandth_eq : Ideal.ofBits .f32 0x3A000000#32 = ((1 / 2048 : ℝ) : EReal) := by
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem one_eq : Ideal.ofBits .f32 0x3F800000#32 = ((1 : ℝ) : EReal) := by
  simp [Ideal.ofBits, Ideal.ieee, -EReal.coe_mul]; norm_num

theorem scale_eq (e : EReal) :
    Ideal.div (Ideal.ofBits .f32 0x3F000000#32 * Ideal.ofBits .f32 0x3F800000#32) (Ideal.ofBits .f32 0x44800000#32) * (Ideal.ofBits .f32 0x40000000#32 * e)
      = e * Ideal.ofBits .f32 0x3A800000#32 := by
  have h := half_eq
  unfold half at h
  rw [div_width, h, one_eq, two_eq, thousandth_eq, mul_comm e, ← mul_assoc, ← EReal.coe_mul, ← EReal.coe_mul, ← EReal.coe_mul]
  norm_num

/-! ## A row at a time -/

variable {n : ℕ}

/-- The error at a position. -/
def err (x : Fin n → Fin 1024 → EReal) (g : Fin 1024 → EReal) (y : Fin n → Fin 1024 → EReal) (r : Fin n) (l : Fin 1024) : EReal :=
  (x r l * Ideal.rsqrt (sigma (x r))) * g l - y r l

/-- The gradient at the norm's output. -/
def dy (x : Fin n → Fin 1024 → EReal) (g : Fin 1024 → EReal) (y : Fin n → Fin 1024 → EReal) (r : Fin n) (l : Fin 1024) : EReal :=
  err x g y r l * Ideal.ofBits .f32 0x3A800000#32

/-- The gradient at the norm's input, as the kernel writes it. -/
def dx (x : Fin n → Fin 1024 → EReal) (g : Fin 1024 → EReal) (y : Fin n → Fin 1024 → EReal) (r : Fin n) (l : Fin 1024) : EReal :=
  Ideal.rsqrt (sigma (x r)) * (dy x g y r l * g l - (x r l * Ideal.rsqrt (sigma (x r))) * Ideal.div (∑ j, (dy x g y r j * g j) * (x r j * Ideal.rsqrt (sigma (x r)))) (Ideal.ofBits .f32 0x44800000#32))

/-- The same, as the derivative reads. -/
theorem dx_eq (x : Fin n → Fin 1024 → EReal) (g : Fin 1024 → EReal) (y : Fin n → Fin 1024 → EReal) (r : Fin n) (l : Fin 1024) :
    dx x g y r l = ((dy x g y r l * g l) * Ideal.rsqrt (sigma (x r))
          + x r l * Ideal.div ((∑ j, x r j * (dy x g y r j * g j)) * (Ideal.ofBits .f32 0xBF000000#32 * Ideal.div (Ideal.rsqrt (sigma (x r))) (sigma (x r)))) (Ideal.ofBits .f32 0x44800000#32))
          + Ideal.div ((∑ j, x r j * (dy x g y r j * g j)) * (Ideal.ofBits .f32 0xBF000000#32 * Ideal.div (Ideal.rsqrt (sigma (x r))) (sigma (x r)))) (Ideal.ofBits .f32 0x44800000#32) * x r l := by
  have h := rms_bwd (x r) (fun j => dy x g y r j * g j) 0 l
  rw [zero_add, zero_add] at h
  exact h

/-! ## The kernel's blocks -/

theorem err_apply (x : FVec Ideal S512x1024 .f32) (g : FVec Ideal S1x1024 .f32) (y : FVec Ideal S512x1024 .f32) (r : Fin 512) (l : Fin 1024) :
    (k0_pay7 x g y : FVec Ideal S512x1024 .f32) (ix2 r l) = err (fun r l => x (ix2 r l)) (fun l => g (ix2 0 l)) (fun r l => y (ix2 r l)) r l := by
  unfold err sigma
  pointwise [k0_pay7, k0_pay6, k0_pay5]

theorem dx_apply (x : FVec Ideal S512x1024 .f32) (g : FVec Ideal S1x1024 .f32) (y : FVec Ideal S512x1024 .f32) (r : Fin 512) (l : Fin 1024) :
    (k0_pay9 x g y g : FVec Ideal S512x1024 .f32) (ix2 r l) = dx (fun r l => x (ix2 r l)) (fun l => g (ix2 0 l)) (fun r l => y (ix2 r l)) r l := by
  unfold dx dy
  simp only [← err_apply]
  unfold k0_pay9 k0_pay8
  generalize (k0_pay7 x g y : FVec Ideal S512x1024 .f32) = e
  unfold sigma
  pointwise [k0_pay6, k0_pay5]

theorem dg_apply (x : FVec Ideal S512x1024 .f32) (g : FVec Ideal S1x1024 .f32) (y : FVec Ideal S512x1024 .f32) (l : Fin 1024) :
    (k0_pay10 x g y : FVec Ideal S1x1024 .f32) (ix2 0 l)
      = ∑ r, dy (fun r l => x (ix2 r l)) (fun l => g (ix2 0 l)) (fun r l => y (ix2 r l)) r l * (x (ix2 r l) * Ideal.rsqrt (sigma fun l => x (ix2 r l))) := by
  unfold dy
  simp only [← err_apply]
  unfold k0_pay10 k0_pay8
  generalize (k0_pay7 x g y : FVec Ideal S512x1024 .f32) = e
  unfold sigma
  pointwise [k0_pay6, k0_pay5]

theorem sq_apply (x : FVec Ideal S512x1024 .f32) (g : FVec Ideal S1x1024 .f32) (y : FVec Ideal S512x1024 .f32) (l : Fin 1024) :
    (k0_pay11 x g y : FVec Ideal S1x1024 .f32) (ix2 0 l)
      = ∑ r, err (fun r l => x (ix2 r l)) (fun l => g (ix2 0 l)) (fun r l => y (ix2 r l)) r l * err (fun r l => x (ix2 r l)) (fun l => g (ix2 0 l)) (fun r l => y (ix2 r l)) r l := by
  simp only [← err_apply]
  unfold k0_pay11
  generalize (k0_pay7 x g y : FVec Ideal S512x1024 .f32) = e
  pointwise []

theorem loss_apply (a : FVec Ideal S1x1024 .f32) (j : S1x128.Idx) :
    (k0_pay4 a : FVec Ideal S1x128 .f32) j = (∑ l : Fin 1024, a (ix2 0 l)) * Ideal.ofBits .f32 0x3A000000#32 := by
  pointwise [k0_pay4]
  simp only [Fin.sum_univ_one]

/-! ## The reference -/

theorem ref_err (x : FVec Ideal S8192x1024 .f32) (g : FVec Ideal S1x1024 .f32) (y : FVec Ideal S8192x1024 .f32) (r : Fin 8192) (l : Fin 1024) :
    (val_main_v17 (F := Ideal) x g y : FVec Ideal S8192x1024 .f32) (ix2 r l) = err (fun r l => x (ix2 r l)) (fun l => g (ix2 0 l)) (fun r l => y (ix2 r l)) r l := by
  unfold err sigma
  pointwise [val_main_v17, val_main_v16, val_main_v15, val_main_v14, val_main_v13, val_main_v12, val_main_v8, val_main_v7, val_main_v6, val_main_v5, val_main_v4, val_main_v3, val_main_v2, val_main_v1, val_main_v0, val_main_cst, val_main_cst_0, val_main_cst_1]

theorem ref_dy (x : FVec Ideal S8192x1024 .f32) (g : FVec Ideal S1x1024 .f32) (y : FVec Ideal S8192x1024 .f32) (r : Fin 8192) (l : Fin 1024) :
    (val_main_v31 (F := Ideal) x g y : FVec Ideal S8192x1024 .f32) (ix2 r l) = dy (fun r l => x (ix2 r l)) (fun l => g (ix2 0 l)) (fun r l => y (ix2 r l)) r l := by
  unfold dy
  rw [← ref_err, ← scale_eq]
  unfold val_main_v31 val_main_v20
  generalize (val_main_v17 (F := Ideal) x g y : FVec Ideal S8192x1024 .f32) = e
  pointwise [val_main_v30, val_main_v29, val_main_v28, val_main_v27, val_main_v26, val_main_v19, val_main_cst_3, val_main_cst_8, val_main_cst_9, val_main_cst_10]

theorem ref_dx (x : FVec Ideal S8192x1024 .f32) (g : FVec Ideal S1x1024 .f32) (y : FVec Ideal S8192x1024 .f32) (r : Fin 8192) (l : Fin 1024) :
    (val_main_v51 (F := Ideal) x g y : FVec Ideal S8192x1024 .f32) (ix2 r l) = dx (fun r l => x (ix2 r l)) (fun l => g (ix2 0 l)) (fun r l => y (ix2 r l)) r l := by
  rw [dx_eq]
  simp only [← ref_dy]
  unfold val_main_v51 val_main_v50 val_main_v49 val_main_v48 val_main_v47 val_main_v46 val_main_v45 val_main_v43 val_main_v42 val_main_v40 val_main_v39 val_main_v38 val_main_v36
  generalize (val_main_v31 (F := Ideal) x g y : FVec Ideal S8192x1024 .f32) = d
  unfold sigma
  pointwise [val_main_v44, val_main_v41, val_main_v35, val_main_v14, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_13, val_main_cst_14, val_main_cst_15]
  simp only [Fin.sum_univ_one]

theorem ref_dg (x : FVec Ideal S8192x1024 .f32) (g : FVec Ideal S1x1024 .f32) (y : FVec Ideal S8192x1024 .f32) (l : Fin 1024) :
    (val_main_v52 (F := Ideal) x g y : FVec Ideal S1x1024 .f32) (ix2 0 l)
      = ∑ r, dy (fun r l => x (ix2 r l)) (fun l => g (ix2 0 l)) (fun r l => y (ix2 r l)) r l * (x (ix2 r l) * Ideal.rsqrt (sigma fun l => x (ix2 r l))) := by
  simp only [← ref_dy]
  unfold val_main_v52 val_main_v37 val_main_v34 val_main_v33 val_main_v32
  generalize (val_main_v31 (F := Ideal) x g y : FVec Ideal S8192x1024 .f32) = d
  unfold sigma
  pointwise [val_main_v13, val_main_v12, val_main_v8, val_main_v7, val_main_v6, val_main_v5, val_main_v4, val_main_v3, val_main_v2, val_main_v1, val_main_cst, val_main_cst_0, val_main_cst_1, val_main_cst_11, val_main_cst_12]
  refine (Fin.sum_univ_one _).trans (Finset.sum_congr rfl fun x _ => mul_comm _ _)

theorem ref_loss (x : FVec Ideal S8192x1024 .f32) (g : FVec Ideal S1x1024 .f32) (y : FVec Ideal S8192x1024 .f32) (j : S1x128.Idx) :
    (val_main_v53 (F := Ideal) x g y : FVec Ideal S1x128 .f32) j
      = half * ∑ r, Ideal.div (∑ l, err (fun r l => x (ix2 r l)) (fun l => g (ix2 0 l)) (fun r l => y (ix2 r l)) r l * err (fun r l => x (ix2 r l)) (fun l => g (ix2 0 l)) (fun r l => y (ix2 r l)) r l) (Ideal.ofBits .f32 0x44800000#32) := by
  simp only [← ref_err]
  unfold val_main_v53 val_main_v25 val_main_v24 val_main_v23 val_main_v21 val_main_v18 half
  generalize (val_main_v17 (F := Ideal) x g y : FVec Ideal S8192x1024 .f32) = e
  pointwise [val_main_v22, val_main_cst_4, val_main_cst_5, val_main_cst_6, val_main_cst_7]

/-! ## The blocks against the arrays -/

variable (m : (ℓ : Loc nD τ sig) → Buf (Elt Ideal) ℓ)

/-- Which blocks the windows are on. -/
theorem idx : ∀ t : Fin cfg0.N, win0_0.index t = ![t.val, 0] ∧ win0_1.index t = ![0, 0] ∧ win0_2.index t = ![t.val, 0] ∧ win0_3.index t = ![t.val, 0]
    ∧ win0_4.index t = ![0, 0] ∧ win0_5.index t = ![0, 0] :=
  (by decide +kernel : ∀ t : Fin grid0.N, _)

/-- Row `r` of block `t`. -/
def row (t : Fin cfg0.N) (r : Fin 512) : Fin 8192 := ⟨t.val * 512 + r.val, by have := lt_of_lt_of_eq t.isLt (show cfg0.N = 16 from N_0); omega⟩

/-- The arrays' rows. -/
def xs (c : Dev nD) (r : Fin 8192) (l : Fin 1024) : EReal := m ((c : Thread nD τ).loc main_arg0) (ix2 r l)
def gs (c : Dev nD) (l : Fin 1024) : EReal := m ((c : Thread nD τ).loc main_arg1) (ix2 0 l)
def ys (c : Dev nD) (r : Fin 8192) (l : Fin 1024) : EReal := m ((c : Thread nD τ).loc main_arg2) (ix2 r l)

theorem x_block (c : Dev nD) (t : Fin cfg0.N) : (fun r l => (iblk m c 0 t : FVec Ideal S512x1024 .f32) (ix2 r l)) = fun r => xs m c (row t r) := by
  funext r l
  unfold xs row
  blk_point [iblk, V, idx t]

theorem g_block (c : Dev nD) (t : Fin cfg0.N) : (fun l => (iblk m c 1 t : FVec Ideal S1x1024 .f32) (ix2 0 l)) = gs m c := by
  funext l
  unfold gs
  blk_point [iblk, V, idx t]

theorem y_block (c : Dev nD) (t : Fin cfg0.N) : (fun r l => (iblk m c 2 t : FVec Ideal S512x1024 .f32) (ix2 r l)) = fun r => ys m c (row t r) := by
  funext r l
  unfold ys row
  blk_point [iblk, V, idx t]

theorem dx_block (c : Dev nD) (t : Fin cfg0.N) (r : Fin 512) (l : Fin 1024) :
    (k0_pay9 (iblk m c 0 t) (iblk m c 1 t) (iblk m c 2 t) (iblk m c 1 t) : FVec Ideal S512x1024 .f32) (ix2 r l) = dx (xs m c) (gs m c) (ys m c) (row t r) l := by
  rw [dx_apply, x_block, g_block, y_block]
  rfl

/-- A position's part of the gradient at the gain, and of the squared error's sum. -/
def dgTerm (c : Dev nD) (l : Fin 1024) (r : Fin 8192) : EReal := dy (xs m c) (gs m c) (ys m c) r l * (xs m c r l * Ideal.rsqrt (sigma (xs m c r)))
def sqTerm (c : Dev nD) (l : Fin 1024) (r : Fin 8192) : EReal := err (xs m c) (gs m c) (ys m c) r l * err (xs m c) (gs m c) (ys m c) r l

theorem dg_block (c : Dev nD) (t : Fin cfg0.N) (l : Fin 1024) :
    (k0_pay10 (iblk m c 0 t) (iblk m c 1 t) (iblk m c 2 t) : FVec Ideal S1x1024 .f32) (ix2 0 l) = ∑ r : Fin 512, dgTerm m c l (row t r) := by
  have h (r : Fin 512) (l : Fin 1024) : (iblk m c 0 t : FVec Ideal S512x1024 .f32) (ix2 r l) = xs m c (row t r) l := congrFun (congrFun (x_block m c t) r) l
  rw [dg_apply, x_block, g_block, y_block]
  simp only [h]
  rfl

theorem sq_block (c : Dev nD) (t : Fin cfg0.N) (l : Fin 1024) :
    (k0_pay11 (iblk m c 0 t) (iblk m c 1 t) (iblk m c 2 t) : FVec Ideal S1x1024 .f32) (ix2 0 l) = ∑ r : Fin 512, sqTerm m c l (row t r) := by
  rw [sq_apply, x_block, g_block, y_block]
  rfl

theorem row_zero (j : S1x1024.Idx) : j = ix2 0 (j 1) := by
  have h : (j 0).val < 1 := (j 0).isLt
  funext a
  match a with
  | ⟨0, _⟩ => exact Fin.ext (by show (j 0).val = 0; omega)
  | ⟨1, _⟩ => rfl

theorem ix2_eta (j : S512x1024.Idx) : j = ix2 (j 0) (j 1) := by
  funext a
  match a with
  | ⟨0, _⟩ => rfl
  | ⟨1, _⟩ => rfl

/-- A block's parts. -/
def dgPart (c : Dev nD) (t : Fin cfg0.N) (j : S1x1024.Idx) : EReal := ∑ r : Fin 512, dgTerm m c (j 1) (row t r)
def sqPart (c : Dev nD) (t : Fin cfg0.N) (j : S1x1024.Idx) : EReal := ∑ r : Fin 512, sqTerm m c (j 1) (row t r)

theorem dg_part (c : Dev nD) (t : Fin cfg0.N) (j : S1x1024.Idx) : (k0_pay10 (iblk m c 0 t) (iblk m c 1 t) (iblk m c 2 t) : FVec Ideal S1x1024 .f32) j = dgPart m c t j :=
  (congrArg _ (row_zero j)).trans (dg_block m c t (j 1))

theorem sq_part (c : Dev nD) (t : Fin cfg0.N) (j : S1x1024.Idx) : (k0_pay11 (iblk m c 0 t) (iblk m c 1 t) (iblk m c 2 t) : FVec Ideal S1x1024 .f32) j = sqPart m c t j :=
  (congrArg _ (row_zero j)).trans (sq_block m c t (j 1))

theorem pay1_eq (v : FVec Ideal S1x1024 .f32) : k0_pay1 v = v := by
  unfold k0_pay1
  exact shapeCast_self _ _

theorem pay2_apply (v a : FVec Ideal S1x1024 .f32) (j : S1x1024.Idx) : (k0_pay2 v a : FVec Ideal S1x1024 .f32) j = a j + v j := by
  unfold k0_pay2
  rw [shapeCast_self]
  rfl

theorem pay3_apply (v a : FVec Ideal S1x1024 .f32) (j : S1x1024.Idx) : (k0_pay3 v a : FVec Ideal S1x1024 .f32) j = a j + v j := by
  unfold k0_pay3
  rw [shapeCast_self]
  rfl

/-- What the gain's gradient holds after the last point. -/
theorem dg_last (c : Dev nD) (j : S1x1024.Idx) :
    ((outsAt0 m c t0_15.val t0_15.isLt).2.1 : FVec Ideal S1x1024 .f32) j = 0 + ∑ t : Fin cfg0.N, dgPart m c t j :=
  Pipeline.eq_sum_fin_of_reset_step_apply_last (fun n h => (outsAt0 m c n h).2.1) 16 (fun _ => (0 : EReal)) (dgPart m c)
    (fun t h j => by
      rw [← dg_part, zero_add, outsAt0_A m c t h (by have := lt_of_lt_of_eq t.isLt (show cfg0.N = 16 from N_0); omega) (by omega)]; frame_out)
    (fun t h j => by
      rw [← dg_part]
      rcases Decidable.em (t.val % 16 = 15) with h3 | h3
      · rw [outsAt0_C m c t h (by omega) h3]; frame_out; rw [pay2_apply]
      · rw [outsAt0_B m c t h (by omega) h3]; frame_out; rw [pay2_apply])
    (le_of_eq N_0) t0_15 rfl j

/-- What the squared errors' sum holds after the last point. -/
theorem sq_last (c : Dev nD) (j : S1x1024.Idx) :
    ((outsAt0 m c t0_15.val t0_15.isLt).2.2.2 : FVec Ideal S1x1024 .f32) j = 0 + ∑ t : Fin cfg0.N, sqPart m c t j :=
  Pipeline.eq_sum_fin_of_reset_step_apply_last (fun n h => (outsAt0 m c n h).2.2.2) 16 (fun _ => (0 : EReal)) (sqPart m c)
    (fun t h j => by
      rw [← sq_part, zero_add, outsAt0_A m c t h (by have := lt_of_lt_of_eq t.isLt (show cfg0.N = 16 from N_0); omega) (by omega)]; frame_out; rw [pay1_eq])
    (fun t h j => by
      rw [← sq_part]
      rcases Decidable.em (t.val % 16 = 15) with h3 | h3
      · rw [outsAt0_C m c t h (by omega) h3]; frame_out; rw [pay3_apply]; exact congrArg (fun u : FVec Ideal S1x1024 .f32 => u j + _) ((Memref.isWhole_whole cc0_scratch0).read_unread _)
      · rw [outsAt0_B m c t h (by omega) h3]; frame_out; rw [pay3_apply]; exact congrArg (fun u : FVec Ideal S1x1024 .f32 => u j + _) ((Memref.isWhole_whole cc0_scratch0).read_unread _))
    (le_of_eq N_0) t0_15 rfl j

/-- The loss of the last point. -/
theorem loss_last (c : Dev nD) : (outsAt0 m c t0_15.val t0_15.isLt).2.2.1 = k0_pay4 (outsAt0 m c t0_15.val t0_15.isLt).2.2.2 := by
  rw [outsAt0_C m c t0_15 (by decide) (by decide) (by decide)]; frame_out

/-- Both ways to add the squared errors up. -/
theorem loss_sum (f : Fin 1024 → Fin 8192 → EReal) :
    (∑ l, ∑ r, f l r) * Ideal.ofBits .f32 0x3A000000#32 = half * ∑ r, Ideal.div (∑ l, f l r) (Ideal.ofBits .f32 0x44800000#32) := by
  simp only [div_width]
  simp only [mul_comm _ ((1 / 1024 : ℝ) : EReal)]
  rw [← mul_sum_of_nonneg _ (by exact_mod_cast (by norm_num : (0 : ℝ) ≤ 1 / 1024)) (EReal.coe_ne_top _), Finset.sum_comm, half_eq, half_thousandth_eq, ← mul_assoc, ← EReal.coe_mul, mul_comm]
  norm_num

/-- What a point leaves in the first output's block. -/
theorem out_dx (c : Dev nD) (t : Fin cfg0.N) : (outsAt0 m c t.val t.isLt).1 = k0_pay9 (iblk m c 0 t) (iblk m c 1 t) (iblk m c 2 t) (iblk m c 1 t) := by
  rcases Decidable.em (t.val % 16 = 0) with h | h
  · rw [outsAt0_A m c t h (by have := lt_of_lt_of_eq t.isLt (show cfg0.N = 16 from N_0); omega) (by omega)]; frame_out
  · rcases Decidable.em (t.val % 16 = 15) with h3 | h3
    · rw [outsAt0_C m c t h (by omega) h3]; frame_out
    · rw [outsAt0_B m c t h (by omega) h3]; frame_out

theorem dx_point (c : Dev nD) (t : Fin cfg0.N) (j : S512x1024.Idx) :
    (k0_pay9 (iblk m c 0 t) (iblk m c 1 t) (iblk m c 2 t) (iblk m c 1 t) : FVec Ideal S512x1024 .f32) j
      = (val_main_v51 (F := Ideal) (m ((c : Thread nD τ).loc main_arg0)) (m ((c : Thread nD τ).loc main_arg1)) (m ((c : Thread nD τ).loc main_arg2)) : FVec Ideal S8192x1024 .f32) (ix2 (row t (j 0)) (j 1)) :=
  (congrArg _ (ix2_eta j)).trans ((dx_block m c t (j 0) (j 1)).trans (ref_dx _ _ _ (row t (j 0)) (j 1)).symm)

theorem arr3 (c : Dev nD) :
    (dats m 0 c).arrAt 3 cfg0.N = val_main_v51 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have e : ((cfg0.win 3).blk t).view.emb y = ix2 (row t (y 0)) (y 1) := by unfold row; blk_ext [idx t]
  blk_simp
  rw [after0_3, out_dx, e]
  exact dx_point m c t y

theorem dg_point (c : Dev nD) (j : S1x1024.Idx) :
    ((outsAt0 m c t0_15.val t0_15.isLt).2.1 : FVec Ideal S1x1024 .f32) j
      = (val_main_v52 (F := Ideal) (m ((c : Thread nD τ).loc main_arg0)) (m ((c : Thread nD τ).loc main_arg1)) (m ((c : Thread nD τ).loc main_arg2)) : FVec Ideal S1x1024 .f32) j := by
  refine (dg_last m c j).trans ((zero_add _).trans (Eq.trans ?_ ((ref_dg _ _ _ (j 1)).symm.trans (congrArg _ (row_zero j).symm))))
  exact (Fin.sum_univ_tiles 16 512 (by decide) (dgTerm m c (j 1))).symm

theorem arr4 (c : Dev nD) :
    (dats m 0 c).arrAt 4 cfg0.N = val_main_v52 (F := Ideal) (m ((c : Thread nD τ).loc main_arg0)) (m ((c : Thread nD τ).loc main_arg1)) (m ((c : Thread nD τ).loc main_arg2)) := by
  refine (dats m 0 c).arrAt_eq_of_after_last 4 t0_15 (by decide +kernel) _ fun y => ?_
  blk_simp
  rw [after0_4]
  exact dg_point m c y

theorem arr5 (c : Dev nD) :
    (dats m 0 c).arrAt 5 cfg0.N = val_main_v53 (F := Ideal) (m ((c : Thread nD τ).loc main_arg0)) (m ((c : Thread nD τ).loc main_arg1)) (m ((c : Thread nD τ).loc main_arg2)) := by
  refine (dats m 0 c).arrAt_eq_of_after_last 5 t0_15 (by decide +kernel) _ fun y => ?_
  blk_simp
  rw [after0_5, loss_last, ref_loss]
  refine (loss_apply _ _).trans ?_
  simp only [sq_last, zero_add]
  refine Eq.trans ?_ (loss_sum (sqTerm m c))
  exact congrArg (fun u => u * Ideal.ofBits .f32 0x3A000000#32) (Finset.sum_congr rfl fun l _ => (Fin.sum_univ_tiles 16 512 (by decide) (sqTerm m c l)).symm)

theorem alg : algebraic_Kernel17Ideal_Reference17Ideal (hKernel17Ideal := Cert.Kernel17Ideal.Gen.facts) (hReference17Ideal := Cert.Reference17Ideal.Gen.facts) := by
  intro m g m' g' _ hag
  refine ⟨fun c => val_main_v51 (F := Ideal) (m ((c : Thread nD τ).loc main_arg0)) (m ((c : Thread nD τ).loc main_arg1)) (m ((c : Thread nD τ).loc main_arg2)),
    fun c => val_main_v52 (F := Ideal) (m ((c : Thread nD τ).loc main_arg0)) (m ((c : Thread nD τ).loc main_arg1)) (m ((c : Thread nD τ).loc main_arg2)),
    fun c => val_main_v53 (F := Ideal) (m ((c : Thread nD τ).loc main_arg0)) (m ((c : Thread nD τ).loc main_arg1)) (m ((c : Thread nD τ).loc main_arg2)), ?_, ?_⟩
  · exact (θ_run _ _ _).mono (fun r h c => ⟨(h c).1.trans (arr3 m c), (h c).2.1.trans (arr4 m c), (h c).2.2.1.trans (arr5 m c), (h c).2.2.2⟩) (Cert.Kernel17Ideal.Value.run_blocks m g)
  · refine (θ_run _ _ _).mono (fun r h c => ⟨(h c).1.trans ?_, (h c).2.1.trans ?_, (h c).2.2.1.trans ?_, (h c).2.2.2⟩) (Cert.Reference17Ideal.Value.run m' g')
    · refine (val_main_v51_eq m' c).trans ?_
      rw [(hag c).1, (hag c).2.1, (hag c).2.2]
    · refine (val_main_v52_eq _ _ _).trans ?_
      rw [(hag c).1, (hag c).2.1, (hag c).2.2]
    · refine (val_main_v53_eq _ _ _).trans ?_
      rw [(hag c).1, (hag c).2.1, (hag c).2.2]

end Cert.LossHead

end
-- ==== Proof.MixOut.lean ====
/-
  The retention's output product: `x + r · w_out` row block by row block, and the next norm of the result.
-/
module

public import proofs.«01_k».proof.Defs
public import proofs.«01_k».proof.Proof.Gen.Kernel18Ideal.Value
public import proofs.«01_k».proof.Proof.Gen.Reference18Ideal.Run
public import proofs.«01_k».proof.Proof.Gen.Reference18Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MixOut

open Cert.Kernel18Ideal Cert.Kernel18Ideal.Gen Cert.Kernel18Ideal.Value Cert.Reference18Ideal.Read

/-- Which blocks the windows are on. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] :=
  (by decide +kernel : ∀ t : Fin grid0.N, _)

variable (m : (ℓ : Loc nD τ sig) → Buf (Elt Ideal) ℓ)

/-- The block's sum. -/
theorem pay1_apply (x0 : FVec Ideal S512x2048 .bf16) (x1 : FVec Ideal S2048x1024 .bf16) (x2 : FVec Ideal S512x1024 .f32) (j : S512x1024.Idx) :
    (k0_pay1 x0 x1 x2 : FVec Ideal S512x1024 .f32) j = x2 j + ∑ k : Fin 2048, x0 (ix2 (j 0) k) * x1 (ix2 k (j 1)) := by
  pointwise [k0_pay1]

theorem ref_apply (x0 : FVec Ideal S8192x2048 .bf16) (x1 : FVec Ideal S2048x1024 .bf16) (x2 : FVec Ideal S8192x1024 .f32) (i : S8192x1024.Idx) :
    (val_main_v3 (F := Ideal) x0 x1 x2 : FVec Ideal S8192x1024 .f32) i = x2 i + ∑ k : Fin 2048, x0 (ix2 (i 0) k) * x1 (ix2 k (i 1)) := by
  pointwise [val_main_v3, val_main_v2, val_main_v1, val_main_v0]

/-- A block of the sum is the reference's rows. -/
theorem block (c : Dev nD) (t : Fin cfg0.N) (j : S512x1024.Idx) (i : S8192x1024.Idx) (h0 : (i 0).val = t.val * 512 + (j 0).val) (h1 : (i 1).val = (j 1).val) :
    (k0_pay1 (iblk m c 0 t) (iblk m c 1 t) (iblk m c 2 t) : FVec Ideal S512x1024 .f32) j
      = (val_main_v3 (F := Ideal) (m ((c : Thread nD τ).loc main_arg0)) (m ((c : Thread nD τ).loc main_arg1)) (m ((c : Thread nD τ).loc main_arg2)) : FVec Ideal S8192x1024 .f32) i := by
  rw [pay1_apply, ref_apply]
  blk_point [iblk, V, idx t, h0, h1]

theorem pay2_apply (x0 : FVec Ideal S512x2048 .bf16) (x1 : FVec Ideal S2048x1024 .bf16) (x2 : FVec Ideal S512x1024 .f32) (x3 : FVec Ideal S1x1024 .f32) (j : S512x1024.Idx) :
    (k0_pay2 x0 x1 x2 x3 : FVec Ideal S512x1024 .bf16) j
      = (k0_pay1 x0 x1 x2 : FVec Ideal S512x1024 .f32) j * Ideal.rsqrt (Ideal.div (∑ l : Fin 1024, (k0_pay1 x0 x1 x2 : FVec Ideal S512x1024 .f32) (ix2 (j 0) l) * (k0_pay1 x0 x1 x2 : FVec Ideal S512x1024 .f32) (ix2 (j 0) l)) (Ideal.ofBits .f32 0x44800000#32) + Ideal.ofBits .f32 0x358637BD#32) * x3 (ix2 0 (j 1)) := by
  unfold k0_pay2
  generalize (k0_pay1 x0 x1 x2 : FVec Ideal S512x1024 .f32) = y
  pointwise []

theorem ref2_apply (x0 : FVec Ideal S8192x2048 .bf16) (x1 : FVec Ideal S2048x1024 .bf16) (x2 : FVec Ideal S8192x1024 .f32) (x3 : FVec Ideal S1x1024 .f32) (i : S8192x1024.Idx) :
    (val_main_v18 (F := Ideal) x0 x1 x2 x3 : FVec Ideal S8192x1024 .bf16) i
      = (val_main_v3 (F := Ideal) x0 x1 x2 : FVec Ideal S8192x1024 .f32) i * Ideal.rsqrt (Ideal.div (∑ l : Fin 1024, (val_main_v3 (F := Ideal) x0 x1 x2 : FVec Ideal S8192x1024 .f32) (ix2 (i 0) l) * (val_main_v3 (F := Ideal) x0 x1 x2 : FVec Ideal S8192x1024 .f32) (ix2 (i 0) l)) (Ideal.ofBits .f32 0x44800000#32) + Ideal.ofBits .f32 0x358637BD#32) * x3 (ix2 0 (i 1)) := by
  unfold val_main_v18 val_main_v17 val_main_v14 val_main_v13 val_main_v12 val_main_v11 val_main_v9 val_main_v7 val_main_v6 val_main_v5
  generalize (val_main_v3 (F := Ideal) x0 x1 x2 : FVec Ideal S8192x1024 .f32) = y
  pointwise [val_main_v16, val_main_v15, val_main_v4, val_main_v8, val_main_v10, val_main_cst, val_main_cst_0, val_main_cst_1]

theorem arr4 (c : Dev nD) :
    (dats m 0 c).arrAt 4 cfg0.N = val_main_v3 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]; unfold outsAt0; frame_out
  rw [pay1_apply, ref_apply]
  blk_point [iblk, V, idx t]

theorem arr5 (c : Dev nD) :
    (dats m 0 c).arrAt 5 cfg0.N = val_main_v18 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]; unfold outsAt0; frame_out
  rw [pay2_apply, ref2_apply]
  have h0 : ((((cfg0.win 5).blk t).view.emb y) 0).val = t.val * 512 + (y 0).val := by blk_ext [idx t]
  have h1 : ((((cfg0.win 5).blk t).view.emb y) 1).val = (y 1).val := by blk_ext [idx t]
  have e (l : Fin 1024) := block m c t (ix2 (y 0) l) (ix2 ((((cfg0.win 5).blk t).view.emb y) 0) l) h0 rfl
  rw [block m c t y _ h0 h1]
  simp only [e]
  blk_point [iblk, V, idx t]

theorem alg : algebraic_Kernel18Ideal_Reference18Ideal (hKernel18Ideal := Cert.Kernel18Ideal.Gen.facts) (hReference18Ideal := Cert.Reference18Ideal.Gen.facts) := by
  intro m g m' g' _ hag
  refine ⟨fun c => val_main_v3 (F := Ideal) (m ((c : Thread nD τ).loc main_arg0)) (m ((c : Thread nD τ).loc main_arg1)) (m ((c : Thread nD τ).loc main_arg2)),
    fun c => val_main_v18 (F := Ideal) (m ((c : Thread nD τ).loc main_arg0)) (m ((c : Thread nD τ).loc main_arg1)) (m ((c : Thread nD τ).loc main_arg2)) (m ((c : Thread nD τ).loc main_arg3)), ?_, ?_⟩
  · exact (θ_run _ _ _).mono (fun r h c => ⟨(h c).1.trans (arr4 m c), (h c).2.1.trans (arr5 m c), (h c).2.2⟩) (Cert.Kernel18Ideal.Value.run_blocks m g)
  · refine (θ_run _ _ _).mono (fun r h c => ⟨(h c).1.trans ?_, (h c).2.1.trans ?_, (h c).2.2⟩) (Cert.Reference18Ideal.Value.run m' g')
    · refine (val_main_v3_eq _ _ _).trans ?_
      rw [(hag c).1, (hag c).2.1, (hag c).2.2.1]
    · refine (val_main_v18_eq _ _ _ _).trans ?_
      rw [(hag c).1, (hag c).2.1, (hag c).2.2.1, (hag c).2.2.2]

end Cert.MixOut

end
-- ==== Proof.Dro.lean ====
/-
  The gradient at the retention's output before its output product: `dx · w_outᵀ`, tile by tile, each contraction whole.
-/
module

public import proofs.«01_k».proof.Defs
public import proofs.«01_k».proof.Proof.Gen.Kernel19Ideal.Value
public import proofs.«01_k».proof.Proof.Gen.Reference19Ideal.Run
public import proofs.«01_k».proof.Proof.Gen.Reference19Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Dro

open Cert.Kernel19Ideal Cert.Kernel19Ideal.Gen Cert.Kernel19Ideal.Value Cert.Reference19Ideal.Read

/-- Which blocks the windows are on: rows move fastest, the weight's columns last. -/
theorem idx : ∀ t : Fin cfg0.N, win0_0.index t = ![t.val % 8, 0] ∧ win0_1.index t = ![t.val / 8, 0] ∧ win0_2.index t = ![t.val % 8, t.val / 8] :=
  (by decide +kernel : ∀ t : Fin grid0.N, _)

theorem arr2 (m : (ℓ : Loc nD τ sig) → Buf (Elt Ideal) ℓ) (c : Dev nD) :
    (dats m 0 c).arrAt 2 cfg0.N = val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]; unfold outsAt0; frame_out
  pointwise [k0_pay1, val_main_v4, val_main_v3, val_main_v1]
  blk_point [iblk, V, idx t]

theorem alg : algebraic_Kernel19Ideal_Reference19Ideal (hKernel19Ideal := Cert.Kernel19Ideal.Gen.facts) (hReference19Ideal := Cert.Reference19Ideal.Gen.facts) := by
  intro m g m' g' _ hag
  refine ⟨fun c => val_main_v4 (F := Ideal) (m ((c : Thread nD τ).loc main_arg0)) (m ((c : Thread nD τ).loc main_arg1)), ?_, ?_⟩
  · exact (θ_run _ _ _).mono (fun r h c => ⟨(h c).1.trans (arr2 m c), (h c).2⟩) (Cert.Kernel19Ideal.Value.run_blocks m g)
  · refine (θ_run _ _ _).mono (fun r h c => ⟨(h c).1.trans ?_, (h c).2⟩) (Cert.Reference19Ideal.Value.run m' g')
    refine (val_main_v4_eq _ _).trans ?_
    rw [(hag c).1, (hag c).2]

end Cert.Dro
-- ==== Proof.DwOut.lean ====
/-
  The gradient of the retention's output weight: `rᵀ · dx`, each block summed over four blocks of positions in the scratch.
-/
module

public import proofs.«01_k».proof.Defs
public import proofs.«01_k».proof.Proof.Gen.Kernel20Ideal.Value
public import proofs.«01_k».proof.Proof.Gen.Reference20Ideal.Run
public import proofs.«01_k».proof.Proof.Gen.Reference20Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DwOut

open Cert.Kernel20Ideal Cert.Kernel20Ideal.Gen Cert.Kernel20Ideal.Value Cert.Reference20Ideal.Read

variable (m : (ℓ : Loc nD τ sig) → Buf (Elt Ideal) ℓ)

/-- Which blocks the windows are on: the positions move fastest, the weight's rows last. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- A block of positions' share. -/
def part (x : S2048x1024.Idx → EReal) (y : S2048x1024.Idx → EReal) (j : S1024x1024.Idx) : EReal :=
  ∑ k : Fin 2048, x (ix2 k (j 0)) * y (ix2 k (j 1))

theorem pay2_apply (x : FVec Ideal S2048x1024 .bf16) (y : FVec Ideal S2048x1024 .f32) (j : S1024x1024.Idx) :
    (k0_pay2 x y : FVec Ideal S1024x1024 .f32) j = part x y j := by
  unfold part
  pointwise [k0_pay1, k0_pay2]

theorem pay3_apply (x : FVec Ideal S2048x1024 .bf16) (y : FVec Ideal S2048x1024 .f32) (a : FVec Ideal S1024x1024 .f32) (j : S1024x1024.Idx) :
    (k0_pay3 x y a : FVec Ideal S1024x1024 .f32) j = a j + part x y j := by
  unfold part
  pointwise [k0_pay1, k0_pay3]

/-- What the scratch holds after a run's last point. -/
theorem scr (c : Dev nD) (t : Fin cfg0.N) (ht : t.val % 4 = 4 - 1) (j : S1024x1024.Idx) :
    ((outsAt0 m c t.val t.isLt).2 : FVec Ideal S1024x1024 .f32) j
      = 0 + ∑ s : Fin 4, part (iblk m c 0 ⟨4 * (t.val / 4) + s.val, Pipeline.run_point_lt_of_flush t ht s⟩) (iblk m c 1 ⟨4 * (t.val / 4) + s.val, Pipeline.run_point_lt_of_flush t ht s⟩) j :=
  Pipeline.eq_sum_fin_of_reset_step_apply_of_flush (fun n h => (outsAt0 m c n h).2) 4 (fun _ => (0 : EReal))
    (fun t => part (iblk m c 0 t) (iblk m c 1 t))
    (fun t h j => by rw [outsAt0_A m c t h (by omega) (by omega)]; frame_out; rw [pay2_apply, zero_add])
    (fun t h j => by
      rcases Decidable.em (t.val % 4 = 3) with h3 | h3
      · rw [outsAt0_C m c t h (by omega) h3]; frame_out; rw [pay3_apply]; exact congrArg (fun u : FVec Ideal S1024x1024 .f32 => u j + part (iblk m c 0 t) (iblk m c 1 t) j) ((Memref.isWhole_whole cc0_scratch0).read_unread _)
      · rw [outsAt0_B m c t h (by omega) h3]; frame_out; rw [pay3_apply]; exact congrArg (fun u : FVec Ideal S1024x1024 .f32 => u j + part (iblk m c 0 t) (iblk m c 1 t) j) ((Memref.isWhole_whole cc0_scratch0).read_unread _))
    t ht j

theorem out (c : Dev nD) (t : Fin cfg0.N) (ht : t.val % 4 = 3) :
    (outsAt0 m c t.val t.isLt).1 = k0_pay4 (outsAt0 m c t.val t.isLt).2 := by
  rw [outsAt0_C m c t (by omega) (by omega) ht]; frame_out

theorem ref_apply (x : FVec Ideal S8192x2048 .bf16) (y : FVec Ideal S8192x1024 .f32) (i : S2048x1024.Idx) :
    (val_main_v5 (F := Ideal) x y : FVec Ideal S2048x1024 .bf16) i = ∑ k : Fin 8192, x (ix2 k (i 0)) * y (ix2 k (i 1)) := by
  pointwise [val_main_v5, val_main_v4, val_main_v3, val_main_v1]
  exact Finset.sum_congr rfl fun k _ => mul_comm _ _

theorem arr2 (c : Dev nD) :
    (dats m 0 c).arrAt 2 cfg0.N = val_main_v5 (F := Ideal) (m ((c : Thread nD τ).loc main_arg0)) (m ((c : Thread nD τ).loc main_arg1)) := by
  refine (dats m 0 c).arrAt_eq_of_covers 2 _ (by decide +kernel) fun t hf y => ?_
  have ht : t.val % 4 = 3 := (flush0_2 t).mp hf
  blk_simp
  rw [after0_2, out m c t ht]
  pointwise [k0_pay4]
  rw [scr m c t ht, ref_apply, zero_add]
  refine Fin.sum_mul_add_congr fun s k hl => ?_
  congr 1 <;> blk_ext [iblk, V, idx t, idx ⟨4 * (t.val / 4) + s.val, Pipeline.run_point_lt_of_flush t ht s⟩]

theorem alg : algebraic_Kernel20Ideal_Reference20Ideal (hKernel20Ideal := Cert.Kernel20Ideal.Gen.facts) (hReference20Ideal := Cert.Reference20Ideal.Gen.facts) := by
  intro m g m' g' _ hag
  refine ⟨fun c => val_main_v5 (F := Ideal) (m ((c : Thread nD τ).loc main_arg0)) (m ((c : Thread nD τ).loc main_arg1)), ?_, ?_⟩
  · exact (θ_run _ _ _).mono (fun r h c => ⟨(h c).1.trans (arr2 m c), (h c).2⟩) (Cert.Kernel20Ideal.Value.run_blocks m g)
  · refine (θ_run _ _ _).mono (fun r h c => ⟨(h c).1.trans ?_, (h c).2⟩) (Cert.Reference20Ideal.Value.run m' g')
    refine (val_main_v5_eq _ _).trans ?_
    rw [(hag c).1, (hag c).2]

end Cert.DwOut

end
-- ==== Proof.DwinQ.lean ====
/-
  The gradient of the retention's input weight at the queries' columns: `hᵀ · dq`, summed over four blocks of positions in
  the scratch.
-/
module

public import proofs.«01_k».proof.Defs
public import proofs.«01_k».proof.Proof.Gen.Kernel21Ideal.Value
public import proofs.«01_k».proof.Proof.Gen.Reference21Ideal.Run
public import proofs.«01_k».proof.Proof.Gen.Reference21Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DwinQ

open Cert.Kernel21Ideal Cert.Kernel21Ideal.Gen Cert.Kernel21Ideal.Value Cert.Reference21Ideal.Read

variable (m : (ℓ : Loc nD τ sig) → Buf (Elt Ideal) ℓ)

/-- Which blocks the windows are on: the inputs move along the positions, the output stays. -/
theorem idx : ∀ t : Fin cfg0.N, win0_0.index t = ![t.val % 4, 0] ∧ win0_1.index t = ![t.val % 4, 0] ∧ win0_2.index t = ![0, 0] :=
  (by decide +kernel : ∀ t : Fin grid0.N, _)

/-- A block of positions' share. -/
def part (x : S2048x1024.Idx → EReal) (y : S2048x1024.Idx → EReal) (j : S1024x1024.Idx) : EReal :=
  ∑ k : Fin 2048, x (ix2 k (j 0)) * y (ix2 k (j 1))

theorem pay2_apply (x : FVec Ideal S2048x1024 .bf16) (y : FVec Ideal S2048x1024 .bf16) (j : S1024x1024.Idx) :
    (k0_pay2 x y : FVec Ideal S1024x1024 .f32) j = part x y j := by
  unfold part
  pointwise [k0_pay1, k0_pay2]

theorem pay3_apply (x : FVec Ideal S2048x1024 .bf16) (y : FVec Ideal S2048x1024 .bf16) (a : FVec Ideal S1024x1024 .f32) (j : S1024x1024.Idx) :
    (k0_pay3 x y a : FVec Ideal S1024x1024 .f32) j = a j + part x y j := by
  unfold part
  pointwise [k0_pay1, k0_pay3]

/-- What the scratch holds after a run's last point. -/
theorem scr (c : Dev nD) (t : Fin cfg0.N) (ht : t.val % 4 = 4 - 1) (j : S1024x1024.Idx) :
    ((outsAt0 m c t.val t.isLt).2 : FVec Ideal S1024x1024 .f32) j
      = 0 + ∑ s : Fin 4, part (iblk m c 0 ⟨4 * (t.val / 4) + s.val, Pipeline.run_point_lt_of_flush t ht s⟩) (iblk m c 1 ⟨4 * (t.val / 4) + s.val, Pipeline.run_point_lt_of_flush t ht s⟩) j :=
  Pipeline.eq_sum_fin_of_reset_step_apply_of_flush (fun n h => (outsAt0 m c n h).2) 4 (fun _ => (0 : EReal))
    (fun t => part (iblk m c 0 t) (iblk m c 1 t))
    (fun t h j => by rw [outsAt0_A m c t h (by have := lt_of_lt_of_eq t.isLt (show cfg0.N = 4 from N_0); omega) (by omega)]; frame_out; rw [pay2_apply, zero_add])
    (fun t h j => by
      rcases Decidable.em (t.val % 4 = 3) with h3 | h3
      · rw [outsAt0_C m c t h (by omega) h3]; frame_out; rw [pay3_apply]; exact congrArg (fun u : FVec Ideal S1024x1024 .f32 => u j + part (iblk m c 0 t) (iblk m c 1 t) j) ((Memref.isWhole_whole cc0_scratch0).read_unread _)
      · rw [outsAt0_B m c t h (by omega) h3]; frame_out; rw [pay3_apply]; exact congrArg (fun u : FVec Ideal S1024x1024 .f32 => u j + part (iblk m c 0 t) (iblk m c 1 t) j) ((Memref.isWhole_whole cc0_scratch0).read_unread _))
    t ht j

theorem out (c : Dev nD) (t : Fin cfg0.N) (ht : t.val % 4 = 3) :
    (outsAt0 m c t.val t.isLt).1 = k0_pay4 (outsAt0 m c t.val t.isLt).2 := by
  rw [outsAt0_C m c t (by omega) (by omega) ht]; frame_out

theorem ref_apply (x : FVec Ideal S8192x1024 .bf16) (y : FVec Ideal S8192x1024 .bf16) (i : S1024x1024.Idx) :
    (val_main_v6 (F := Ideal) x y : FVec Ideal S1024x1024 .bf16) i = ∑ k : Fin 8192, x (ix2 k (i 0)) * y (ix2 k (i 1)) := by
  pointwise [val_main_v6, val_main_v5, val_main_v4, val_main_v3, val_main_v1]
  exact Finset.sum_congr rfl fun k _ => mul_comm _ _

theorem arr2 (c : Dev nD) :
    (dats m 0 c).arrAt 2 cfg0.N = val_main_v6 (F := Ideal) (m ((c : Thread nD τ).loc main_arg0)) (m ((c : Thread nD τ).loc main_arg1)) := by
  refine (dats m 0 c).arrAt_eq_of_covers 2 _ (by decide +kernel) fun t hf y => ?_
  have ht : t.val % 4 = 3 := (flush0_2 t).mp hf
  blk_simp
  rw [after0_2, out m c t ht]
  pointwise [k0_pay4]
  rw [scr m c t ht, ref_apply, zero_add]
  refine Fin.sum_mul_add_congr fun s k hl => ?_
  congr 1 <;> blk_ext [iblk, V, idx t, idx ⟨4 * (t.val / 4) + s.val, Pipeline.run_point_lt_of_flush t ht s⟩]

theorem alg : algebraic_Kernel21Ideal_Reference21Ideal (hKernel21Ideal := Cert.Kernel21Ideal.Gen.facts) (hReference21Ideal := Cert.Reference21Ideal.Gen.facts) := by
  intro m g m' g' _ hag
  refine ⟨fun c => val_main_v6 (F := Ideal) (m ((c : Thread nD τ).loc main_arg0)) (m ((c : Thread nD τ).loc main_arg1)), ?_, ?_⟩
  · exact (θ_run _ _ _).mono (fun r h c => ⟨(h c).1.trans (arr2 m c), (h c).2⟩) (Cert.Kernel21Ideal.Value.run_blocks m g)
  · refine (θ_run _ _ _).mono (fun r h c => ⟨(h c).1.trans ?_, (h c).2⟩) (Cert.Reference21Ideal.Value.run m' g')
    refine (val_main_v6_eq _ _).trans ?_
    rw [(hag c).1, (hag c).2]

end Cert.DwinQ

end
-- ==== Proof.DwinV.lean ====
/-
  The gradient of the retention's input weight at the values' columns: `hᵀ · dv`, summed over four blocks of positions in
  the scratch.
-/
module

public import proofs.«01_k».proof.Defs
public import proofs.«01_k».proof.Proof.Gen.Kernel22Ideal.Value
public import proofs.«01_k».proof.Proof.Gen.Reference22Ideal.Run
public import proofs.«01_k».proof.Proof.Gen.Reference22Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DwinV

open Cert.Kernel22Ideal Cert.Kernel22Ideal.Gen Cert.Kernel22Ideal.Value Cert.Reference22Ideal.Read

variable (m : (ℓ : Loc nD τ sig) → Buf (Elt Ideal) ℓ)

/-- Which blocks the windows are on: the inputs move along the positions, the output stays. -/
theorem idx : ∀ t : Fin cfg0.N, win0_0.index t = ![t.val % 4, 0] ∧ win0_1.index t = ![t.val % 4, 0] ∧ win0_2.index t = ![0, 0] :=
  (by decide +kernel : ∀ t : Fin grid0.N, _)

/-- A block of positions' share. -/
def part (x : S2048x1024.Idx → EReal) (y : S2048x2048.Idx → EReal) (j : S1024x2048.Idx) : EReal :=
  ∑ k : Fin 2048, x (ix2 k (j 0)) * y (ix2 k (j 1))

theorem pay2_apply (x : FVec Ideal S2048x1024 .bf16) (y : FVec Ideal S2048x2048 .bf16) (j : S1024x2048.Idx) :
    (k0_pay2 x y : FVec Ideal S1024x2048 .f32) j = part x y j := by
  unfold part
  pointwise [k0_pay1, k0_pay2]

theorem pay3_apply (x : FVec Ideal S2048x1024 .bf16) (y : FVec Ideal S2048x2048 .bf16) (a : FVec Ideal S1024x2048 .f32) (j : S1024x2048.Idx) :
    (k0_pay3 x y a : FVec Ideal S1024x2048 .f32) j = a j + part x y j := by
  unfold part
  pointwise [k0_pay1, k0_pay3]

/-- What the scratch holds after a run's last point. -/
theorem scr (c : Dev nD) (t : Fin cfg0.N) (ht : t.val % 4 = 4 - 1) (j : S1024x2048.Idx) :
    ((outsAt0 m c t.val t.isLt).2 : FVec Ideal S1024x2048 .f32) j
      = 0 + ∑ s : Fin 4, part (iblk m c 0 ⟨4 * (t.val / 4) + s.val, Pipeline.run_point_lt_of_flush t ht s⟩) (iblk m c 1 ⟨4 * (t.val / 4) + s.val, Pipeline.run_point_lt_of_flush t ht s⟩) j :=
  Pipeline.eq_sum_fin_of_reset_step_apply_of_flush (fun n h => (outsAt0 m c n h).2) 4 (fun _ => (0 : EReal))
    (fun t => part (iblk m c 0 t) (iblk m c 1 t))
    (fun t h j => by rw [outsAt0_A m c t h (by have := lt_of_lt_of_eq t.isLt (show cfg0.N = 4 from N_0); omega) (by omega)]; frame_out; rw [pay2_apply, zero_add])
    (fun t h j => by
      rcases Decidable.em (t.val % 4 = 3) with h3 | h3
      · rw [outsAt0_C m c t h (by omega) h3]; frame_out; rw [pay3_apply]; exact congrArg (fun u : FVec Ideal S1024x2048 .f32 => u j + part (iblk m c 0 t) (iblk m c 1 t) j) ((Memref.isWhole_whole cc0_scratch0).read_unread _)
      · rw [outsAt0_B m c t h (by omega) h3]; frame_out; rw [pay3_apply]; exact congrArg (fun u : FVec Ideal S1024x2048 .f32 => u j + part (iblk m c 0 t) (iblk m c 1 t) j) ((Memref.isWhole_whole cc0_scratch0).read_unread _))
    t ht j

theorem out (c : Dev nD) (t : Fin cfg0.N) (ht : t.val % 4 = 3) :
    (outsAt0 m c t.val t.isLt).1 = k0_pay4 (outsAt0 m c t.val t.isLt).2 := by
  rw [outsAt0_C m c t (by omega) (by omega) ht]; frame_out

theorem ref_apply (x : FVec Ideal S8192x1024 .bf16) (y : FVec Ideal S8192x2048 .bf16) (i : S1024x2048.Idx) :
    (val_main_v6 (F := Ideal) x y : FVec Ideal S1024x2048 .bf16) i = ∑ k : Fin 8192, x (ix2 k (i 0)) * y (ix2 k (i 1)) := by
  pointwise [val_main_v6, val_main_v5, val_main_v4, val_main_v3, val_main_v1]
  exact Finset.sum_congr rfl fun k _ => mul_comm _ _

theorem arr2 (c : Dev nD) :
    (dats m 0 c).arrAt 2 cfg0.N = val_main_v6 (F := Ideal) (m ((c : Thread nD τ).loc main_arg0)) (m ((c : Thread nD τ).loc main_arg1)) := by
  refine (dats m 0 c).arrAt_eq_of_covers 2 _ (by decide +kernel) fun t hf y => ?_
  have ht : t.val % 4 = 3 := (flush0_2 t).mp hf
  blk_simp
  rw [after0_2, out m c t ht]
  pointwise [k0_pay4]
  rw [scr m c t ht, ref_apply, zero_add]
  refine Fin.sum_mul_add_congr fun s k hl => ?_
  congr 1 <;> blk_ext [iblk, V, idx t, idx ⟨4 * (t.val / 4) + s.val, Pipeline.run_point_lt_of_flush t ht s⟩]

theorem alg : algebraic_Kernel22Ideal_Reference22Ideal (hKernel22Ideal := Cert.Kernel22Ideal.Gen.facts) (hReference22Ideal := Cert.Reference22Ideal.Gen.facts) := by
  intro m g m' g' _ hag
  refine ⟨fun c => val_main_v6 (F := Ideal) (m ((c : Thread nD τ).loc main_arg0)) (m ((c : Thread nD τ).loc main_arg1)), ?_, ?_⟩
  · exact (θ_run _ _ _).mono (fun r h c => ⟨(h c).1.trans (arr2 m c), (h c).2⟩) (Cert.Kernel22Ideal.Value.run_blocks m g)
  · refine (θ_run _ _ _).mono (fun r h c => ⟨(h c).1.trans ?_, (h c).2⟩) (Cert.Reference22Ideal.Value.run m' g')
    refine (val_main_v6_eq _ _).trans ?_
    rw [(hag c).1, (hag c).2]

end Cert.DwinV

end
-- ==== Proof.RetDh.lean ====
/-
  The gradient at the retention's input: its four parts' products against the four column blocks of the input weight, and the
  norm's gradient of their sum row block by row block, the gradient at the norm's gain summed over the row blocks.
-/
module

public import proofs.«01_k».proof.Defs
public import proofs.«01_k».proof.Proof.Gen.Kernel23Ideal.Value
public import proofs.«01_k».proof.Proof.Gen.Reference23Ideal.Run
public import proofs.«01_k».proof.Proof.Gen.Reference23Ideal.Read
public import proofs.«01_k».proof.Proof.Common
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.RetDh

open Cert.Kernel23Ideal Cert.Kernel23Ideal.Gen Cert.Kernel23Ideal.Value Cert.Reference23Ideal.Read Cert.Common

/-! ## The product -/

/-- A column of the weight, by the part it belongs to. -/
def col (o : ℕ) {n : ℕ} (h : o + n ≤ 6144) (k : Fin n) : Fin 6144 := ⟨o + k.val, by omega⟩

/-- A row of the gradient at the norm's output: the four parts against their columns of the weight. -/
def dhRow (q k : Fin 1024 → EReal) (v g : Fin 2048 → EReal) (w : Fin 1024 → Fin 6144 → EReal) (l : Fin 1024) : EReal :=
  ((∑ i, q i * w l (col 0 (by decide) i) + ∑ i, k i * w l (col 1024 (by decide) i)) + ∑ i, v i * w l (col 2048 (by decide) i)) + ∑ i, g i * w l (col 4096 (by decide) i)

/-- A sum over the weight's columns, part by part. -/
theorem sum_parts (f : Fin 6144 → EReal) :
    ∑ i, f i = ((∑ i : Fin 1024, f (col 0 (by decide) i) + ∑ i : Fin 1024, f (col 1024 (by decide) i)) + ∑ i : Fin 2048, f (col 2048 (by decide) i)) + ∑ i : Fin 2048, f (col 4096 (by decide) i) := by
  rw [show ∑ i, f i = ∑ i : Fin (((1024 + 1024) + 2048) + 2048), f i from rfl, Fin.sum_univ_add, Fin.sum_univ_add, Fin.sum_univ_add]
  refine congrArg₂ (· + ·) (congrArg₂ (· + ·) (congrArg₂ (· + ·) ?_ ?_) ?_) ?_ <;>
    refine Finset.sum_congr rfl fun i _ => congrArg f (Fin.ext ?_) <;> simp [col, Nat.add_comm]

theorem pay4_apply (x0 : FVec Ideal S512x1024 .bf16) (x1 : FVec Ideal S1024x1024 .bf16) (x2 : FVec Ideal S512x1024 .bf16) (x3 : FVec Ideal S1024x1024 .bf16)
    (x4 : FVec Ideal S512x2048 .bf16) (x5 : FVec Ideal S1024x2048 .bf16) (x6 : FVec Ideal S512x2048 .bf16) (x7 : FVec Ideal S1024x2048 .bf16) (r : Fin 512) (l : Fin 1024) :
    (k0_pay4 x0 x1 x2 x3 x4 x5 x6 x7 : FVec Ideal S512x1024 .f32) (ix2 r l)
      = ((∑ i, x0 (ix2 r i) * x1 (ix2 l i) + ∑ i, x2 (ix2 r i) * x3 (ix2 l i)) + ∑ i, x4 (ix2 r i) * x5 (ix2 l i)) + ∑ i, x6 (ix2 r i) * x7 (ix2 l i) := by
  pointwise [k0_pay4]

theorem ref_dh (x0 x1 : FVec Ideal S8192x1024 .bf16) (x2 x3 : FVec Ideal S8192x2048 .bf16) (x4 : FVec Ideal S1024x6144 .bf16) (r : Fin 8192) (l : Fin 1024) :
    (val_main_v28 (F := Ideal) x0 x1 x2 x3 x4 : FVec Ideal S8192x1024 .f32) (ix2 r l)
      = dhRow (fun i => x0 (ix2 r i)) (fun i => x1 (ix2 r i)) (fun i => x2 (ix2 r i)) (fun i => x3 (ix2 r i)) (fun l i => x4 (ix2 l i)) l := by
  unfold dhRow
  pointwise [val_main_v28, val_main_v27, val_main_v26, val_main_v25, val_main_v24, val_main_v23, val_main_v17]
  rw [sum_parts]
  refine congrArg₂ (· + ·) (congrArg₂ (· + ·) (congrArg₂ (· + ·) ?_ ?_) ?_) ?_ <;>
    refine Finset.sum_congr rfl fun i _ => congrArg (fun u => u * _) ?_
  · have hv : (col 0 (by decide) i).val = 0 + i.val := rfl
    rw [dif_pos (by omega)]
    exact congrArg (fun q => x0 (ix2 r q)) (Fin.ext (by dsimp only; omega))
  · have hv : (col 1024 (by decide) i).val = 1024 + i.val := rfl
    rw [dif_neg (by omega), dif_pos (by omega)]
    exact congrArg (fun q => x1 (ix2 r q)) (Fin.ext (by dsimp only; omega))
  · have hv : (col 2048 (by decide) i).val = 2048 + i.val := rfl
    rw [dif_neg (by omega), dif_neg (by omega), dif_pos (by omega)]
    exact congrArg (fun q => x2 (ix2 r q)) (Fin.ext (by dsimp only; omega))
  · have hv : (col 4096 (by decide) i).val = 4096 + i.val := rfl
    rw [dif_neg (by omega), dif_neg (by omega), dif_neg (by omega)]
    exact congrArg (fun q => x3 (ix2 r q)) (Fin.ext (by dsimp only; omega))

/-! ## The norm's gradient -/

/-- A row of the gradient at the norm's input, as the kernel writes it: `x` the input's row, `y` the gradient times the gain,
  `d` what the residual adds. -/
def dxRow (x y : Fin 1024 → EReal) (d : EReal) (l : Fin 1024) : EReal :=
  d + Ideal.rsqrt (sigma x) * (y l - (x l * Ideal.rsqrt (sigma x)) * Ideal.div (∑ j, y j * (x j * Ideal.rsqrt (sigma x))) (Ideal.ofBits .f32 0x44800000#32))

/-- The same, as the derivative reads. -/
theorem dxRow_eq (x y : Fin 1024 → EReal) (d : EReal) (l : Fin 1024) :
    dxRow x y d l = ((d + y l * Ideal.rsqrt (sigma x))
          + x l * Ideal.div ((∑ j, x j * y j) * (Ideal.ofBits .f32 0xBF000000#32 * Ideal.div (Ideal.rsqrt (sigma x)) (sigma x))) (Ideal.ofBits .f32 0x44800000#32))
          + Ideal.div ((∑ j, x j * y j) * (Ideal.ofBits .f32 0xBF000000#32 * Ideal.div (Ideal.rsqrt (sigma x)) (sigma x))) (Ideal.ofBits .f32 0x44800000#32) * x l :=
  rms_bwd x y d l

/-- A row's term of the gradient at the gain. -/
def gainTerm (x h : Fin 1024 → EReal) (l : Fin 1024) : EReal := h l * (x l * Ideal.rsqrt (sigma x))

theorem dx_apply (x : FVec Ideal S512x1024 .f32) (y d : FVec Ideal S512x1024 .f32) (r : Fin 512) (l : Fin 1024) :
    (k0_pay1 (k0_pay5 x) (k0_pay6 x) y d : FVec Ideal S512x1024 .f32) (ix2 r l) = dxRow (fun l => x (ix2 r l)) (fun l => y (ix2 r l)) (d (ix2 r l)) l := by
  unfold dxRow sigma
  pointwise [k0_pay1, k0_pay6, k0_pay5]

theorem dg_apply (h x : FVec Ideal S512x1024 .f32) (l : Fin 1024) :
    (k0_pay2 h (k0_pay6 x) : FVec Ideal S1x1024 .f32) (ix2 0 l) = ∑ r : Fin 512, gainTerm (fun l => x (ix2 r l)) (fun l => h (ix2 r l)) l := by
  unfold gainTerm sigma
  pointwise [k0_pay2, k0_pay6, k0_pay5]

theorem pay7_apply (x0 : FVec Ideal S512x1024 .bf16) (x1 : FVec Ideal S1024x1024 .bf16) (x2 : FVec Ideal S512x1024 .bf16) (x3 : FVec Ideal S1024x1024 .bf16)
    (x4 : FVec Ideal S512x2048 .bf16) (x5 : FVec Ideal S1024x2048 .bf16) (x6 : FVec Ideal S512x2048 .bf16) (x7 : FVec Ideal S1024x2048 .bf16) (g : FVec Ideal S1x1024 .f32) (r : Fin 512) (l : Fin 1024) :
    (k0_pay7 x0 x1 x2 x3 x4 x5 x6 x7 g : FVec Ideal S512x1024 .f32) (ix2 r l) = (k0_pay4 x0 x1 x2 x3 x4 x5 x6 x7 : FVec Ideal S512x1024 .f32) (ix2 r l) * g (ix2 0 l) := by
  unfold k0_pay7
  generalize (k0_pay4 x0 x1 x2 x3 x4 x5 x6 x7 : FVec Ideal S512x1024 .f32) = h
  pointwise []

theorem ref_dx (x0 x1 : FVec Ideal S8192x1024 .bf16) (x2 x3 : FVec Ideal S8192x2048 .bf16) (x4 : FVec Ideal S1024x6144 .bf16) (x : FVec Ideal S8192x1024 .f32) (g : FVec Ideal S1x1024 .f32) (d : FVec Ideal S8192x1024 .f32) (r : Fin 8192) (l : Fin 1024) :
    (val_main_v49 (F := Ideal) x0 x1 x2 x3 x4 x g d : FVec Ideal S8192x1024 .f32) (ix2 r l)
      = dxRow (fun l => x (ix2 r l)) (fun l => (val_main_v28 (F := Ideal) x0 x1 x2 x3 x4 : FVec Ideal S8192x1024 .f32) (ix2 r l) * g (ix2 0 l)) (d (ix2 r l)) l := by
  refine Eq.trans ?_ (dxRow_eq _ _ _ l).symm
  unfold sigma val_main_v49 val_main_v48 val_main_v47 val_main_v46 val_main_v45 val_main_v44 val_main_v43 val_main_v41 val_main_v40 val_main_v39 val_main_v37 val_main_v36 val_main_v35 val_main_v33
  generalize (val_main_v28 (F := Ideal) x0 x1 x2 x3 x4 : FVec Ideal S8192x1024 .f32) = h
  pointwise [val_main_v42, val_main_v38, val_main_v32, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  simp only [Fin.sum_univ_one]

theorem ref_dg (x0 x1 : FVec Ideal S8192x1024 .bf16) (x2 x3 : FVec Ideal S8192x2048 .bf16) (x4 : FVec Ideal S1024x6144 .bf16) (x : FVec Ideal S8192x1024 .f32) (l : Fin 1024) :
    (val_main_v50 (F := Ideal) x0 x1 x2 x3 x4 x : FVec Ideal S1x1024 .f32) (ix2 0 l)
      = ∑ r : Fin 8192, gainTerm (fun l => x (ix2 r l)) (fun l => (val_main_v28 (F := Ideal) x0 x1 x2 x3 x4 : FVec Ideal S8192x1024 .f32) (ix2 r l)) l := by
  unfold gainTerm sigma val_main_v50 val_main_v34 val_main_v31 val_main_v30 val_main_v29
  generalize (val_main_v28 (F := Ideal) x0 x1 x2 x3 x4 : FVec Ideal S8192x1024 .f32) = h
  pointwise [val_main_v15, val_main_v14, val_main_v13, val_main_v12, val_main_v11, val_main_v10, val_main_v9, val_main_v8, val_main_v7, val_main_v6, val_main_v5, val_main_v4, val_main_v3, val_main_v2, val_main_v1, val_main_cst, val_main_cst_0, val_main_cst_1, val_main_cst_2, val_main_cst_3, val_main_cst_4]
  refine (Fin.sum_univ_one _).trans (Finset.sum_congr rfl fun x _ => mul_comm _ _)

/-! ## The blocks against the arrays -/

variable (m : (ℓ : Loc nD τ sig) → Buf (Elt Ideal) ℓ)

/-- Which blocks the windows are on. -/
theorem idx : ∀ t : Fin cfg0.N, win0_0.index t = ![t.val, 0] ∧ win0_1.index t = ![0, 0] ∧ win0_2.index t = ![t.val, 0] ∧ win0_3.index t = ![0, 1]
    ∧ win0_4.index t = ![t.val, 0] ∧ win0_5.index t = ![0, 1] ∧ win0_6.index t = ![t.val, 0] ∧ win0_7.index t = ![0, 2] ∧ win0_8.index t = ![t.val, 0]
    ∧ win0_9.index t = ![0, 0] ∧ win0_10.index t = ![t.val, 0] ∧ win0_11.index t = ![t.val, 0] ∧ win0_12.index t = ![0, 0] :=
  (by decide +kernel : ∀ t : Fin grid0.N, _)

/-- Row `r` of block `t`. -/
def row (t : Fin cfg0.N) (r : Fin 512) : Fin 8192 := ⟨t.val * 512 + r.val, by have := lt_of_lt_of_eq t.isLt (show cfg0.N = 16 from N_0); omega⟩

/-- The arrays' rows. -/
def hs (c : Dev nD) (r : Fin 8192) (l : Fin 1024) : EReal :=
  dhRow (fun i => (m ((c : Thread nD τ).loc main_arg0) : FVec Ideal S8192x1024 .bf16) (ix2 r i)) (fun i => (m ((c : Thread nD τ).loc main_arg1) : FVec Ideal S8192x1024 .bf16) (ix2 r i))
    (fun i => (m ((c : Thread nD τ).loc main_arg2) : FVec Ideal S8192x2048 .bf16) (ix2 r i)) (fun i => (m ((c : Thread nD τ).loc main_arg3) : FVec Ideal S8192x2048 .bf16) (ix2 r i))
    (fun l i => (m ((c : Thread nD τ).loc main_arg4) : FVec Ideal S1024x6144 .bf16) (ix2 l i)) l
def xs (c : Dev nD) (r : Fin 8192) (l : Fin 1024) : EReal := (m ((c : Thread nD τ).loc main_arg5) : FVec Ideal S8192x1024 .f32) (ix2 r l)

theorem block0 (c : Dev nD) (t : Fin cfg0.N) (r : Fin 512) (i : Fin 1024) :
    (iblk m c 0 t : FVec Ideal S512x1024 .bf16) (ix2 r i) = (m ((c : Thread nD τ).loc main_arg0) : FVec Ideal S8192x1024 .bf16) (ix2 (row t r) i) := by
  unfold row; blk_point [iblk, V, idx t]
theorem block1 (c : Dev nD) (t : Fin cfg0.N) (l : Fin 1024) (i : Fin 1024) :
    (iblk m c 1 t : FVec Ideal S1024x1024 .bf16) (ix2 l i) = (m ((c : Thread nD τ).loc main_arg4) : FVec Ideal S1024x6144 .bf16) (ix2 l (col 0 (by decide) i)) := by
  unfold col; blk_point [iblk, V, idx t]
theorem block2 (c : Dev nD) (t : Fin cfg0.N) (r : Fin 512) (i : Fin 1024) :
    (iblk m c 2 t : FVec Ideal S512x1024 .bf16) (ix2 r i) = (m ((c : Thread nD τ).loc main_arg1) : FVec Ideal S8192x1024 .bf16) (ix2 (row t r) i) := by
  unfold row; blk_point [iblk, V, idx t]
theorem block3 (c : Dev nD) (t : Fin cfg0.N) (l : Fin 1024) (i : Fin 1024) :
    (iblk m c 3 t : FVec Ideal S1024x1024 .bf16) (ix2 l i) = (m ((c : Thread nD τ).loc main_arg4) : FVec Ideal S1024x6144 .bf16) (ix2 l (col 1024 (by decide) i)) := by
  unfold col; blk_point [iblk, V, idx t]
theorem block4 (c : Dev nD) (t : Fin cfg0.N) (r : Fin 512) (i : Fin 2048) :
    (iblk m c 4 t : FVec Ideal S512x2048 .bf16) (ix2 r i) = (m ((c : Thread nD τ).loc main_arg2) : FVec Ideal S8192x2048 .bf16) (ix2 (row t r) i) := by
  unfold row; blk_point [iblk, V, idx t]
theorem block5 (c : Dev nD) (t : Fin cfg0.N) (l : Fin 1024) (i : Fin 2048) :
    (iblk m c 5 t : FVec Ideal S1024x2048 .bf16) (ix2 l i) = (m ((c : Thread nD τ).loc main_arg4) : FVec Ideal S1024x6144 .bf16) (ix2 l (col 2048 (by decide) i)) := by
  unfold col; blk_point [iblk, V, idx t]
theorem block6 (c : Dev nD) (t : Fin cfg0.N) (r : Fin 512) (i : Fin 2048) :
    (iblk m c 6 t : FVec Ideal S512x2048 .bf16) (ix2 r i) = (m ((c : Thread nD τ).loc main_arg3) : FVec Ideal S8192x2048 .bf16) (ix2 (row t r) i) := by
  unfold row; blk_point [iblk, V, idx t]
theorem block7 (c : Dev nD) (t : Fin cfg0.N) (l : Fin 1024) (i : Fin 2048) :
    (iblk m c 7 t : FVec Ideal S1024x2048 .bf16) (ix2 l i) = (m ((c : Thread nD τ).loc main_arg4) : FVec Ideal S1024x6144 .bf16) (ix2 l (col 4096 (by decide) i)) := by
  unfold col; blk_point [iblk, V, idx t]
theorem block8 (c : Dev nD) (t : Fin cfg0.N) (r : Fin 512) (l : Fin 1024) :
    (iblk m c 8 t : FVec Ideal S512x1024 .f32) (ix2 r l) = xs m c (row t r) l := by
  unfold xs row; blk_point [iblk, V, idx t]
theorem block9 (c : Dev nD) (t : Fin cfg0.N) (l : Fin 1024) :
    (iblk m c 9 t : FVec Ideal S1x1024 .f32) (ix2 0 l) = (m ((c : Thread nD τ).loc main_arg6) : FVec Ideal S1x1024 .f32) (ix2 0 l) := by
  blk_point [iblk, V, idx t]
theorem block10 (c : Dev nD) (t : Fin cfg0.N) (r : Fin 512) (l : Fin 1024) :
    (iblk m c 10 t : FVec Ideal S512x1024 .f32) (ix2 r l) = (m ((c : Thread nD τ).loc main_arg7) : FVec Ideal S8192x1024 .f32) (ix2 (row t r) l) := by
  unfold row; blk_point [iblk, V, idx t]

/-- What a point's products are. -/
def dhAt (c : Dev nD) (t : Fin cfg0.N) : FVec Ideal S512x1024 .f32 :=
  k0_pay4 (iblk m c 0 t) (iblk m c 1 t) (iblk m c 2 t) (iblk m c 3 t) (iblk m c 4 t) (iblk m c 5 t) (iblk m c 6 t) (iblk m c 7 t)

theorem dh_block (c : Dev nD) (t : Fin cfg0.N) (r : Fin 512) (l : Fin 1024) : dhAt m c t (ix2 r l) = hs m c (row t r) l := by
  unfold dhAt hs dhRow
  rw [pay4_apply]
  simp only [block0, block1, block2, block3, block4, block5, block6, block7]

/-- What a point writes of the first output. -/
def dxAt (c : Dev nD) (t : Fin cfg0.N) : FVec Ideal S512x1024 .f32 :=
  k0_pay1 (k0_pay5 (iblk m c 8 t)) (k0_pay6 (iblk m c 8 t)) (k0_pay7 (iblk m c 0 t) (iblk m c 1 t) (iblk m c 2 t) (iblk m c 3 t) (iblk m c 4 t) (iblk m c 5 t) (iblk m c 6 t) (iblk m c 7 t) (iblk m c 9 t)) (iblk m c 10 t)
/-- What it adds to the second. -/
def dgAt (c : Dev nD) (t : Fin cfg0.N) : FVec Ideal S1x1024 .f32 := k0_pay2 (dhAt m c t) (k0_pay6 (iblk m c 8 t))

theorem dx_block (c : Dev nD) (t : Fin cfg0.N) (r : Fin 512) (l : Fin 1024) :
    dxAt m c t (ix2 r l) = dxRow (xs m c (row t r)) (fun l => hs m c (row t r) l * (m ((c : Thread nD τ).loc main_arg6) : FVec Ideal S1x1024 .f32) (ix2 0 l))
      ((m ((c : Thread nD τ).loc main_arg7) : FVec Ideal S8192x1024 .f32) (ix2 (row t r) l)) l := by
  unfold dxAt
  rw [dx_apply, block10, show (fun l => (iblk m c 8 t : FVec Ideal S512x1024 .f32) (ix2 r l)) = xs m c (row t r) from funext fun l => block8 m c t r l]
  refine congrArg (fun y => dxRow _ y _ l) (funext fun j => ?_)
  rw [pay7_apply, block9]
  exact congrArg (fun u => u * _) (dh_block m c t r j)

/-- A position's part of the gradient at the gain. -/
def dgTerm (c : Dev nD) (l : Fin 1024) (r : Fin 8192) : EReal := gainTerm (xs m c r) (hs m c r) l

theorem dg_block (c : Dev nD) (t : Fin cfg0.N) (l : Fin 1024) : dgAt m c t (ix2 0 l) = ∑ r : Fin 512, dgTerm m c l (row t r) := by
  unfold dgAt
  rw [dg_apply]
  refine Finset.sum_congr rfl fun r _ => ?_
  exact congrArg₂ (fun x h => gainTerm x h l) (funext fun l => block8 m c t r l) (funext fun l => dh_block m c t r l)

theorem row_zero (j : S1x1024.Idx) : j = ix2 0 (j 1) := by
  have h : (j 0).val < 1 := (j 0).isLt
  funext a
  match a with
  | ⟨0, _⟩ => exact Fin.ext (by show (j 0).val = 0; omega)
  | ⟨1, _⟩ => rfl

theorem ix2_eta (j : S512x1024.Idx) : j = ix2 (j 0) (j 1) := by
  funext a
  match a with
  | ⟨0, _⟩ => rfl
  | ⟨1, _⟩ => rfl

/-- A block's part. -/
def dgPart (c : Dev nD) (t : Fin cfg0.N) (j : S1x1024.Idx) : EReal := ∑ r : Fin 512, dgTerm m c (j 1) (row t r)

theorem dg_part (c : Dev nD) (t : Fin cfg0.N) (j : S1x1024.Idx) : dgAt m c t j = dgPart m c t j :=
  (congrArg _ (row_zero j)).trans (dg_block m c t (j 1))

theorem pay3_apply (h x : FVec Ideal S512x1024 .f32) (a : FVec Ideal S1x1024 .f32) (j : S1x1024.Idx) : (k0_pay3 h x a : FVec Ideal S1x1024 .f32) j = a j + (k0_pay2 h x : FVec Ideal S1x1024 .f32) j := by
  unfold k0_pay3
  rw [shapeCast_self]
  rfl

/-- What the gain's gradient holds after the last point. -/
theorem dg_last (c : Dev nD) (j : S1x1024.Idx) :
    ((outsAt0 m c t0_15.val t0_15.isLt).2 : FVec Ideal S1x1024 .f32) j = 0 + ∑ t : Fin cfg0.N, dgPart m c t j :=
  Pipeline.eq_sum_fin_of_reset_step_apply_last (fun n h => (outsAt0 m c n h).2) 16 (fun _ => (0 : EReal)) (dgPart m c)
    (fun t h j => by
      rw [← dg_part, zero_add, outsAt0_A m c t h (by have := lt_of_lt_of_eq t.isLt (show cfg0.N = 16 from N_0); omega)]; unfold dgAt dhAt; frame_out)
    (fun t h j => by
      rw [← dg_part, outsAt0_B m c t h (by omega)]; unfold dgAt dhAt; frame_out; rw [pay3_apply])
    (le_of_eq N_0) t0_15 rfl j

/-- What a point leaves in the first output's block. -/
theorem out_dx (c : Dev nD) (t : Fin cfg0.N) : (outsAt0 m c t.val t.isLt).1 = dxAt m c t := by
  unfold dxAt
  rcases Decidable.em (t.val % 16 = 0) with h | h
  · rw [outsAt0_A m c t h (by have := lt_of_lt_of_eq t.isLt (show cfg0.N = 16 from N_0); omega)]; frame_out
  · rw [outsAt0_B m c t h (by omega)]; frame_out

/-- The reference's results, in its arguments. -/
def refDx (c : Dev nD) : FVec Ideal S8192x1024 .f32 :=
  val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
def refDg (c : Dev nD) : FVec Ideal S1x1024 .f32 :=
  val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

theorem refDx_apply (c : Dev nD) (r : Fin 8192) (l : Fin 1024) :
    refDx m c (ix2 r l) = dxRow (xs m c r) (fun l => hs m c r l * (m ((c : Thread nD τ).loc main_arg6) : FVec Ideal S1x1024 .f32) (ix2 0 l))
      ((m ((c : Thread nD τ).loc main_arg7) : FVec Ideal S8192x1024 .f32) (ix2 r l)) l := by
  unfold refDx
  rw [ref_dx]
  simp only [ref_dh]
  rfl

theorem refDg_apply (c : Dev nD) (l : Fin 1024) : refDg m c (ix2 0 l) = ∑ r, dgTerm m c l r := by
  unfold refDg
  rw [ref_dg]
  simp only [ref_dh]
  rfl

theorem dx_point (c : Dev nD) (t : Fin cfg0.N) (j : S512x1024.Idx) : dxAt m c t j = refDx m c (ix2 (row t (j 0)) (j 1)) :=
  (congrArg _ (ix2_eta j)).trans ((dx_block m c t (j 0) (j 1)).trans (refDx_apply m c (row t (j 0)) (j 1)).symm)

theorem arr11 (c : Dev nD) : (dats m 0 c).arrAt 11 cfg0.N = refDx m c := by
  refine (dats m 0 c).arrAt_eq_of_covers 11 _ (by decide +kernel) fun t hf y => ?_
  have e : ((cfg0.win 11).blk t).view.emb y = ix2 (row t (y 0)) (y 1) := by unfold row; blk_ext [idx t]
  blk_simp
  rw [after0_11, out_dx, e]
  exact dx_point m c t y

theorem dg_point (c : Dev nD) (j : S1x1024.Idx) : ((outsAt0 m c t0_15.val t0_15.isLt).2 : FVec Ideal S1x1024 .f32) j = refDg m c j := by
  refine (dg_last m c j).trans ((zero_add _).trans (Eq.trans ?_ ((refDg_apply m c (j 1)).symm.trans (congrArg _ (row_zero j).symm))))
  exact (Fin.sum_univ_tiles 16 512 (by decide) (dgTerm m c (j 1))).symm

theorem arr12 (c : Dev nD) : (dats m 0 c).arrAt 12 cfg0.N = refDg m c := by
  refine (dats m 0 c).arrAt_eq_of_after_last 12 t0_15 (by decide +kernel) _ fun y => ?_
  blk_simp
  rw [after0_12]
  exact dg_point m c y

theorem alg : algebraic_Kernel23Ideal_Reference23Ideal (hKernel23Ideal := Cert.Kernel23Ideal.Gen.facts) (hReference23Ideal := Cert.Reference23Ideal.Gen.facts) := by
  intro m g m' g' _ hag
  refine ⟨fun c => refDx m c, fun c => refDg m c, ?_, ?_⟩
  · exact (θ_run _ _ _).mono (fun r h c => ⟨(h c).1.trans (arr11 m c), (h c).2.1.trans (arr12 m c), (h c).2.2⟩) (Cert.Kernel23Ideal.Value.run_blocks m g)
  · refine (θ_run _ _ _).mono (fun r h c => ⟨(h c).1.trans ?_, (h c).2.1.trans ?_, (h c).2.2⟩) (Cert.Reference23Ideal.Value.run m' g')
    · refine (val_main_v49_eq m' c).trans ?_
      unfold refDx
      rw [(hag c).1, (hag c).2.1, (hag c).2.2.1, (hag c).2.2.2.1, (hag c).2.2.2.2.1, (hag c).2.2.2.2.2.1, (hag c).2.2.2.2.2.2.1, (hag c).2.2.2.2.2.2.2]
    · refine (val_main_v50_eq _ _ _ _ _ _).trans ?_
      unfold refDg
      rw [(hag c).1, (hag c).2.1, (hag c).2.2.1, (hag c).2.2.2.1, (hag c).2.2.2.2.1, (hag c).2.2.2.2.2.1]

end Cert.RetDh

end
-- ==== Proof.LossTotal.lean ====
/-
  The loss summed over the eight devices: the host's slice of each device's share, and the all-reduce of the shares. The run
  is the two host operations and the collective as segments; every unscoped buffer is held through both. The sum that the
  collective leaves is a left fold in the group's order, which over the extended reals is the sum over the devices.
-/
module

public import proofs.«01_k».proof.Defs
public import proofs.«01_k».proof.Proof.Gen.Kernel24
public import proofs.«01_k».proof.Proof.Gen.Kernel24Ideal
public import proofs.«01_k».proof.Proof.Gen.Kernel24Ideal.Launch
public import proofs.«01_k».proof.Proof.Gen.Reference24Ideal.Run
public import proofs.«01_k».proof.Proof.Gen.Reference24Ideal.Read
public import Idealize.ShloMosaic.Lib.StableHlo.CollectiveRules
public import Idealize.ShloMosaic.Lib.Pipeline.CollectiveSegs
public import Idealize.ShloMosaic.Lib.Pipeline.Frame
public import Idealize.ShloMosaic.Lib.Pipeline.ValueKit
public import Idealize.ShloMosaic.Lib.Tactic

@[expose] public section

noncomputable section

namespace Cert.LossTotal

open Cert.Kernel24Ideal Cert.Kernel24Ideal.Gen
open Cert.Kernel24Ideal.Gen.Sites (L lv)

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipelines' component, of which the program has none, beside the collective's. -/
abbrev UU : Type := UR sig nD τ × Sites.UC

local notation "𝕄" => MT nD τ sig ℕ (Elt F) ℕ UU ℕ

abbrev EP : Emb (UR sig nD τ) (MT nD τ sig ℕ (Elt F) ℕ UU ℕ) := embL
abbrev EC : Emb Sites.UC (MT nD τ sig ℕ (Elt F) ℕ UU ℕ) := embR

variable (m : (ℓ : Loc nD τ sig) → Buf (Elt F) ℓ) (ρ : Dev nD → PrngReg)

abbrev adm : (p : Fin 0) → (pcfgs (F := F) p).Adm := fun p => p.elim0
abbrev pdats : (p : Fin 0) → (c : Dev nD) → Pipeline.Dat τ (Elt F) ℕ ℕ UU ℕ (Pipeline.pin (pcfgs (F := F)) adm p) c := fun p => p.elim0
abbrev 𝒱₀ : Variants := Variants.none

/-- Each device's buffers at launch, and after the slice and the reshape. -/
abbrev V₀ (c : Dev nD) : Valuation τ sig (Elt F) := fun b => m (c, b)
abbrev V₁ (c : Dev nD) : Valuation τ sig (Elt F) := StableHlo.after hostOps0 (V₀ m c)
/-- What the all-reduce leaves. -/
abbrev V₂ (c : Dev nD) : Valuation τ sig (Elt F) := (ar0 (F := F)).after₀ (V₁ m) c

/-- The collective's cells are under their invariants: read at the end for the counters. -/
abbrev invs : sProp 𝕄 := iprop(∃ κ, (AllReduce.Dat.once (ar0 (F := F)) (V₁ m)).cellInvs (Sites.E0 EC) κ)

local notation "ℍ" => Pipeline.HostSeg (Name := ℕ) (U := UU) (pcfgs (F := F)) defs₀ 𝒱₀ L lv

theorem ops0_sub : ∀ op ∈ (hostOps0 : List (HloOp τ sig (Elt F))), op.bufs ⊆ Pipeline.ucRefs τ sig := fun op h =>
  Pipeline.sub_ucRefs op (List.forall_iff_forall_mem.1 hostOps0_sub op h)
theorem ops0_fresh : ∀ op ∈ (hostOps0 : List (HloOp τ sig (Elt F))), op.fresh = ∅ := by
  intro _ h; (repeat (cases h with | head => rfl | tail _ h => ?_)); exact nomatch h

/-- The slice and the reshape, then the all-reduce. -/
def seg0 : ℍ := Pipeline.HostSeg.ofOps _ _ _ _ _ (Pipeline.ucRefs τ sig) (hostOps0 (F := F)) ops0_sub ops0_fresh (V₀ m) (Sites.Es EC (V₁ m) 0)
def seg1 : ℍ := Sites.seg0 EC 𝒱₀ (V₁ m) (Sites.Rest0 (V₁ m) fun _ => invs m)

def segs : List (Pipeline.Seg (pcfgs (F := F)) adm (pdats) 0 defs₀ 𝒱₀ L lv) := [.host (seg0 m), .host (seg1 m)]

theorem main_eq (c : Dev nD) : main (F := F) c = Pipeline.Seg.run (segs m) := main_segs adm pdats 0 𝒱₀ L lv (seg0 m) (seg1 m) rfl rfl c

theorem seg0_seg1 (c : Dev nD) : (seg0 m).post c ⊢ (seg1 (F := F) m).pre c := by
  refine .trans ?_ (Sites.pre0 EC 𝒱₀ (V₁ m) (fun _ => invs m) c)
  dsimp only [seg0, Pipeline.HostSeg.ofOps]
  rw [Sites.Es_0]
  iintro ⟨Hh, HO, Hp, Hr⟩
  ihave #Hi := (show Sites.rides0 EC (V₁ m) c ⊢ invs m from by unfold Sites.rides0 AllReduce.Dat.rides; iintro ⟨Hi, -⟩; iexact Hi) $$ Hr
  isplitl [Hh]; · iexact Hh
  isplitl [HO Hp Hr]
  · isplitl [HO]; · iexact HO
    isplitl [Hp] <;> iassumption
  iexact Hi

/-- The first thread state, and the last. -/
abbrev T₀ (c : Dev nD) : sProp 𝕄 := iprop(StableHlo.held (c : Thread nD τ) (Pipeline.ucRefs τ sig) (V₀ m c) ∗ Sites.Es EC (V₁ m) 0 c)
abbrev Tₙ (c : Dev nD) : sProp 𝕄 := iprop(StableHlo.held (c : Thread nD τ) (Pipeline.ucRefs τ sig) (V₂ m c) ∗ (invs m ∗ Sites.Ghost0 EC c))

theorem seg1_Tₙ (c : Dev nD) : (seg1 (F := F) m).post c ⊢ iprop(Tₙ m c ∗ ∃ W, owes (c : Thread nD τ) (0 : CellTallies nD τ sig ℕ) W) := by
  refine (Sites.post0 EC 𝒱₀ (V₁ m) (fun _ => invs m) c).trans ?_
  iintro ⟨Hh, HE, Hg, Hi⟩
  isplitl [Hh Hg Hi]
  · isplitl [Hh]; · iexact Hh
    isplitl [Hi] <;> iassumption
  iapply (Sites.hE_last EC (V₁ m) c)
  iexact HE

def u₀ : UU :=
  (initOf (Pipeline.cells (Pipeline.pin (pcfgs (F := F)) adm) cellOf_inj) (Pipeline.launchToks (Pipeline.pin (pcfgs (F := F)) adm) cellOf_inj),
    Sites.uC (U := UU) (V₁ m))

theorem init :
    iprop((bigSep Finset.univ fun c : Dev nD => iprop(unscopedBufs c (fun b => m ((c : Thread nD τ).loc b)) ∗ unscopedSems0 c
          ∗ owes (c : Thread nD τ) (Sites.O0 (F := F) c) ∅ ∗ Pipeline.launchCred (Sites.O0 (F := F)) c ∗ prngReg c (ρ c) ∗ Sites.G EC (V₁ m) c)) ∗ levAts L lv)
      ⊢ (|={Set.univ}=> bigSep Finset.univ (T₀ m) : sProp 𝕄) := by
  iintro ⟨H, Hl⟩
  ihave H' := (show _ ⊢ iprop((bigSep Finset.univ fun c : Dev nD => StableHlo.held (c : Thread nD τ) (Pipeline.ucRefs τ sig) (V₀ m c))
        ∗ bigSep Finset.univ fun c : Dev nD => iprop(unscopedSems0 c ∗ owes (c : Thread nD τ) (Sites.O0 (F := F) c) ∅
          ∗ Pipeline.launchCred (Sites.O0 (F := F)) c ∗ prngReg c (ρ c) ∗ Sites.G EC (V₁ m) c))
      from by
        rw [← bigSep_sep']
        exact bigSep_mono fun c _ => Entails.of_eq (congrArg (fun P : sProp 𝕄 => iprop(P ∗ _)) (Pipeline.unscopedBufs_held c (V₀ m c)))) $$ H
  icases H' with ⟨Hh, Hs⟩
  imod (Sites.hE0 EC (V₁ m) ρ) $$ [Hs Hl] with HE
  · isplitl [Hs] <;> iassumption
  imodintro
  iapply (show iprop((bigSep Finset.univ fun c : Dev nD => StableHlo.held (c : Thread nD τ) (Pipeline.ucRefs τ sig) (V₀ m c))
        ∗ bigSep Finset.univ (Sites.Es EC (V₁ m) 0)) ⊢ bigSep Finset.univ (T₀ m) from by rw [← bigSep_sep'])
  isplitl [Hh] <;> iassumption

/-- An unscoped buffer's contents at the end, read off the buffers held. -/
theorem held_read (c : Dev nD) (s' : Phys nD τ sig (Elt F)) (V : Valuation τ sig (Elt F)) :
    iprop(StableHlo.held (c : Thread nD τ) (Pipeline.ucRefs τ sig) V ∗ SI s')
      ⊢ (⌜∀ b ∈ Pipeline.ucRefs τ sig, s'.mem.mem (c, b) = V b⌝ : sProp 𝕄) := by
  unfold StableHlo.held
  iintro ⟨H, HSI⟩
  ihave %h := (SI_pointsTo_bufs_agree (qs := fun _ => fullShare) (Pipeline.ucRefs τ sig)) $$ [HSI H]
  · isplitl [HSI]; · iexact HSI
    iexact H
  ipureintro
  exact h

-- the run theorem's implicit arguments are found by unifying its conclusion with this one
set_option backward.isDefEq.respectTransparency.types false in
/-- The run: every device's buffers end as the two host operations and the collective leave them, and every counter at zero. -/
theorem run_main : θ_run defs (onTc (τ := τ) (main (F := F))) ⟨m, fun _ => 0, ρ⟩
    (fun r => (∀ c : Dev nD, ∀ b ∈ Pipeline.ucRefs τ sig, r.2.mem (c, b) = V₂ m c b) ∧ r.2.sem = fun _ => 0) :=
  Pipeline.θ_run_regions_kit_sems (pcfgs (F := F)) adm pdats 0 cellOf_inj EP defs₀ 𝒱₀ L lv m ρ main (segs m)
    (fun c Q => by rw [main_eq m c])
    (by simp only [segs, Pipeline.Seg.pipes_host, Pipeline.Seg.pipes_nil]; decide)
    (O₀ := Sites.O0 (F := F)) (hL := Sites.hL) (G := Sites.G EC (V₁ m)) (u₀ := u₀ m)
    (hu₀ := by
      unfold u₀
      iintro Hu
      ihave H := (ownU_pair _ _) $$ Hu
      icases H with ⟨HP, HX⟩
      imodintro
      isplitl [HP]; · iexact HP
      rw [Sites.bigSep_G]; iexact HX)
    (T₀ := T₀ m) (Tₙ := Tₙ m)
    (hch := ⟨fun c => .rfl, seg0_seg1 m, seg1_Tₙ m⟩)
    (hinit := init m ρ)
    (QY := fun c s => (∀ b ∈ Pipeline.ucRefs τ sig, s.mem (c, b) = V₂ m c b)
      ∧ s.sem ((ar0 (F := F)).barrierCell c) = 0 ∧ s.sem ((ar0 (F := F)).recvCell c) = 0 ∧ s.sem ((ar0 (F := F)).sendCell c) = 0)
    (hfin := fun c s' => by
      iintro ⟨⟨Hh, He⟩, HSI⟩
      ihave %hx := (held_read c s' (V₂ m c)) $$ [Hh HSI]
      · isplitl [Hh] <;> iassumption
      imod ((AllReduce.Dat.once (ar0 (F := F)) (V₁ m)).ghostAfter_read (Sites.E0 EC) c (k := 0) le_rfl s') $$ [He HSI] with ⟨%ha, HSI⟩
      · isplitl [He] <;> iassumption
      imodintro
      isplitr; · ipureintro; exact ⟨hx, ha⟩
      iexact HSI)
    (hQ := fun s h hs => ⟨fun c => (h c).1, sem_eq_zero hs fun c sm hsm => by
      have hl : ∀ sm : SemLoc sig, sm.isScoped .tc = false → sm = .reg ar0_barrier ∨ sm = .dma ar0_recv ∨ sm = .dma ar0_send := by decide
      rcases hl sm hsm with rfl | rfl | rfl
      exacts [(h c).2.1, (h c).2.2.1, (h c).2.2.2]⟩)

/-- No operation writes the argument. -/
theorem arg_last (c : Dev nD) : V₂ m c main_arg0 = m ((c : Thread nD τ).loc main_arg0) :=
  ((ar0 (F := F)).after₀_of_notMem (V₁ m) c (b := Proc.devRef .tc main_arg0) (fun h => by
      rcases Finset.mem_insert.mp h with h | h
      · exact absurd (Proc.devRef_injective _ h) (by decide : main_arg0 ≠ main_v3)
      · obtain ⟨j, hj⟩ := (ar0 (F := F)).mem_stageRefs.mp h
        exact absurd (Proc.devRef_injective _ hj).symm ((by decide : ∀ j, ar0_stage j ≠ main_arg0) j))).trans
    (by after_results <;> rfl)

/-- The program prints the same over the bits: one text, read at either. -/
theorem frame (m : (ℓ : Loc nD τ sig) → Buf (Elt F) ℓ) (ρ : Dev nD → PrngReg) : θ_run defs (onTc (τ := τ) (main (F := F))) ⟨m, fun _ => 0, ρ⟩
    (fun r => (∀ c : Dev nD, r.2.mem ((c.tc : Thread nD τ).loc main_arg0) = m ((c.tc : Thread nD τ).loc main_arg0)) ∧ r.2.sem = fun _ => 0) :=
  (θ_run _ _ _).mono (fun r h => ⟨fun c => (h.1 c _ (Pipeline.devRef_mem_ucRefs (b := main_arg0) rfl)).trans (arg_last m c), h.2⟩) (run_main m ρ)

theorem quiet : quiescent_Kernel24 (hKernel24 := Cert.Kernel24.Gen.facts) := fun m ρ _ => frame m ρ
theorem quietIdeal : quiescent_Kernel24Ideal (hKernel24Ideal := Cert.Kernel24Ideal.Gen.facts) := fun m ρ _ => frame m ρ

section Value

variable (m : (ℓ : Loc nD τ sig) → Buf (Elt Ideal) ℓ)

/-- A device's share: the first number of its row. -/
def share (d : Dev nD) : EReal := (m ((d : Thread nD τ).loc main_arg0) : FVec Ideal S1x128 .f32) (ix2 0 0)

/-- Of the whole array, the first number of the device's row. -/
theorem share_eq (d : Dev nD) (x : FVec Ideal Cert.Reference24Ideal.S8x128 .f32)
    (h : m ((d : Thread nD τ).loc main_arg0) = Layout.block S1x128 Cert.Reference24Ideal.S8x128 0 8 d x) : share m d = (x (ix2 d 0) : EReal) := by
  unfold share; rw [h]
  refine congrArg x (funext fun a => Fin.ext ?_)
  rw [Layout.Tiles.idx_val]
  fin_cases a
  · exact mul_one d.val
  · rfl

/-- It is what the device sends. -/
theorem sent (d : Dev nD) (i : S_.Idx) : (V₁ m d main_v2 : FVec Ideal S_ .f32) i = share m d := by
  unfold share
  after_results
  pointwise []

/-- The group is every device in order. -/
theorem peer_eq (c : Dev nD) (j : Fin 8) : (ar0 (F := Ideal)).peer c j = j := by fin_cases c <;> fin_cases j <;> rfl

/-- The left fold in the group's order. -/
theorem fold_eq (g : Fin 8 → EReal) : ((List.finRange 8).drop 1).foldl (fun a j => a + g j) (g 0) = ∑ d, g d := by
  rw [Fin.sum_univ_eight]; rfl

/-- What every device ends with, where device `d` sends `s d`: the sum over the devices. -/
theorem total_of (V : Dev nD → Valuation τ sig (Elt Ideal)) (s : Fin 8 → EReal)
    (h : ∀ d, V d main_v2 = (fun _ => s d : FVec Ideal S_ .f32)) (c : Dev nD) :
    (ar0 (F := Ideal)).after₀ V c main_v3 = (fun _ => ∑ d, s d : FVec Ideal S_ .f32) := by
  refine ((ar0 (F := Ideal)).after₀_result V c).trans ?_
  have hv : (fun j => V ((ar0 (F := Ideal)).peer c j) (ar0 (F := Ideal)).operand) = fun j => (fun _ => s j : FVec Ideal S_ .f32) :=
    funext fun j => by rw [peer_eq]; exact h j
  rw [hv]
  exact funext fun i => fold_eq s

theorem total (c : Dev nD) : V₂ m c main_v3 = (fun _ => ∑ d : Dev nD, share m d : FVec Ideal S_ .f32) :=
  total_of (V₁ m) (share m) (fun d => funext (sent m d)) c

theorem ref (x : FVec Ideal Cert.Reference24Ideal.S8x128 .f32) :
    (Cert.Reference24Ideal.Read.val_main_v2 (F := Ideal) x : FVec Ideal S_ .f32) = fun _ => ∑ d : Fin 8, x (ix2 d 0) := by
  funext i
  pointwise [Cert.Reference24Ideal.Read.val_main_v2, Cert.Reference24Ideal.Read.val_main_v1, Cert.Reference24Ideal.Read.val_main_v0, Cert.Reference24Ideal.Read.val_main_cst]

end Value

theorem alg : algebraic_Kernel24Ideal_Reference24Ideal (hKernel24Ideal := Cert.Kernel24Ideal.Gen.facts) (hReference24Ideal := Cert.Reference24Ideal.Gen.facts) := by
  intro m g m' g' _ hag
  refine ⟨_, (θ_run _ _ _).mono (fun r h c => ⟨(h.1 c _ (Pipeline.devRef_mem_ucRefs (b := main_v3) rfl)).trans ?_,
      (h.1 c _ (Pipeline.devRef_mem_ucRefs (b := main_arg0) rfl)).trans (arg_last m c)⟩) (run_main m g),
    (θ_run _ _ _).mono (fun r h => ⟨(h 0).1.trans (Cert.Reference24Ideal.Read.val_main_v2_eq _), (h 0).2⟩) (Cert.Reference24Ideal.Value.run m' g')⟩
  refine (total m c).trans (.trans (funext fun _ => ?_) (ref _).symm)
  exact Finset.sum_congr rfl fun d _ => share_eq m d _ (hag d)

end Cert.LossTotal
-- ==== Proof.lean ====
/-
  Every claim about the feed-forward block's calls: each program runs to its end without fault, with its arguments and the
  semaphores as they were; the ideal program is the kernel over the extended reals; and what the calls compute there is what
  the reference computes.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Reference14Ideal
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Reference15Ideal
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Reference16Ideal
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Reference17Ideal
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Reference18Ideal
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Reference19Ideal
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Reference20Ideal
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Reference21Ideal
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Reference22Ideal
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Reference23Ideal
public import proofs.«01_k».proof.Proof.Gen.Kernel24
public import proofs.«01_k».proof.Proof.Gen.Kernel24Ideal
public import proofs.«01_k».proof.Proof.Gen.Reference24Ideal
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference11Ideal.Run
public import proofs.«01_k».proof.Proof.Gen.Reference12Ideal.Run
public import proofs.«01_k».proof.Proof.Gen.Reference13Ideal.Run
public import proofs.«01_k».proof.Proof.Gen.Reference14Ideal.Run
public import proofs.«01_k».proof.Proof.Gen.Reference15Ideal.Run
public import proofs.«01_k».proof.Proof.Gen.Reference16Ideal.Run
public import proofs.«01_k».proof.Proof.Gen.Reference17Ideal.Run
public import proofs.«01_k».proof.Proof.Gen.Reference18Ideal.Run
public import proofs.«01_k».proof.Proof.Gen.Reference19Ideal.Run
public import proofs.«01_k».proof.Proof.Gen.Reference20Ideal.Run
public import proofs.«01_k».proof.Proof.Gen.Reference21Ideal.Run
public import proofs.«01_k».proof.Proof.Gen.Reference22Ideal.Run
public import proofs.«01_k».proof.Proof.Gen.Reference23Ideal.Run
public import proofs.«01_k».proof.Proof.Gen.Reference24Ideal.Run
public import proofs.«01_k».proof.Proof.Gate
public import proofs.«01_k».proof.Proof.Dw2
public import proofs.«01_k».proof.Proof.Dw1
public import proofs.«01_k».proof.Proof.Dhn
public import proofs.«01_k».proof.Proof.Down
public import proofs.«01_k».proof.Proof.Proj
public import proofs.«01_k».proof.Proof.UpRetIn
public import proofs.«01_k».proof.Proof.UpRetOut
public import proofs.«01_k».proof.Proof.UpAbIn
public import proofs.«01_k».proof.Proof.UpAbOut
public import proofs.«01_k».proof.Proof.UpGlu
public import proofs.«01_k».proof.Proof.UpFfn1
public import proofs.«01_k».proof.Proof.UpFfn2
public import proofs.«01_k».proof.Proof.UpSmall
public import proofs.«01_k».proof.Proof.SumEarly
public import proofs.«01_k».proof.Proof.SumLate
public import proofs.«01_k».proof.Proof.LossHead
public import proofs.«01_k».proof.Proof.MixOut
public import proofs.«01_k».proof.Proof.Dro
public import proofs.«01_k».proof.Proof.DwOut
public import proofs.«01_k».proof.Proof.DwinQ
public import proofs.«01_k».proof.Proof.DwinV
public import proofs.«01_k».proof.Proof.RetDh
public import proofs.«01_k».proof.Proof.LossTotal

@[expose] public section

noncomputable section

namespace Cert.Proof

open Idealize.ShloMosaic Idealize.SL.Sem

/-! The references declare no semaphore, and no operation of theirs writes an argument. -/

theorem frame_reference : Cert.quiescent_ReferenceIdeal := fun m ρ _ =>
  (θ_run Cert.ReferenceIdeal.defs _ _).mono (fun r h => ⟨fun c => (h c).2.2, sem_eq_zero_of_no_sems (by decide) r.2⟩) (Cert.ReferenceIdeal.Value.run m ρ)
theorem frame_reference2 : Cert.quiescent_Reference2Ideal := fun m ρ _ =>
  (θ_run Cert.Reference2Ideal.defs _ _).mono (fun r h => ⟨fun c => (h c).2, sem_eq_zero_of_no_sems (by decide) r.2⟩) (Cert.Reference2Ideal.Value.run m ρ)
theorem frame_reference3 : Cert.quiescent_Reference3Ideal := fun m ρ _ =>
  (θ_run Cert.Reference3Ideal.defs _ _).mono (fun r h => ⟨fun c => (h c).2, sem_eq_zero_of_no_sems (by decide) r.2⟩) (Cert.Reference3Ideal.Value.run m ρ)
theorem frame_reference4 : Cert.quiescent_Reference4Ideal := fun m ρ _ =>
  (θ_run Cert.Reference4Ideal.defs _ _).mono (fun r h => ⟨fun c => (h c).2.2, sem_eq_zero_of_no_sems (by decide) r.2⟩) (Cert.Reference4Ideal.Value.run m ρ)
theorem frame_reference5 : Cert.quiescent_Reference5Ideal := fun m ρ _ =>
  (θ_run Cert.Reference5Ideal.defs _ _).mono (fun r h => ⟨fun c => (h c).2.2, sem_eq_zero_of_no_sems (by decide) r.2⟩) (Cert.Reference5Ideal.Value.run m ρ)
theorem frame_reference6 : Cert.quiescent_Reference6Ideal := fun m ρ _ =>
  (θ_run Cert.Reference6Ideal.defs _ _).mono (fun r h => ⟨fun c => (h c).2, sem_eq_zero_of_no_sems (by decide) r.2⟩) (Cert.Reference6Ideal.Value.run m ρ)
theorem frame_reference7 : Cert.quiescent_Reference7Ideal := fun m ρ _ =>
  (θ_run Cert.Reference7Ideal.defs _ _).mono (fun r h => ⟨fun c => (h c).2.2.2.2, sem_eq_zero_of_no_sems (by decide) r.2⟩) (Cert.Reference7Ideal.Value.run m ρ)
theorem frame_reference8 : Cert.quiescent_Reference8Ideal := fun m ρ _ =>
  (θ_run Cert.Reference8Ideal.defs _ _).mono (fun r h => ⟨fun c => (h c).2.2.2.2, sem_eq_zero_of_no_sems (by decide) r.2⟩) (Cert.Reference8Ideal.Value.run m ρ)
theorem frame_reference9 : Cert.quiescent_Reference9Ideal := fun m ρ _ =>
  (θ_run Cert.Reference9Ideal.defs _ _).mono (fun r h => ⟨fun c => (h c).2.2.2.2, sem_eq_zero_of_no_sems (by decide) r.2⟩) (Cert.Reference9Ideal.Value.run m ρ)
theorem frame_reference10 : Cert.quiescent_Reference10Ideal := fun m ρ _ =>
  (θ_run Cert.Reference10Ideal.defs _ _).mono (fun r h => ⟨fun c => (h c).2.2.2.2, sem_eq_zero_of_no_sems (by decide) r.2⟩) (Cert.Reference10Ideal.Value.run m ρ)
theorem frame_reference11 : Cert.quiescent_Reference11Ideal := fun m ρ _ =>
  (θ_run Cert.Reference11Ideal.defs _ _).mono (fun r h => ⟨fun c => (h c).2.2.2.2, sem_eq_zero_of_no_sems (by decide) r.2⟩) (Cert.Reference11Ideal.Value.run m ρ)
theorem frame_reference12 : Cert.quiescent_Reference12Ideal := fun m ρ _ =>
  (θ_run Cert.Reference12Ideal.defs _ _).mono (fun r h => ⟨fun c => (h c).2.2.2.2, sem_eq_zero_of_no_sems (by decide) r.2⟩) (Cert.Reference12Ideal.Value.run m ρ)
theorem frame_reference13 : Cert.quiescent_Reference13Ideal := fun m ρ _ =>
  (θ_run Cert.Reference13Ideal.defs _ _).mono (fun r h => ⟨fun c => (h c).2.2.2.2, sem_eq_zero_of_no_sems (by decide) r.2⟩) (Cert.Reference13Ideal.Value.run m ρ)
theorem frame_reference14 : Cert.quiescent_Reference14Ideal := fun m ρ _ =>
  (θ_run Cert.Reference14Ideal.defs _ _).mono (fun r h => ⟨fun c => (h c).2.2.2, sem_eq_zero_of_no_sems (by decide) r.2⟩) (Cert.Reference14Ideal.Value.run m ρ)
theorem frame_reference15 : Cert.quiescent_Reference15Ideal := fun m ρ _ =>
  (θ_run Cert.Reference15Ideal.defs _ _).mono (fun r h => ⟨fun c => (h c).2, sem_eq_zero_of_no_sems (by decide) r.2⟩) (Cert.Reference15Ideal.Value.run m ρ)
theorem frame_reference16 : Cert.quiescent_Reference16Ideal := fun m ρ _ =>
  (θ_run Cert.Reference16Ideal.defs _ _).mono (fun r h => ⟨fun c => (h c).2, sem_eq_zero_of_no_sems (by decide) r.2⟩) (Cert.Reference16Ideal.Value.run m ρ)
theorem frame_reference17 : Cert.quiescent_Reference17Ideal := fun m ρ _ =>
  (θ_run Cert.Reference17Ideal.defs _ _).mono (fun r h => ⟨fun c => (h c).2.2.2, sem_eq_zero_of_no_sems (by decide) r.2⟩) (Cert.Reference17Ideal.Value.run m ρ)
theorem frame_reference18 : Cert.quiescent_Reference18Ideal := fun m ρ _ =>
  (θ_run Cert.Reference18Ideal.defs _ _).mono (fun r h => ⟨fun c => (h c).2.2, sem_eq_zero_of_no_sems (by decide) r.2⟩) (Cert.Reference18Ideal.Value.run m ρ)
theorem frame_reference19 : Cert.quiescent_Reference19Ideal := fun m ρ _ =>
  (θ_run Cert.Reference19Ideal.defs _ _).mono (fun r h => ⟨fun c => (h c).2, sem_eq_zero_of_no_sems (by decide) r.2⟩) (Cert.Reference19Ideal.Value.run m ρ)
theorem frame_reference20 : Cert.quiescent_Reference20Ideal := fun m ρ _ =>
  (θ_run Cert.Reference20Ideal.defs _ _).mono (fun r h => ⟨fun c => (h c).2, sem_eq_zero_of_no_sems (by decide) r.2⟩) (Cert.Reference20Ideal.Value.run m ρ)
theorem frame_reference21 : Cert.quiescent_Reference21Ideal := fun m ρ _ =>
  (θ_run Cert.Reference21Ideal.defs _ _).mono (fun r h => ⟨fun c => (h c).2, sem_eq_zero_of_no_sems (by decide) r.2⟩) (Cert.Reference21Ideal.Value.run m ρ)
theorem frame_reference22 : Cert.quiescent_Reference22Ideal := fun m ρ _ =>
  (θ_run Cert.Reference22Ideal.defs _ _).mono (fun r h => ⟨fun c => (h c).2, sem_eq_zero_of_no_sems (by decide) r.2⟩) (Cert.Reference22Ideal.Value.run m ρ)
theorem frame_reference23 : Cert.quiescent_Reference23Ideal := fun m ρ _ =>
  (θ_run Cert.Reference23Ideal.defs _ _).mono (fun r h => ⟨fun c => (h c).2.2, sem_eq_zero_of_no_sems (by decide) r.2⟩) (Cert.Reference23Ideal.Value.run m ρ)
theorem frame_reference24 : Cert.quiescent_Reference24Ideal := fun m ρ _ =>
  (θ_run Cert.Reference24Ideal.defs _ _).mono (fun r h => ⟨fun c => (h c).2, sem_eq_zero_of_no_sems (by decide) r.2⟩) (Cert.Reference24Ideal.Value.run m ρ)

theorem claim : Cert.Claim :=
  ⟨Cert.Kernel.Gen.facts,
   Cert.KernelIdeal.Gen.facts,
   Cert.ReferenceIdeal.Gen.facts,
   Cert.Kernel2.Gen.facts,
   Cert.Kernel2Ideal.Gen.facts,
   Cert.Reference2Ideal.Gen.facts,
   Cert.Kernel3.Gen.facts,
   Cert.Kernel3Ideal.Gen.facts,
   Cert.Reference3Ideal.Gen.facts,
   Cert.Kernel4.Gen.facts,
   Cert.Kernel4Ideal.Gen.facts,
   Cert.Reference4Ideal.Gen.facts,
   Cert.Kernel5.Gen.facts,
   Cert.Kernel5Ideal.Gen.facts,
   Cert.Reference5Ideal.Gen.facts,
   Cert.Kernel6.Gen.facts,
   Cert.Kernel6Ideal.Gen.facts,
   Cert.Reference6Ideal.Gen.facts,
   Cert.Kernel7.Gen.facts,
   Cert.Kernel7Ideal.Gen.facts,
   Cert.Reference7Ideal.Gen.facts,
   Cert.Kernel8.Gen.facts,
   Cert.Kernel8Ideal.Gen.facts,
   Cert.Reference8Ideal.Gen.facts,
   Cert.Kernel9.Gen.facts,
   Cert.Kernel9Ideal.Gen.facts,
   Cert.Reference9Ideal.Gen.facts,
   Cert.Kernel10.Gen.facts,
   Cert.Kernel10Ideal.Gen.facts,
   Cert.Reference10Ideal.Gen.facts,
   Cert.Kernel11.Gen.facts,
   Cert.Kernel11Ideal.Gen.facts,
   Cert.Reference11Ideal.Gen.facts,
   Cert.Kernel12.Gen.facts,
   Cert.Kernel12Ideal.Gen.facts,
   Cert.Reference12Ideal.Gen.facts,
   Cert.Kernel13.Gen.facts,
   Cert.Kernel13Ideal.Gen.facts,
   Cert.Reference13Ideal.Gen.facts,
   Cert.Kernel14.Gen.facts,
   Cert.Kernel14Ideal.Gen.facts,
   Cert.Reference14Ideal.Gen.facts,
   Cert.Kernel15.Gen.facts,
   Cert.Kernel15Ideal.Gen.facts,
   Cert.Reference15Ideal.Gen.facts,
   Cert.Kernel16.Gen.facts,
   Cert.Kernel16Ideal.Gen.facts,
   Cert.Reference16Ideal.Gen.facts,
   Cert.Kernel17.Gen.facts,
   Cert.Kernel17Ideal.Gen.facts,
   Cert.Reference17Ideal.Gen.facts,
   Cert.Kernel18.Gen.facts,
   Cert.Kernel18Ideal.Gen.facts,
   Cert.Reference18Ideal.Gen.facts,
   Cert.Kernel19.Gen.facts,
   Cert.Kernel19Ideal.Gen.facts,
   Cert.Reference19Ideal.Gen.facts,
   Cert.Kernel20.Gen.facts,
   Cert.Kernel20Ideal.Gen.facts,
   Cert.Reference20Ideal.Gen.facts,
   Cert.Kernel21.Gen.facts,
   Cert.Kernel21Ideal.Gen.facts,
   Cert.Reference21Ideal.Gen.facts,
   Cert.Kernel22.Gen.facts,
   Cert.Kernel22Ideal.Gen.facts,
   Cert.Reference22Ideal.Gen.facts,
   Cert.Kernel23.Gen.facts,
   Cert.Kernel23Ideal.Gen.facts,
   Cert.Reference23Ideal.Gen.facts,
   Cert.Kernel24.Gen.facts,
   Cert.Kernel24Ideal.Gen.facts,
   Cert.Reference24Ideal.Gen.facts,
   Cert.Gate.preFacts,
   fun m ρ _ => Cert.Kernel.Gen.frame m ρ,
   fun m ρ _ => Cert.KernelIdeal.Gen.frame m ρ,
   fun m ρ _ => Cert.KernelIdeal.Gen.frame m ρ,
   frame_reference,
   fun m ρ _ => frame_reference m ρ trivial,
   fun m ρ _ => Cert.Kernel2.Gen.frame m ρ,
   fun m ρ _ => Cert.Kernel2Ideal.Gen.frame m ρ,
   frame_reference2,
   fun m ρ _ => Cert.Kernel3.Gen.frame m ρ,
   fun m ρ _ => Cert.Kernel3Ideal.Gen.frame m ρ,
   frame_reference3,
   fun m ρ _ => Cert.Kernel4.Gen.frame m ρ,
   fun m ρ _ => Cert.Kernel4Ideal.Gen.frame m ρ,
   frame_reference4,
   fun m ρ _ => Cert.Kernel5.Gen.frame m ρ,
   fun m ρ _ => Cert.Kernel5Ideal.Gen.frame m ρ,
   frame_reference5,
   fun m ρ _ => Cert.Kernel6.Gen.frame m ρ,
   fun m ρ _ => Cert.Kernel6Ideal.Gen.frame m ρ,
   frame_reference6,
   fun m ρ _ => Cert.Kernel7.Gen.frame m ρ,
   fun m ρ _ => Cert.Kernel7Ideal.Gen.frame m ρ,
   frame_reference7,
   fun m ρ _ => Cert.Kernel8.Gen.frame m ρ,
   fun m ρ _ => Cert.Kernel8Ideal.Gen.frame m ρ,
   frame_reference8,
   fun m ρ _ => Cert.Kernel9.Gen.frame m ρ,
   fun m ρ _ => Cert.Kernel9Ideal.Gen.frame m ρ,
   frame_reference9,
   fun m ρ _ => Cert.Kernel10.Gen.frame m ρ,
   fun m ρ _ => Cert.Kernel10Ideal.Gen.frame m ρ,
   frame_reference10,
   fun m ρ _ => Cert.Kernel11.Gen.frame m ρ,
   fun m ρ _ => Cert.Kernel11Ideal.Gen.frame m ρ,
   frame_reference11,
   fun m ρ _ => Cert.Kernel12.Gen.frame m ρ,
   fun m ρ _ => Cert.Kernel12Ideal.Gen.frame m ρ,
   frame_reference12,
   fun m ρ _ => Cert.Kernel13.Gen.frame m ρ,
   fun m ρ _ => Cert.Kernel13Ideal.Gen.frame m ρ,
   frame_reference13,
   fun m ρ _ => Cert.Kernel14.Gen.frame m ρ,
   fun m ρ _ => Cert.Kernel14Ideal.Gen.frame m ρ,
   frame_reference14,
   fun m ρ _ => Cert.Kernel15.Gen.frame m ρ,
   fun m ρ _ => Cert.Kernel15Ideal.Gen.frame m ρ,
   frame_reference15,
   fun m ρ _ => Cert.Kernel16.Gen.frame m ρ,
   fun m ρ _ => Cert.Kernel16Ideal.Gen.frame m ρ,
   frame_reference16,
   fun m ρ _ => Cert.Kernel17.Gen.frame m ρ,
   fun m ρ _ => Cert.Kernel17Ideal.Gen.frame m ρ,
   frame_reference17,
   fun m ρ _ => Cert.Kernel18.Gen.frame m ρ,
   fun m ρ _ => Cert.Kernel18Ideal.Gen.frame m ρ,
   frame_reference18,
   fun m ρ _ => Cert.Kernel19.Gen.frame m ρ,
   fun m ρ _ => Cert.Kernel19Ideal.Gen.frame m ρ,
   frame_reference19,
   fun m ρ _ => Cert.Kernel20.Gen.frame m ρ,
   fun m ρ _ => Cert.Kernel20Ideal.Gen.frame m ρ,
   frame_reference20,
   fun m ρ _ => Cert.Kernel21.Gen.frame m ρ,
   fun m ρ _ => Cert.Kernel21Ideal.Gen.frame m ρ,
   frame_reference21,
   fun m ρ _ => Cert.Kernel22.Gen.frame m ρ,
   fun m ρ _ => Cert.Kernel22Ideal.Gen.frame m ρ,
   frame_reference22,
   fun m ρ _ => Cert.Kernel23.Gen.frame m ρ,
   fun m ρ _ => Cert.Kernel23Ideal.Gen.frame m ρ,
   frame_reference23,
   Cert.LossTotal.quiet,
   Cert.LossTotal.quietIdeal,
   frame_reference24,
   trivial,
   Cert.Gate.alg,
   trivial,
   Cert.Dw2.alg,
   trivial,
   Cert.Dw1.alg,
   trivial,
   Cert.Dhn.alg,
   trivial,
   Cert.Down.alg,
   trivial,
   Cert.Proj.alg,
   trivial,
   Cert.UpRetIn.alg,
   trivial,
   Cert.UpRetOut.alg,
   trivial,
   Cert.UpAbIn.alg,
   trivial,
   Cert.UpAbOut.alg,
   trivial,
   Cert.UpGlu.alg,
   trivial,
   Cert.UpFfn1.alg,
   trivial,
   Cert.UpFfn2.alg,
   trivial,
   Cert.UpSmall.alg,
   trivial,
   Cert.SumEarly.alg,
   trivial,
   Cert.SumLate.alg,
   trivial,
   Cert.LossHead.alg,
   trivial,
   Cert.MixOut.alg,
   trivial,
   Cert.Dro.alg,
   trivial,
   Cert.DwOut.alg,
   trivial,
   Cert.DwinQ.alg,
   trivial,
   Cert.DwinV.alg,
   trivial,
   Cert.RetDh.alg,
   trivial,
   Cert.LossTotal.alg⟩

end Cert.Proof

end
